-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v204)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v204) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v558) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S8x128x128x96 : Shape := ⟨4, ![8, 128, 128, 96]⟩
abbrev S8x64x64x192 : Shape := ⟨4, ![8, 64, 64, 192]⟩
abbrev S8x32x32x384 : Shape := ⟨4, ![8, 32, 32, 384]⟩
abbrev S8x16x16x768 : Shape := ⟨4, ![8, 16, 16, 768]⟩
abbrev S3x3x96x8 : Shape := ⟨4, ![3, 3, 96, 8]⟩
abbrev S8 : Shape := ⟨1, ![8]⟩
abbrev S3x3x96x16 : Shape := ⟨4, ![3, 3, 96, 16]⟩
abbrev S16 : Shape := ⟨1, ![16]⟩
abbrev S3x3x192x8 : Shape := ⟨4, ![3, 3, 192, 8]⟩
abbrev S3x3x192x16 : Shape := ⟨4, ![3, 3, 192, 16]⟩
abbrev S3x3x384x8 : Shape := ⟨4, ![3, 3, 384, 8]⟩
abbrev S3x3x384x16 : Shape := ⟨4, ![3, 3, 384, 16]⟩
abbrev S3x3x768x8 : Shape := ⟨4, ![3, 3, 768, 8]⟩
abbrev S3x3x768x16 : Shape := ⟨4, ![3, 3, 768, 16]⟩
abbrev S_ : Shape := ⟨0, ![]⟩

class Facts : Prop where
  bcast_S_S8x128x128x96 : S_.BroadcastsInDim S8x128x128x96 (![] : Fin 0 → Fin S8x128x128x96.rank)
  reducesTo_S8x128x128x96_S_d0_1_2_3 : S8x128x128x96.ReducesTo [0, 1, 2, 3] S_
  h_S_ : 0 < S_.numel
  bcast_S_S8x64x64x192 : S_.BroadcastsInDim S8x64x64x192 (![] : Fin 0 → Fin S8x64x64x192.rank)
  reducesTo_S8x64x64x192_S_d0_1_2_3 : S8x64x64x192.ReducesTo [0, 1, 2, 3] S_
  bcast_S_S8x32x32x384 : S_.BroadcastsInDim S8x32x32x384 (![] : Fin 0 → Fin S8x32x32x384.rank)
  reducesTo_S8x32x32x384_S_d0_1_2_3 : S8x32x32x384.ReducesTo [0, 1, 2, 3] S_
  bcast_S_S8x16x16x768 : S_.BroadcastsInDim S8x16x16x768 (![] : Fin 0 → Fin S8x16x16x768.rank)
  reducesTo_S8x16x16x768_S_d0_1_2_3 : S8x16x16x768.ReducesTo [0, 1, 2, 3] S_
  bcast_S_S3x3x96x8 : S_.BroadcastsInDim S3x3x96x8 (![] : Fin 0 → Fin S3x3x96x8.rank)
  reducesTo_S3x3x96x8_S_d0_1_2_3 : S3x3x96x8.ReducesTo [0, 1, 2, 3] S_
  bcast_S_S3x3x192x8 : S_.BroadcastsInDim S3x3x192x8 (![] : Fin 0 → Fin S3x3x192x8.rank)
  reducesTo_S3x3x192x8_S_d0_1_2_3 : S3x3x192x8.ReducesTo [0, 1, 2, 3] S_
  bcast_S_S3x3x384x8 : S_.BroadcastsInDim S3x3x384x8 (![] : Fin 0 → Fin S3x3x384x8.rank)
  reducesTo_S3x3x384x8_S_d0_1_2_3 : S3x3x384x8.ReducesTo [0, 1, 2, 3] S_
  bcast_S_S3x3x768x8 : S_.BroadcastsInDim S3x3x768x8 (![] : Fin 0 → Fin S3x3x768x8.rank)
  reducesTo_S3x3x768x8_S_d0_1_2_3 : S3x3x768x8.ReducesTo [0, 1, 2, 3] S_
  bcast_S_S8 : S_.BroadcastsInDim S8 (![] : Fin 0 → Fin S8.rank)
  reducesTo_S8_S_d0 : S8.ReducesTo [0] S_

variable [Facts]

def fn_part3 {F : FTy → Type} [FloatOps F] (main_arg17 : FVec F S8 .f32) (main_v49 : IVec S_ 1) (main_v50 : FVec F S8 .f32) : IVec S_ 1 :=
  let main_cst_19 : FVec F S_ .f32 := constant S_ .f32 0x7F800000#32
  let main_v51 : FVec F S8 .f32 := broadcastInDim S8 ![] bcast_S_S8 main_cst_19
  let main_v52 : IVec S8 1 := cmpf .olt main_v50 main_v51
  let main_c_20 : IVec S_ 1 := constantI S_ 1 1#1
  let main_v53 : IVec S_ 1 := (fun x v => Host.reduce IntOp.andi x v reducesTo_S8_S_d0 h_S_) main_v52 main_c_20
  let main_v54 : IVec S_ 1 := andi main_v49 main_v53
  let main_v55 : FVec F S8 .f32 := Host.absf main_arg17
  let main_cst_21 : FVec F S_ .f32 := constant S_ .f32 0x7F800000#32
  let main_v56 : FVec F S8 .f32 := broadcastInDim S8 ![] bcast_S_S8 main_cst_21
  let main_v57 : IVec S8 1 := cmpf .olt main_v55 main_v56
  let main_c_22 : IVec S_ 1 := constantI S_ 1 1#1
  let main_v58 : IVec S_ 1 := (fun x v => Host.reduce IntOp.andi x v reducesTo_S8_S_d0 h_S_) main_v57 main_c_22
  let main_v59 : IVec S_ 1 := andi main_v54 main_v58
  main_v59

def fn_part2 {F : FTy → Type} [FloatOps F] (main_arg5 : FVec F S8 .f32) (main_arg9 : FVec F S8 .f32) (main_arg13 : FVec F S8 .f32) (main_arg16 : FVec F S3x3x768x8 .f32) (main_arg17 : FVec F S8 .f32) (main_v29 : IVec S_ 1) (main_v32 : IVec S3x3x384x8 1) (main_c_12 : IVec S_ 1) : IVec S_ 1 :=
  let main_v33 : IVec S_ 1 := (fun x v => Host.reduce IntOp.andi x v reducesTo_S3x3x384x8_S_d0_1_2_3 h_S_) main_v32 main_c_12
  let main_v34 : IVec S_ 1 := andi main_v29 main_v33
  let main_v35 : FVec F S3x3x768x8 .f32 := Host.absf main_arg16
  let main_cst_13 : FVec F S_ .f32 := constant S_ .f32 0x7F800000#32
  let main_v36 : FVec F S3x3x768x8 .f32 := broadcastInDim S3x3x768x8 ![] bcast_S_S3x3x768x8 main_cst_13
  let main_v37 : IVec S3x3x768x8 1 := cmpf .olt main_v35 main_v36
  let main_c_14 : IVec S_ 1 := constantI S_ 1 1#1
  let main_v38 : IVec S_ 1 := (fun x v => Host.reduce IntOp.andi x v reducesTo_S3x3x768x8_S_d0_1_2_3 h_S_) main_v37 main_c_14
  let main_v39 : IVec S_ 1 := andi main_v34 main_v38
  let main_v40 : FVec F S8 .f32 := Host.absf main_arg5
  let main_cst_15 : FVec F S_ .f32 := constant S_ .f32 0x7F800000#32
  let main_v41 : FVec F S8 .f32 := broadcastInDim S8 ![] bcast_S_S8 main_cst_15
  let main_v42 : IVec S8 1 := cmpf .olt main_v40 main_v41
  let main_c_16 : IVec S_ 1 := constantI S_ 1 1#1
  let main_v43 : IVec S_ 1 := (fun x v => Host.reduce IntOp.andi x v reducesTo_S8_S_d0 h_S_) main_v42 main_c_16
  let main_v44 : IVec S_ 1 := andi main_v39 main_v43
  let main_v45 : FVec F S8 .f32 := Host.absf main_arg9
  let main_cst_17 : FVec F S_ .f32 := constant S_ .f32 0x7F800000#32
  let main_v46 : FVec F S8 .f32 := broadcastInDim S8 ![] bcast_S_S8 main_cst_17
  let main_v47 : IVec S8 1 := cmpf .olt main_v45 main_v46
  let main_c_18 : IVec S_ 1 := constantI S_ 1 1#1
  let main_v48 : IVec S_ 1 := (fun x v => Host.reduce IntOp.andi x v reducesTo_S8_S_d0 h_S_) main_v47 main_c_18
  let main_v49 : IVec S_ 1 := andi main_v44 main_v48
  let main_v50 : FVec F S8 .f32 := Host.absf main_arg13
  fn_part3 (F := F) main_arg17 main_v49 main_v50

def fn_part1 {F : FTy → Type} [FloatOps F] (main_arg4 : FVec F S3x3x96x8 .f32) (main_arg5 : FVec F S8 .f32) (main_arg8 : FVec F S3x3x192x8 .f32) (main_arg9 : FVec F S8 .f32) (main_arg12 : FVec F S3x3x384x8 .f32) (main_arg13 : FVec F S8 .f32) (main_arg16 : FVec F S3x3x768x8 .f32) (main_arg17 : FVec F S8 .f32) (main_v14 : IVec S_ 1) (main_v15 : FVec F S8x16x16x768 .f32) (main_cst_5 : FVec F S_ .f32) : IVec S_ 1 :=
  let main_v16 : FVec F S8x16x16x768 .f32 := broadcastInDim S8x16x16x768 ![] bcast_S_S8x16x16x768 main_cst_5
  let main_v17 : IVec S8x16x16x768 1 := cmpf .olt main_v15 main_v16
  let main_c_6 : IVec S_ 1 := constantI S_ 1 1#1
  let main_v18 : IVec S_ 1 := (fun x v => Host.reduce IntOp.andi x v reducesTo_S8x16x16x768_S_d0_1_2_3 h_S_) main_v17 main_c_6
  let main_v19 : IVec S_ 1 := andi main_v14 main_v18
  let main_v20 : FVec F S3x3x96x8 .f32 := Host.absf main_arg4
  let main_cst_7 : FVec F S_ .f32 := constant S_ .f32 0x7F800000#32
  let main_v21 : FVec F S3x3x96x8 .f32 := broadcastInDim S3x3x96x8 ![] bcast_S_S3x3x96x8 main_cst_7
  let main_v22 : IVec S3x3x96x8 1 := cmpf .olt main_v20 main_v21
  let main_c_8 : IVec S_ 1 := constantI S_ 1 1#1
  let main_v23 : IVec S_ 1 := (fun x v => Host.reduce IntOp.andi x v reducesTo_S3x3x96x8_S_d0_1_2_3 h_S_) main_v22 main_c_8
  let main_v24 : IVec S_ 1 := andi main_v19 main_v23
  let main_v25 : FVec F S3x3x192x8 .f32 := Host.absf main_arg8
  let main_cst_9 : FVec F S_ .f32 := constant S_ .f32 0x7F800000#32
  let main_v26 : FVec F S3x3x192x8 .f32 := broadcastInDim S3x3x192x8 ![] bcast_S_S3x3x192x8 main_cst_9
  let main_v27 : IVec S3x3x192x8 1 := cmpf .olt main_v25 main_v26
  let main_c_10 : IVec S_ 1 := constantI S_ 1 1#1
  let main_v28 : IVec S_ 1 := (fun x v => Host.reduce IntOp.andi x v reducesTo_S3x3x192x8_S_d0_1_2_3 h_S_) main_v27 main_c_10
  let main_v29 : IVec S_ 1 := andi main_v24 main_v28
  let main_v30 : FVec F S3x3x384x8 .f32 := Host.absf main_arg12
  let main_cst_11 : FVec F S_ .f32 := constant S_ .f32 0x7F800000#32
  let main_v31 : FVec F S3x3x384x8 .f32 := broadcastInDim S3x3x384x8 ![] bcast_S_S3x3x384x8 main_cst_11
  let main_v32 : IVec S3x3x384x8 1 := cmpf .olt main_v30 main_v31
  let main_c_12 : IVec S_ 1 := constantI S_ 1 1#1
  fn_part2 (F := F) main_arg5 main_arg9 main_arg13 main_arg16 main_arg17 main_v29 main_v32 main_c_12

def fn {F : FTy → Type} [FloatOps F] (main_arg0 : FVec F S8x128x128x96 .f32) (main_arg1 : FVec F S8x64x64x192 .f32) (main_arg2 : FVec F S8x32x32x384 .f32) (main_arg3 : FVec F S8x16x16x768 .f32) (main_arg4 : FVec F S3x3x96x8 .f32) (main_arg5 : FVec F S8 .f32) (main_arg6 : FVec F S3x3x96x16 .f32) (main_arg7 : FVec F S16 .f32) (main_arg8 : FVec F S3x3x192x8 .f32) (main_arg9 : FVec F S8 .f32) (main_arg10 : FVec F S3x3x192x16 .f32) (main_arg11 : FVec F S16 .f32) (main_arg12 : FVec F S3x3x384x8 .f32) (main_arg13 : FVec F S8 .f32) (main_arg14 : FVec F S3x3x384x16 .f32) (main_arg15 : FVec F S16 .f32) (main_arg16 : FVec F S3x3x768x8 .f32) (main_arg17 : FVec F S8 .f32) (main_arg18 : FVec F S3x3x768x16 .f32) (main_arg19 : FVec F S16 .f32) : IVec S_ 1 :=
  let main_v0 : FVec F S8x128x128x96 .f32 := Host.absf main_arg0
  let main_cst : FVec F S_ .f32 := constant S_ .f32 0x7F800000#32
  let main_v1 : FVec F S8x128x128x96 .f32 := broadcastInDim S8x128x128x96 ![] bcast_S_S8x128x128x96 main_cst
  let main_v2 : IVec S8x128x128x96 1 := cmpf .olt main_v0 main_v1
  let main_c : IVec S_ 1 := constantI S_ 1 1#1
  let main_v3 : IVec S_ 1 := (fun x v => Host.reduce IntOp.andi x v reducesTo_S8x128x128x96_S_d0_1_2_3 h_S_) main_v2 main_c
  let main_c_0 : IVec S_ 1 := constantI S_ 1 1#1
  let main_v4 : IVec S_ 1 := andi main_c_0 main_v3
  let main_v5 : FVec F S8x64x64x192 .f32 := Host.absf main_arg1
  let main_cst_1 : FVec F S_ .f32 := constant S_ .f32 0x7F800000#32
  let main_v6 : FVec F S8x64x64x192 .f32 := broadcastInDim S8x64x64x192 ![] bcast_S_S8x64x64x192 main_cst_1
  let main_v7 : IVec S8x64x64x192 1 := cmpf .olt main_v5 main_v6
  let main_c_2 : IVec S_ 1 := constantI S_ 1 1#1
  let main_v8 : IVec S_ 1 := (fun x v => Host.reduce IntOp.andi x v reducesTo_S8x64x64x192_S_d0_1_2_3 h_S_) main_v7 main_c_2
  let main_v9 : IVec S_ 1 := andi main_v4 main_v8
  let main_v10 : FVec F S8x32x32x384 .f32 := Host.absf main_arg2
  let main_cst_3 : FVec F S_ .f32 := constant S_ .f32 0x7F800000#32
  let main_v11 : FVec F S8x32x32x384 .f32 := broadcastInDim S8x32x32x384 ![] bcast_S_S8x32x32x384 main_cst_3
  let main_v12 : IVec S8x32x32x384 1 := cmpf .olt main_v10 main_v11
  let main_c_4 : IVec S_ 1 := constantI S_ 1 1#1
  let main_v13 : IVec S_ 1 := (fun x v => Host.reduce IntOp.andi x v reducesTo_S8x32x32x384_S_d0_1_2_3 h_S_) main_v12 main_c_4
  let main_v14 : IVec S_ 1 := andi main_v9 main_v13
  let main_v15 : FVec F S8x16x16x768 .f32 := Host.absf main_arg3
  let main_cst_5 : FVec F S_ .f32 := constant S_ .f32 0x7F800000#32
  fn_part1 (F := F) main_arg4 main_arg5 main_arg8 main_arg9 main_arg12 main_arg13 main_arg16 main_arg17 main_v14 main_v15 main_cst_5
-- ==== Kernel.lean ====
abbrev S8x128x128x96 : Shape := ⟨4, ![8, 128, 128, 96]⟩
abbrev S8x64x64x192 : Shape := ⟨4, ![8, 64, 64, 192]⟩
abbrev S8x32x32x384 : Shape := ⟨4, ![8, 32, 32, 384]⟩
abbrev S8x16x16x768 : Shape := ⟨4, ![8, 16, 16, 768]⟩
abbrev S3x3x96x8 : Shape := ⟨4, ![3, 3, 96, 8]⟩
abbrev S8 : Shape := ⟨1, ![8]⟩
abbrev S3x3x96x16 : Shape := ⟨4, ![3, 3, 96, 16]⟩
abbrev S16 : Shape := ⟨1, ![16]⟩
abbrev S3x3x192x8 : Shape := ⟨4, ![3, 3, 192, 8]⟩
abbrev S3x3x192x16 : Shape := ⟨4, ![3, 3, 192, 16]⟩
abbrev S3x3x384x8 : Shape := ⟨4, ![3, 3, 384, 8]⟩
abbrev S3x3x384x16 : Shape := ⟨4, ![3, 3, 384, 16]⟩
abbrev S3x3x768x8 : Shape := ⟨4, ![3, 3, 768, 8]⟩
abbrev S3x3x768x16 : Shape := ⟨4, ![3, 3, 768, 16]⟩
abbrev S4x56 : Shape := ⟨2, ![4, 56]⟩
abbrev S1x1x96x8 : Shape := ⟨4, ![1, 1, 96, 8]⟩
abbrev S96x8 : Shape := ⟨2, ![96, 8]⟩
abbrev S1x1x96x16 : Shape := ⟨4, ![1, 1, 96, 16]⟩
abbrev S96x16 : Shape := ⟨2, ![96, 16]⟩
abbrev S96x192 : Shape := ⟨2, ![96, 192]⟩
abbrev S96x24 : Shape := ⟨2, ![96, 24]⟩
abbrev S96x216 : Shape := ⟨2, ![96, 216]⟩
abbrev S216x96 : Shape := ⟨2, ![216, 96]⟩
abbrev S1x1x192x8 : Shape := ⟨4, ![1, 1, 192, 8]⟩
abbrev S192x8 : Shape := ⟨2, ![192, 8]⟩
abbrev S1x1x192x16 : Shape := ⟨4, ![1, 1, 192, 16]⟩
abbrev S192x16 : Shape := ⟨2, ![192, 16]⟩
abbrev S192x192 : Shape := ⟨2, ![192, 192]⟩
abbrev S192x24 : Shape := ⟨2, ![192, 24]⟩
abbrev S192x216 : Shape := ⟨2, ![192, 216]⟩
abbrev S216x192 : Shape := ⟨2, ![216, 192]⟩
abbrev S1x1x384x8 : Shape := ⟨4, ![1, 1, 384, 8]⟩
abbrev S384x8 : Shape := ⟨2, ![384, 8]⟩
abbrev S1x1x384x16 : Shape := ⟨4, ![1, 1, 384, 16]⟩
abbrev S384x16 : Shape := ⟨2, ![384, 16]⟩
abbrev S384x192 : Shape := ⟨2, ![384, 192]⟩
abbrev S384x24 : Shape := ⟨2, ![384, 24]⟩
abbrev S384x216 : Shape := ⟨2, ![384, 216]⟩
abbrev S216x384 : Shape := ⟨2, ![216, 384]⟩
abbrev S1x1x768x8 : Shape := ⟨4, ![1, 1, 768, 8]⟩
abbrev S768x8 : Shape := ⟨2, ![768, 8]⟩
abbrev S1x1x768x16 : Shape := ⟨4, ![1, 1, 768, 16]⟩
abbrev S768x16 : Shape := ⟨2, ![768, 16]⟩
abbrev S768x192 : Shape := ⟨2, ![768, 192]⟩
abbrev S768x24 : Shape := ⟨2, ![768, 24]⟩
abbrev S768x216 : Shape := ⟨2, ![768, 216]⟩
abbrev S216x768 : Shape := ⟨2, ![216, 768]⟩
abbrev S_ : Shape := ⟨0, ![]⟩
abbrev S32x8 : Shape := ⟨2, ![32, 8]⟩
abbrev S1 : Shape := ⟨1, ![1]⟩
abbrev S2 : Shape := ⟨1, ![2]⟩
abbrev S64x8 : Shape := ⟨2, ![64, 8]⟩
abbrev S56x4 : Shape := ⟨2, ![56, 4]⟩
abbrev S8x21760x56 : Shape := ⟨3, ![8, 21760, 56]⟩
abbrev S1x128x128x96 : Shape := ⟨4, ![1, 128, 128, 96]⟩
abbrev S1x64x64x192 : Shape := ⟨4, ![1, 64, 64, 192]⟩
abbrev S1x32x32x384 : Shape := ⟨4, ![1, 32, 32, 384]⟩
abbrev S1x16x16x768 : Shape := ⟨4, ![1, 16, 16, 768]⟩
abbrev S1x4096x56 : Shape := ⟨3, ![1, 4096, 56]⟩
abbrev S1x33x128x96 : Shape := ⟨4, ![1, 33, 128, 96]⟩
abbrev S33x128x96 : Shape := ⟨3, ![33, 128, 96]⟩
abbrev S4224x96 : Shape := ⟨2, ![4224, 96]⟩
abbrev S216x4224 : Shape := ⟨2, ![216, 4224]⟩
abbrev S1x4096 : Shape := ⟨2, ![1, 4096]⟩
abbrev S24x1 : Shape := ⟨2, ![24, 1]⟩
abbrev S24x4096 : Shape := ⟨2, ![24, 4096]⟩
abbrev S24x4224 : Shape := ⟨2, ![24, 4224]⟩
abbrev S24x129 : Shape := ⟨2, ![24, 129]⟩
abbrev S24x4095 : Shape := ⟨2, ![24, 4095]⟩
abbrev S24x128 : Shape := ⟨2, ![24, 128]⟩
abbrev S24x127 : Shape := ⟨2, ![24, 127]⟩
abbrev S24x4097 : Shape := ⟨2, ![24, 4097]⟩
abbrev S24x4223 : Shape := ⟨2, ![24, 4223]⟩
abbrev S8x4096 : Shape := ⟨2, ![8, 4096]⟩
abbrev S7x4096 : Shape := ⟨2, ![7, 4096]⟩
abbrev S2x4096 : Shape := ⟨2, ![2, 4096]⟩
abbrev S4x4096 : Shape := ⟨2, ![4, 4096]⟩
abbrev S6x1 : Shape := ⟨2, ![6, 1]⟩
abbrev S6x4096 : Shape := ⟨2, ![6, 4096]⟩
abbrev S56x4096 : Shape := ⟨2, ![56, 4096]⟩
abbrev S4096x56 : Shape := ⟨2, ![4096, 56]⟩
abbrev S1x34x128x96 : Shape := ⟨4, ![1, 34, 128, 96]⟩
abbrev S34x128x96 : Shape := ⟨3, ![34, 128, 96]⟩
abbrev S4352x96 : Shape := ⟨2, ![4352, 96]⟩
abbrev S216x4352 : Shape := ⟨2, ![216, 4352]⟩
abbrev S24x4352 : Shape := ⟨2, ![24, 4352]⟩
abbrev S24x4351 : Shape := ⟨2, ![24, 4351]⟩
abbrev S24x257 : Shape := ⟨2, ![24, 257]⟩
abbrev S24x3969 : Shape := ⟨2, ![24, 3969]⟩
abbrev S24x255 : Shape := ⟨2, ![24, 255]⟩
abbrev S24x3968 : Shape := ⟨2, ![24, 3968]⟩
abbrev S24x256 : Shape := ⟨2, ![24, 256]⟩
abbrev S24x3967 : Shape := ⟨2, ![24, 3967]⟩
abbrev S64x64x192 : Shape := ⟨3, ![64, 64, 192]⟩
abbrev S4096x192 : Shape := ⟨2, ![4096, 192]⟩
abbrev S216x4096 : Shape := ⟨2, ![216, 4096]⟩
abbrev S24x65 : Shape := ⟨2, ![24, 65]⟩
abbrev S24x4031 : Shape := ⟨2, ![24, 4031]⟩
abbrev S24x64 : Shape := ⟨2, ![24, 64]⟩
abbrev S24x4032 : Shape := ⟨2, ![24, 4032]⟩
abbrev S24x63 : Shape := ⟨2, ![24, 63]⟩
abbrev S24x4033 : Shape := ⟨2, ![24, 4033]⟩
abbrev S32x32x384 : Shape := ⟨3, ![32, 32, 384]⟩
abbrev S1024x384 : Shape := ⟨2, ![1024, 384]⟩
abbrev S216x1024 : Shape := ⟨2, ![216, 1024]⟩
abbrev S1x1024 : Shape := ⟨2, ![1, 1024]⟩
abbrev S24x1024 : Shape := ⟨2, ![24, 1024]⟩
abbrev S24x33 : Shape := ⟨2, ![24, 33]⟩
abbrev S24x991 : Shape := ⟨2, ![24, 991]⟩
abbrev S24x32 : Shape := ⟨2, ![24, 32]⟩
abbrev S24x992 : Shape := ⟨2, ![24, 992]⟩
abbrev S24x31 : Shape := ⟨2, ![24, 31]⟩
abbrev S24x993 : Shape := ⟨2, ![24, 993]⟩
abbrev S24x1023 : Shape := ⟨2, ![24, 1023]⟩
abbrev S8x1024 : Shape := ⟨2, ![8, 1024]⟩
abbrev S7x1024 : Shape := ⟨2, ![7, 1024]⟩
abbrev S2x1024 : Shape := ⟨2, ![2, 1024]⟩
abbrev S4x1024 : Shape := ⟨2, ![4, 1024]⟩
abbrev S6x1024 : Shape := ⟨2, ![6, 1024]⟩
abbrev S56x1024 : Shape := ⟨2, ![56, 1024]⟩
abbrev S1024x56 : Shape := ⟨2, ![1024, 56]⟩
abbrev S1x1024x56 : Shape := ⟨3, ![1, 1024, 56]⟩
abbrev S16x16x768 : Shape := ⟨3, ![16, 16, 768]⟩
abbrev S256x768 : Shape := ⟨2, ![256, 768]⟩
abbrev S216x256 : Shape := ⟨2, ![216, 256]⟩
abbrev S1x256 : Shape := ⟨2, ![1, 256]⟩
abbrev S24x17 : Shape := ⟨2, ![24, 17]⟩
abbrev S24x239 : Shape := ⟨2, ![24, 239]⟩
abbrev S24x16 : Shape := ⟨2, ![24, 16]⟩
abbrev S24x240 : Shape := ⟨2, ![24, 240]⟩
abbrev S24x15 : Shape := ⟨2, ![24, 15]⟩
abbrev S24x241 : Shape := ⟨2, ![24, 241]⟩
abbrev S8x256 : Shape := ⟨2, ![8, 256]⟩
abbrev S7x256 : Shape := ⟨2, ![7, 256]⟩
abbrev S2x256 : Shape := ⟨2, ![2, 256]⟩
abbrev S4x256 : Shape := ⟨2, ![4, 256]⟩
abbrev S6x256 : Shape := ⟨2, ![6, 256]⟩
abbrev S56x256 : Shape := ⟨2, ![56, 256]⟩
abbrev S256x56 : Shape := ⟨2, ![256, 56]⟩
abbrev S1x256x56 : Shape := ⟨3, ![1, 256, 56]⟩
abbrev S8x87040x14 : Shape := ⟨3, ![8, 87040, 14]⟩

abbrev nBuf : Space → Nat
  | .hbm => 246
  | .vmem => 16
  | .smem => 0
  | _ => 0

abbrev hbmTy0_0 (i : Nat) : BufTy := match i % 128 with
  | 0 => ⟨S8x128x128x96, .f32⟩
  | 1 => ⟨S8x64x64x192, .f32⟩
  | 2 => ⟨S8x32x32x384, .f32⟩
  | 3 => ⟨S8x16x16x768, .f32⟩
  | 4 => ⟨S3x3x96x8, .f32⟩
  | 5 => ⟨S8, .f32⟩
  | 6 => ⟨S3x3x96x16, .f32⟩
  | 7 => ⟨S16, .f32⟩
  | 8 => ⟨S3x3x192x8, .f32⟩
  | 9 => ⟨S8, .f32⟩
  | 10 => ⟨S3x3x192x16, .f32⟩
  | 11 => ⟨S16, .f32⟩
  | 12 => ⟨S3x3x384x8, .f32⟩
  | 13 => ⟨S8, .f32⟩
  | 14 => ⟨S3x3x384x16, .f32⟩
  | 15 => ⟨S16, .f32⟩
  | 16 => ⟨S3x3x768x8, .f32⟩
  | 17 => ⟨S8, .f32⟩
  | 18 => ⟨S3x3x768x16, .f32⟩
  | 19 => ⟨S16, .f32⟩
  | 20 => ⟨S4x56, .f32⟩
  | 21 => ⟨S1x1x96x8, .f32⟩
  | 22 => ⟨S96x8, .f32⟩
  | 23 => ⟨S1x1x96x16, .f32⟩
  | 24 => ⟨S96x16, .f32⟩
  | 25 => ⟨S1x1x96x8, .f32⟩
  | 26 => ⟨S96x8, .f32⟩
  | 27 => ⟨S1x1x96x16, .f32⟩
  | 28 => ⟨S96x16, .f32⟩
  | 29 => ⟨S1x1x96x8, .f32⟩
  | 30 => ⟨S96x8, .f32⟩
  | 31 => ⟨S1x1x96x16, .f32⟩
  | 32 => ⟨S96x16, .f32⟩
  | 33 => ⟨S1x1x96x8, .f32⟩
  | 34 => ⟨S96x8, .f32⟩
  | 35 => ⟨S1x1x96x16, .f32⟩
  | 36 => ⟨S96x16, .f32⟩
  | 37 => ⟨S1x1x96x8, .f32⟩
  | 38 => ⟨S96x8, .f32⟩
  | 39 => ⟨S1x1x96x16, .f32⟩
  | 40 => ⟨S96x16, .f32⟩
  | 41 => ⟨S1x1x96x8, .f32⟩
  | 42 => ⟨S96x8, .f32⟩
  | 43 => ⟨S1x1x96x16, .f32⟩
  | 44 => ⟨S96x16, .f32⟩
  | 45 => ⟨S1x1x96x8, .f32⟩
  | 46 => ⟨S96x8, .f32⟩
  | 47 => ⟨S1x1x96x16, .f32⟩
  | 48 => ⟨S96x16, .f32⟩
  | 49 => ⟨S1x1x96x8, .f32⟩
  | 50 => ⟨S96x8, .f32⟩
  | 51 => ⟨S1x1x96x16, .f32⟩
  | 52 => ⟨S96x16, .f32⟩
  | 53 => ⟨S1x1x96x8, .f32⟩
  | 54 => ⟨S96x8, .f32⟩
  | 55 => ⟨S1x1x96x16, .f32⟩
  | 56 => ⟨S96x16, .f32⟩
  | 57 => ⟨S96x192, .f32⟩
  | 58 => ⟨S96x24, .f32⟩
  | 59 => ⟨S96x216, .f32⟩
  | 60 => ⟨S216x96, .f32⟩
  | 61 => ⟨S216x96, .bf16⟩
  | 62 => ⟨S1x1x192x8, .f32⟩
  | 63 => ⟨S192x8, .f32⟩
  | 64 => ⟨S1x1x192x16, .f32⟩
  | 65 => ⟨S192x16, .f32⟩
  | 66 => ⟨S1x1x192x8, .f32⟩
  | 67 => ⟨S192x8, .f32⟩
  | 68 => ⟨S1x1x192x16, .f32⟩
  | 69 => ⟨S192x16, .f32⟩
  | 70 => ⟨S1x1x192x8, .f32⟩
  | 71 => ⟨S192x8, .f32⟩
  | 72 => ⟨S1x1x192x16, .f32⟩
  | 73 => ⟨S192x16, .f32⟩
  | 74 => ⟨S1x1x192x8, .f32⟩
  | 75 => ⟨S192x8, .f32⟩
  | 76 => ⟨S1x1x192x16, .f32⟩
  | 77 => ⟨S192x16, .f32⟩
  | 78 => ⟨S1x1x192x8, .f32⟩
  | 79 => ⟨S192x8, .f32⟩
  | 80 => ⟨S1x1x192x16, .f32⟩
  | 81 => ⟨S192x16, .f32⟩
  | 82 => ⟨S1x1x192x8, .f32⟩
  | 83 => ⟨S192x8, .f32⟩
  | 84 => ⟨S1x1x192x16, .f32⟩
  | 85 => ⟨S192x16, .f32⟩
  | 86 => ⟨S1x1x192x8, .f32⟩
  | 87 => ⟨S192x8, .f32⟩
  | 88 => ⟨S1x1x192x16, .f32⟩
  | 89 => ⟨S192x16, .f32⟩
  | 90 => ⟨S1x1x192x8, .f32⟩
  | 91 => ⟨S192x8, .f32⟩
  | 92 => ⟨S1x1x192x16, .f32⟩
  | 93 => ⟨S192x16, .f32⟩
  | 94 => ⟨S1x1x192x8, .f32⟩
  | 95 => ⟨S192x8, .f32⟩
  | 96 => ⟨S1x1x192x16, .f32⟩
  | 97 => ⟨S192x16, .f32⟩
  | 98 => ⟨S192x192, .f32⟩
  | 99 => ⟨S192x24, .f32⟩
  | 100 => ⟨S192x216, .f32⟩
  | 101 => ⟨S216x192, .f32⟩
  | 102 => ⟨S216x192, .bf16⟩
  | 103 => ⟨S1x1x384x8, .f32⟩
  | 104 => ⟨S384x8, .f32⟩
  | 105 => ⟨S1x1x384x16, .f32⟩
  | 106 => ⟨S384x16, .f32⟩
  | 107 => ⟨S1x1x384x8, .f32⟩
  | 108 => ⟨S384x8, .f32⟩
  | 109 => ⟨S1x1x384x16, .f32⟩
  | 110 => ⟨S384x16, .f32⟩
  | 111 => ⟨S1x1x384x8, .f32⟩
  | 112 => ⟨S384x8, .f32⟩
  | 113 => ⟨S1x1x384x16, .f32⟩
  | 114 => ⟨S384x16, .f32⟩
  | 115 => ⟨S1x1x384x8, .f32⟩
  | 116 => ⟨S384x8, .f32⟩
  | 117 => ⟨S1x1x384x16, .f32⟩
  | 118 => ⟨S384x16, .f32⟩
  | 119 => ⟨S1x1x384x8, .f32⟩
  | 120 => ⟨S384x8, .f32⟩
  | 121 => ⟨S1x1x384x16, .f32⟩
  | 122 => ⟨S384x16, .f32⟩
  | 123 => ⟨S1x1x384x8, .f32⟩
  | 124 => ⟨S384x8, .f32⟩
  | 125 => ⟨S1x1x384x16, .f32⟩
  | 126 => ⟨S384x16, .f32⟩
  | 127 => ⟨S1x1x384x8, .f32⟩
  | _ => ⟨S8x128x128x96, .f32⟩

abbrev hbmTy0_1 (i : Nat) : BufTy := match i % 128 with
  | 0 => ⟨S384x8, .f32⟩
  | 1 => ⟨S1x1x384x16, .f32⟩
  | 2 => ⟨S384x16, .f32⟩
  | 3 => ⟨S1x1x384x8, .f32⟩
  | 4 => ⟨S384x8, .f32⟩
  | 5 => ⟨S1x1x384x16, .f32⟩
  | 6 => ⟨S384x16, .f32⟩
  | 7 => ⟨S1x1x384x8, .f32⟩
  | 8 => ⟨S384x8, .f32⟩
  | 9 => ⟨S1x1x384x16, .f32⟩
  | 10 => ⟨S384x16, .f32⟩
  | 11 => ⟨S384x192, .f32⟩
  | 12 => ⟨S384x24, .f32⟩
  | 13 => ⟨S384x216, .f32⟩
  | 14 => ⟨S216x384, .f32⟩
  | 15 => ⟨S216x384, .bf16⟩
  | 16 => ⟨S1x1x768x8, .f32⟩
  | 17 => ⟨S768x8, .f32⟩
  | 18 => ⟨S1x1x768x16, .f32⟩
  | 19 => ⟨S768x16, .f32⟩
  | 20 => ⟨S1x1x768x8, .f32⟩
  | 21 => ⟨S768x8, .f32⟩
  | 22 => ⟨S1x1x768x16, .f32⟩
  | 23 => ⟨S768x16, .f32⟩
  | 24 => ⟨S1x1x768x8, .f32⟩
  | 25 => ⟨S768x8, .f32⟩
  | 26 => ⟨S1x1x768x16, .f32⟩
  | 27 => ⟨S768x16, .f32⟩
  | 28 => ⟨S1x1x768x8, .f32⟩
  | 29 => ⟨S768x8, .f32⟩
  | 30 => ⟨S1x1x768x16, .f32⟩
  | 31 => ⟨S768x16, .f32⟩
  | 32 => ⟨S1x1x768x8, .f32⟩
  | 33 => ⟨S768x8, .f32⟩
  | 34 => ⟨S1x1x768x16, .f32⟩
  | 35 => ⟨S768x16, .f32⟩
  | 36 => ⟨S1x1x768x8, .f32⟩
  | 37 => ⟨S768x8, .f32⟩
  | 38 => ⟨S1x1x768x16, .f32⟩
  | 39 => ⟨S768x16, .f32⟩
  | 40 => ⟨S1x1x768x8, .f32⟩
  | 41 => ⟨S768x8, .f32⟩
  | 42 => ⟨S1x1x768x16, .f32⟩
  | 43 => ⟨S768x16, .f32⟩
  | 44 => ⟨S1x1x768x8, .f32⟩
  | 45 => ⟨S768x8, .f32⟩
  | 46 => ⟨S1x1x768x16, .f32⟩
  | 47 => ⟨S768x16, .f32⟩
  | 48 => ⟨S1x1x768x8, .f32⟩
  | 49 => ⟨S768x8, .f32⟩
  | 50 => ⟨S1x1x768x16, .f32⟩
  | 51 => ⟨S768x16, .f32⟩
  | 52 => ⟨S768x192, .f32⟩
  | 53 => ⟨S768x24, .f32⟩
  | 54 => ⟨S768x216, .f32⟩
  | 55 => ⟨S216x768, .f32⟩
  | 56 => ⟨S216x768, .bf16⟩
  | 57 => ⟨S_, .f32⟩
  | 58 => ⟨S32x8, .f32⟩
  | 59 => ⟨S_, .i32⟩
  | 60 => ⟨S1, .i32⟩
  | 61 => ⟨S_, .i32⟩
  | 62 => ⟨S1, .i32⟩
  | 63 => ⟨S2, .i32⟩
  | 64 => ⟨S32x8, .f32⟩
  | 65 => ⟨S_, .i32⟩
  | 66 => ⟨S1, .i32⟩
  | 67 => ⟨S_, .i32⟩
  | 68 => ⟨S1, .i32⟩
  | 69 => ⟨S2, .i32⟩
  | 70 => ⟨S32x8, .f32⟩
  | 71 => ⟨S_, .i32⟩
  | 72 => ⟨S1, .i32⟩
  | 73 => ⟨S_, .i32⟩
  | 74 => ⟨S1, .i32⟩
  | 75 => ⟨S2, .i32⟩
  | 76 => ⟨S32x8, .f32⟩
  | 77 => ⟨S_, .i32⟩
  | 78 => ⟨S1, .i32⟩
  | 79 => ⟨S_, .i32⟩
  | 80 => ⟨S1, .i32⟩
  | 81 => ⟨S2, .i32⟩
  | 82 => ⟨S32x8, .f32⟩
  | 83 => ⟨S_, .i32⟩
  | 84 => ⟨S1, .i32⟩
  | 85 => ⟨S_, .i32⟩
  | 86 => ⟨S1, .i32⟩
  | 87 => ⟨S2, .i32⟩
  | 88 => ⟨S32x8, .f32⟩
  | 89 => ⟨S_, .i32⟩
  | 90 => ⟨S1, .i32⟩
  | 91 => ⟨S_, .i32⟩
  | 92 => ⟨S1, .i32⟩
  | 93 => ⟨S2, .i32⟩
  | 94 => ⟨S32x8, .f32⟩
  | 95 => ⟨S_, .i32⟩
  | 96 => ⟨S1, .i32⟩
  | 97 => ⟨S_, .i32⟩
  | 98 => ⟨S1, .i32⟩
  | 99 => ⟨S2, .i32⟩
  | 100 => ⟨S32x8, .f32⟩
  | 101 => ⟨S_, .i32⟩
  | 102 => ⟨S1, .i32⟩
  | 103 => ⟨S_, .i32⟩
  | 104 => ⟨S1, .i32⟩
  | 105 => ⟨S2, .i32⟩
  | 106 => ⟨S32x8, .f32⟩
  | 107 => ⟨S_, .f32⟩
  | 108 => ⟨S64x8, .f32⟩
  | 109 => ⟨S56x4, .f32⟩
  | 110 => ⟨S_, .i32⟩
  | 111 => ⟨S1, .i32⟩
  | 112 => ⟨S_, .i32⟩
  | 113 => ⟨S1, .i32⟩
  | 114 => ⟨S2, .i32⟩
  | 115 => ⟨S64x8, .f32⟩
  | 116 => ⟨S8x21760x56, .f32⟩
  | 117 => ⟨S8x87040x14, .f32⟩
  | _ => ⟨S8x128x128x96, .f32⟩

abbrev hbmTy (i : Nat) : BufTy := match i / 128 with
  | 0 => hbmTy0_0 i
  | 1 => hbmTy0_1 i
  | _ => ⟨S8x128x128x96, .f32⟩

abbrev bufTy : (tb : Table) → Fin (tcTables nBuf tb) → BufTy
  | .hbm, ⟨i, _⟩ => hbmTy i
  | .local _ .vmem, ⟨0, _⟩ => ⟨S1x128x128x96, .f32⟩
  | .local _ .vmem, ⟨1, _⟩ => ⟨S1x128x128x96, .f32⟩
  | .local _ .vmem, ⟨2, _⟩ => ⟨S1x64x64x192, .f32⟩
  | .local _ .vmem, ⟨3, _⟩ => ⟨S1x64x64x192, .f32⟩
  | .local _ .vmem, ⟨4, _⟩ => ⟨S1x32x32x384, .f32⟩
  | .local _ .vmem, ⟨5, _⟩ => ⟨S1x32x32x384, .f32⟩
  | .local _ .vmem, ⟨6, _⟩ => ⟨S1x16x16x768, .f32⟩
  | .local _ .vmem, ⟨7, _⟩ => ⟨S1x16x16x768, .f32⟩
  | .local _ .vmem, ⟨8, _⟩ => ⟨S216x96, .bf16⟩
  | .local _ .vmem, ⟨9, _⟩ => ⟨S216x192, .bf16⟩
  | .local _ .vmem, ⟨10, _⟩ => ⟨S216x384, .bf16⟩
  | .local _ .vmem, ⟨11, _⟩ => ⟨S216x768, .bf16⟩
  | .local _ .vmem, ⟨12, _⟩ => ⟨S32x8, .f32⟩
  | .local _ .vmem, ⟨13, _⟩ => ⟨S64x8, .f32⟩
  | .local _ .vmem, ⟨14, _⟩ => ⟨S1x4096x56, .f32⟩
  | .local _ .vmem, ⟨15, _⟩ => ⟨S1x4096x56, .f32⟩
  | _, _ => ⟨S8x128x128x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_cst_0 : Ref sig .tc := ⟨.hbm, 185, rfl⟩
abbrev main_v164 : Ref sig .tc := ⟨.hbm, 186, rfl⟩
abbrev main_c : Ref sig .tc := ⟨.hbm, 187, rfl⟩
abbrev main_v165 : Ref sig .tc := ⟨.hbm, 188, rfl⟩
abbrev main_c_1 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_c_2 : Ref sig .tc := ⟨.hbm, 193, rfl⟩
abbrev main_v169 : Ref sig .tc := ⟨.hbm, 194, rfl⟩
abbrev main_c_3 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_c_4 : Ref sig .tc := ⟨.hbm, 199, rfl⟩
abbrev main_v173 : Ref sig .tc := ⟨.hbm, 200, rfl⟩
abbrev main_c_5 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_c_6 : Ref sig .tc := ⟨.hbm, 205, rfl⟩
abbrev main_v177 : Ref sig .tc := ⟨.hbm, 206, rfl⟩
abbrev main_c_7 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_c_8 : Ref sig .tc := ⟨.hbm, 211, rfl⟩
abbrev main_v181 : Ref sig .tc := ⟨.hbm, 212, rfl⟩
abbrev main_c_9 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_c_10 : Ref sig .tc := ⟨.hbm, 217, rfl⟩
abbrev main_v185 : Ref sig .tc := ⟨.hbm, 218, rfl⟩
abbrev main_c_11 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_c_12 : Ref sig .tc := ⟨.hbm, 223, rfl⟩
abbrev main_v189 : Ref sig .tc := ⟨.hbm, 224, rfl⟩
abbrev main_c_13 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_c_14 : Ref sig .tc := ⟨.hbm, 229, rfl⟩
abbrev main_v193 : Ref sig .tc := ⟨.hbm, 230, rfl⟩
abbrev main_c_15 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_cst_16 : Ref sig .tc := ⟨.hbm, 235, rfl⟩
abbrev main_v197 : Ref sig .tc := ⟨.hbm, 236, rfl⟩
abbrev main_v198 : Ref sig .tc := ⟨.hbm, 237, rfl⟩
abbrev main_c_17 : Ref sig .tc := ⟨.hbm, 238, rfl⟩
abbrev main_v199 : Ref sig .tc := ⟨.hbm, 239, rfl⟩
abbrev main_c_18 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_5 : BitVec 32 := 0#32
  let v12 : BitVec 1 := Scalar.cmpi .ne v11 c0_i32_5
  v12

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_6 : BitVec 32 := 0#32
  let v15 : BitVec 1 := Scalar.cmpi .ne v14 c0_i32_6
  v15

def k0_cond5 (i : grid0.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def k0_cond6 (i : grid0.Coords) : BitVec 1 :=
  let arg1 : BitVec 32 := BitVec.ofNat 32 (i 1).val
  let c5_i32 : BitVec 32 := 5#32
  let v19 : BitVec 1 := Scalar.cmpi .eq arg1 c5_i32
  let v20 : BitVec 32 := Scalar.extui v19
  let c0_i32_8 : BitVec 32 := 0#32
  let v21 : BitVec 1 := Scalar.cmpi .ne v20 c0_i32_8
  v21

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .sgt arg1 c3_i32
  let v1 : BitVec 32 := Scalar.extui v0
  let v2 : BitVec 32 := Scalar.addi arg0 v1
  let c7_i32 : BitVec 32 := 7#32
  let v3 : BitVec 32 := Scalar.minsi v2 c7_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sgt arg1 c4_i32
  let v1 : BitVec 32 := Scalar.extui v0
  let v2 : BitVec 32 := Scalar.addi arg0 v1
  let c7_i32 : BitVec 32 := 7#32
  let v3 : BitVec 32 := Scalar.minsi v2 c7_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 1 := Scalar.cmpi .sgt arg1 c5_i32
  let v1 : BitVec 32 := Scalar.extui v0
  let v2 : BitVec 32 := Scalar.addi arg0 v1
  let c7_i32 : BitVec 32 := 7#32
  let v3 : BitVec 32 := Scalar.minsi v2 c7_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 1 := Scalar.cmpi .sgt arg1 c5_i32
  let v1 : BitVec 32 := Scalar.extui v0
  let v2 : BitVec 32 := Scalar.addi arg0 v1
  let c7_i32 : BitVec 32 := 7#32
  let v3 : BitVec 32 := Scalar.minsi v2 c7_i32
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x32x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S216x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S216x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S216x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S216x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4096x56 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x128x128x96 : Shape := ⟨4, ![8, 128, 128, 96]⟩
abbrev S8x64x64x192 : Shape := ⟨4, ![8, 64, 64, 192]⟩
abbrev S8x32x32x384 : Shape := ⟨4, ![8, 32, 32, 384]⟩
abbrev S8x16x16x768 : Shape := ⟨4, ![8, 16, 16, 768]⟩
abbrev S3x3x96x8 : Shape := ⟨4, ![3, 3, 96, 8]⟩
abbrev S8 : Shape := ⟨1, ![8]⟩
abbrev S3x3x96x16 : Shape := ⟨4, ![3, 3, 96, 16]⟩
abbrev S16 : Shape := ⟨1, ![16]⟩
abbrev S3x3x192x8 : Shape := ⟨4, ![3, 3, 192, 8]⟩
abbrev S3x3x192x16 : Shape := ⟨4, ![3, 3, 192, 16]⟩
abbrev S3x3x384x8 : Shape := ⟨4, ![3, 3, 384, 8]⟩
abbrev S3x3x384x16 : Shape := ⟨4, ![3, 3, 384, 16]⟩
abbrev S3x3x768x8 : Shape := ⟨4, ![3, 3, 768, 8]⟩
abbrev S3x3x768x16 : Shape := ⟨4, ![3, 3, 768, 16]⟩
abbrev S4x6 : Shape := ⟨2, ![4, 6]⟩
abbrev S128 : Shape := ⟨1, ![128]⟩
abbrev S_ : Shape := ⟨0, ![]⟩
abbrev S1x128x1x1 : Shape := ⟨4, ![1, 128, 1, 1]⟩
abbrev S128x128x4x1 : Shape := ⟨4, ![128, 128, 4, 1]⟩
abbrev S128x1x1x1 : Shape := ⟨4, ![128, 1, 1, 1]⟩
abbrev S1x1x4x6 : Shape := ⟨4, ![1, 1, 4, 6]⟩
abbrev S128x128x4x6 : Shape := ⟨4, ![128, 128, 4, 6]⟩
abbrev S128x128x4x8 : Shape := ⟨4, ![128, 128, 4, 8]⟩
abbrev S65536x8 : Shape := ⟨2, ![65536, 8]⟩
abbrev S1x65536x8 : Shape := ⟨3, ![1, 65536, 8]⟩
abbrev S8x65536x8 : Shape := ⟨3, ![8, 65536, 8]⟩
abbrev S64 : Shape := ⟨1, ![64]⟩
abbrev S1x64x1x1 : Shape := ⟨4, ![1, 64, 1, 1]⟩
abbrev S64x64x4x1 : Shape := ⟨4, ![64, 64, 4, 1]⟩
abbrev S64x1x1x1 : Shape := ⟨4, ![64, 1, 1, 1]⟩
abbrev S64x64x4x6 : Shape := ⟨4, ![64, 64, 4, 6]⟩
abbrev S64x64x4x8 : Shape := ⟨4, ![64, 64, 4, 8]⟩
abbrev S16384x8 : Shape := ⟨2, ![16384, 8]⟩
abbrev S1x16384x8 : Shape := ⟨3, ![1, 16384, 8]⟩
abbrev S8x16384x8 : Shape := ⟨3, ![8, 16384, 8]⟩
abbrev S32 : Shape := ⟨1, ![32]⟩
abbrev S1x32x1x1 : Shape := ⟨4, ![1, 32, 1, 1]⟩
abbrev S32x32x4x1 : Shape := ⟨4, ![32, 32, 4, 1]⟩
abbrev S32x1x1x1 : Shape := ⟨4, ![32, 1, 1, 1]⟩
abbrev S32x32x4x6 : Shape := ⟨4, ![32, 32, 4, 6]⟩
abbrev S32x32x4x8 : Shape := ⟨4, ![32, 32, 4, 8]⟩
abbrev S4096x8 : Shape := ⟨2, ![4096, 8]⟩
abbrev S1x4096x8 : Shape := ⟨3, ![1, 4096, 8]⟩
abbrev S8x4096x8 : Shape := ⟨3, ![8, 4096, 8]⟩
abbrev S1x16x1x1 : Shape := ⟨4, ![1, 16, 1, 1]⟩
abbrev S16x16x4x1 : Shape := ⟨4, ![16, 16, 4, 1]⟩
abbrev S16x1x1x1 : Shape := ⟨4, ![16, 1, 1, 1]⟩
abbrev S16x16x4x6 : Shape := ⟨4, ![16, 16, 4, 6]⟩
abbrev S16x16x4x8 : Shape := ⟨4, ![16, 16, 4, 8]⟩
abbrev S1024x8 : Shape := ⟨2, ![1024, 8]⟩
abbrev S1x1024x8 : Shape := ⟨3, ![1, 1024, 8]⟩
abbrev S8x1024x8 : Shape := ⟨3, ![8, 1024, 8]⟩
abbrev S8x87040x8 : Shape := ⟨3, ![8, 87040, 8]⟩
abbrev S8x130x130x96 : Shape := ⟨4, ![8, 130, 130, 96]⟩
abbrev S9x96x8 : Shape := ⟨3, ![9, 96, 8]⟩
abbrev S8x16384x96 : Shape := ⟨3, ![8, 16384, 96]⟩
abbrev S1x96x8 : Shape := ⟨3, ![1, 96, 8]⟩
abbrev S96x8 : Shape := ⟨2, ![96, 8]⟩
abbrev S1x1x8 : Shape := ⟨3, ![1, 1, 8]⟩
abbrev S8x65536x2 : Shape := ⟨3, ![8, 65536, 2]⟩
abbrev S9x96x16 : Shape := ⟨3, ![9, 96, 16]⟩
abbrev S1x96x16 : Shape := ⟨3, ![1, 96, 16]⟩
abbrev S96x16 : Shape := ⟨2, ![96, 16]⟩
abbrev S8x16384x16 : Shape := ⟨3, ![8, 16384, 16]⟩
abbrev S1x1x16 : Shape := ⟨3, ![1, 1, 16]⟩
abbrev S8x65536x4 : Shape := ⟨3, ![8, 65536, 4]⟩
abbrev S8x66x66x192 : Shape := ⟨4, ![8, 66, 66, 192]⟩
abbrev S9x192x8 : Shape := ⟨3, ![9, 192, 8]⟩
abbrev S8x4096x192 : Shape := ⟨3, ![8, 4096, 192]⟩
abbrev S1x192x8 : Shape := ⟨3, ![1, 192, 8]⟩
abbrev S192x8 : Shape := ⟨2, ![192, 8]⟩
abbrev S8x16384x2 : Shape := ⟨3, ![8, 16384, 2]⟩
abbrev S9x192x16 : Shape := ⟨3, ![9, 192, 16]⟩
abbrev S1x192x16 : Shape := ⟨3, ![1, 192, 16]⟩
abbrev S192x16 : Shape := ⟨2, ![192, 16]⟩
abbrev S8x4096x16 : Shape := ⟨3, ![8, 4096, 16]⟩
abbrev S8x16384x4 : Shape := ⟨3, ![8, 16384, 4]⟩
abbrev S8x34x34x384 : Shape := ⟨4, ![8, 34, 34, 384]⟩
abbrev S9x384x8 : Shape := ⟨3, ![9, 384, 8]⟩
abbrev S8x1024x384 : Shape := ⟨3, ![8, 1024, 384]⟩
abbrev S1x384x8 : Shape := ⟨3, ![1, 384, 8]⟩
abbrev S384x8 : Shape := ⟨2, ![384, 8]⟩
abbrev S8x4096x2 : Shape := ⟨3, ![8, 4096, 2]⟩
abbrev S9x384x16 : Shape := ⟨3, ![9, 384, 16]⟩
abbrev S1x384x16 : Shape := ⟨3, ![1, 384, 16]⟩
abbrev S384x16 : Shape := ⟨2, ![384, 16]⟩
abbrev S8x1024x16 : Shape := ⟨3, ![8, 1024, 16]⟩
abbrev S8x4096x4 : Shape := ⟨3, ![8, 4096, 4]⟩
abbrev S8x18x18x768 : Shape := ⟨4, ![8, 18, 18, 768]⟩
abbrev S9x768x8 : Shape := ⟨3, ![9, 768, 8]⟩
abbrev S8x256x768 : Shape := ⟨3, ![8, 256, 768]⟩
abbrev S1x768x8 : Shape := ⟨3, ![1, 768, 8]⟩
abbrev S768x8 : Shape := ⟨2, ![768, 8]⟩
abbrev S8x256x8 : Shape := ⟨3, ![8, 256, 8]⟩
abbrev S8x1024x2 : Shape := ⟨3, ![8, 1024, 2]⟩
abbrev S9x768x16 : Shape := ⟨3, ![9, 768, 16]⟩
abbrev S1x768x16 : Shape := ⟨3, ![1, 768, 16]⟩
abbrev S768x16 : Shape := ⟨2, ![768, 16]⟩
abbrev S8x256x16 : Shape := ⟨3, ![8, 256, 16]⟩
abbrev S8x1024x4 : Shape := ⟨3, ![8, 1024, 4]⟩
abbrev S8x87040x2 : Shape := ⟨3, ![8, 87040, 2]⟩
abbrev S8x87040x4 : Shape := ⟨3, ![8, 87040, 4]⟩
abbrev S8x87040 : Shape := ⟨2, ![8, 87040]⟩
abbrev S8x87040x1 : Shape := ⟨3, ![8, 87040, 1]⟩
abbrev S8x87040x14 : Shape := ⟨3, ![8, 87040, 14]⟩

abbrev nBuf : Space → Nat
  | .hbm => 614
  | .vmem => 0
  | .smem => 0
  | _ => 0

abbrev hbmTy0_0 (i : Nat) : BufTy := match i % 128 with
  | 0 => ⟨S8x128x128x96, .f32⟩
  | 1 => ⟨S8x64x64x192, .f32⟩
  | 2 => ⟨S8x32x32x384, .f32⟩
  | 3 => ⟨S8x16x16x768, .f32⟩
  | 4 => ⟨S3x3x96x8, .f32⟩
  | 5 => ⟨S8, .f32⟩
  | 6 => ⟨S3x3x96x16, .f32⟩
  | 7 => ⟨S16, .f32⟩
  | 8 => ⟨S3x3x192x8, .f32⟩
  | 9 => ⟨S8, .f32⟩
  | 10 => ⟨S3x3x192x16, .f32⟩
  | 11 => ⟨S16, .f32⟩
  | 12 => ⟨S3x3x384x8, .f32⟩
  | 13 => ⟨S8, .f32⟩
  | 14 => ⟨S3x3x384x16, .f32⟩
  | 15 => ⟨S16, .f32⟩
  | 16 => ⟨S3x3x768x8, .f32⟩
  | 17 => ⟨S8, .f32⟩
  | 18 => ⟨S3x3x768x16, .f32⟩
  | 19 => ⟨S16, .f32⟩
  | 20 => ⟨S4x6, .f32⟩
  | 21 => ⟨S4x6, .f32⟩
  | 22 => ⟨S4x6, .f32⟩
  | 23 => ⟨S4x6, .f32⟩
  | 24 => ⟨S128, .i32⟩
  | 25 => ⟨S128, .f32⟩
  | 26 => ⟨S_, .f32⟩
  | 27 => ⟨S128, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S1x128x1x1, .f32⟩
  | 36 => ⟨S128x128x4x1, .f32⟩
  | 37 => ⟨S128x1x1x1, .f32⟩
  | 38 => ⟨S128x128x4x1, .f32⟩
  | 39 => ⟨S1x1x4x6, .f32⟩
  | 40 => ⟨S128x128x4x6, .f32⟩
  | 41 => ⟨S128x128x4x8, .f32⟩
  | 42 => ⟨S65536x8, .f32⟩
  | 43 => ⟨S1x65536x8, .f32⟩
  | 44 => ⟨S8x65536x8, .f32⟩
  | 45 => ⟨S64, .i32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S1x64x1x1, .f32⟩
  | 57 => ⟨S64x64x4x1, .f32⟩
  | 58 => ⟨S64x1x1x1, .f32⟩
  | 59 => ⟨S64x64x4x1, .f32⟩
  | 60 => ⟨S1x1x4x6, .f32⟩
  | 61 => ⟨S64x64x4x6, .f32⟩
  | 62 => ⟨S64x64x4x8, .f32⟩
  | 63 => ⟨S16384x8, .f32⟩
  | 64 => ⟨S1x16384x8, .f32⟩
  | 65 => ⟨S8x16384x8, .f32⟩
  | 66 => ⟨S32, .i32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S1x32x1x1, .f32⟩
  | 78 => ⟨S32x32x4x1, .f32⟩
  | 79 => ⟨S32x1x1x1, .f32⟩
  | 80 => ⟨S32x32x4x1, .f32⟩
  | 81 => ⟨S1x1x4x6, .f32⟩
  | 82 => ⟨S32x32x4x6, .f32⟩
  | 83 => ⟨S32x32x4x8, .f32⟩
  | 84 => ⟨S4096x8, .f32⟩
  | 85 => ⟨S1x4096x8, .f32⟩
  | 86 => ⟨S8x4096x8, .f32⟩
  | 87 => ⟨S16, .i32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S_, .f32⟩
  | 96 => ⟨S16, .f32⟩
  | 97 => ⟨S16, .f32⟩
  | 98 => ⟨S1x16x1x1, .f32⟩
  | 99 => ⟨S16x16x4x1, .f32⟩
  | 100 => ⟨S16x1x1x1, .f32⟩
  | 101 => ⟨S16x16x4x1, .f32⟩
  | 102 => ⟨S1x1x4x6, .f32⟩
  | 103 => ⟨S16x16x4x6, .f32⟩
  | 104 => ⟨S16x16x4x8, .f32⟩
  | 105 => ⟨S1024x8, .f32⟩
  | 106 => ⟨S1x1024x8, .f32⟩
  | 107 => ⟨S8x1024x8, .f32⟩
  | 108 => ⟨S8x87040x8, .f32⟩
  | 109 => ⟨S_, .i32⟩
  | 110 => ⟨S_, .f32⟩
  | 111 => ⟨S8x130x130x96, .f32⟩
  | 112 => ⟨S9x96x8, .f32⟩
  | 113 => ⟨S8x128x128x96, .f32⟩
  | 114 => ⟨S8x16384x96, .f32⟩
  | 115 => ⟨S1x96x8, .f32⟩
  | 116 => ⟨S96x8, .f32⟩
  | 117 => ⟨S8x16384x8, .f32⟩
  | 118 => ⟨S8x128x128x96, .f32⟩
  | 119 => ⟨S8x16384x96, .f32⟩
  | 120 => ⟨S1x96x8, .f32⟩
  | 121 => ⟨S96x8, .f32⟩
  | 122 => ⟨S8x16384x8, .f32⟩
  | 123 => ⟨S8x16384x8, .f32⟩
  | 124 => ⟨S8x128x128x96, .f32⟩
  | 125 => ⟨S8x16384x96, .f32⟩
  | 126 => ⟨S1x96x8, .f32⟩
  | 127 => ⟨S96x8, .f32⟩
  | _ => ⟨S8x128x128x96, .f32⟩

abbrev hbmTy0_1 (i : Nat) : BufTy := match i % 128 with
  | 0 => ⟨S8x16384x8, .f32⟩
  | 1 => ⟨S8x16384x8, .f32⟩
  | 2 => ⟨S8x128x128x96, .f32⟩
  | 3 => ⟨S8x16384x96, .f32⟩
  | 4 => ⟨S1x96x8, .f32⟩
  | 5 => ⟨S96x8, .f32⟩
  | 6 => ⟨S8x16384x8, .f32⟩
  | 7 => ⟨S8x16384x8, .f32⟩
  | 8 => ⟨S8x128x128x96, .f32⟩
  | 9 => ⟨S8x16384x96, .f32⟩
  | 10 => ⟨S1x96x8, .f32⟩
  | 11 => ⟨S96x8, .f32⟩
  | 12 => ⟨S8x16384x8, .f32⟩
  | 13 => ⟨S8x16384x8, .f32⟩
  | 14 => ⟨S8x128x128x96, .f32⟩
  | 15 => ⟨S8x16384x96, .f32⟩
  | 16 => ⟨S1x96x8, .f32⟩
  | 17 => ⟨S96x8, .f32⟩
  | 18 => ⟨S8x16384x8, .f32⟩
  | 19 => ⟨S8x16384x8, .f32⟩
  | 20 => ⟨S8x128x128x96, .f32⟩
  | 21 => ⟨S8x16384x96, .f32⟩
  | 22 => ⟨S1x96x8, .f32⟩
  | 23 => ⟨S96x8, .f32⟩
  | 24 => ⟨S8x16384x8, .f32⟩
  | 25 => ⟨S8x16384x8, .f32⟩
  | 26 => ⟨S8x128x128x96, .f32⟩
  | 27 => ⟨S8x16384x96, .f32⟩
  | 28 => ⟨S1x96x8, .f32⟩
  | 29 => ⟨S96x8, .f32⟩
  | 30 => ⟨S8x16384x8, .f32⟩
  | 31 => ⟨S8x16384x8, .f32⟩
  | 32 => ⟨S8x128x128x96, .f32⟩
  | 33 => ⟨S8x16384x96, .f32⟩
  | 34 => ⟨S1x96x8, .f32⟩
  | 35 => ⟨S96x8, .f32⟩
  | 36 => ⟨S8x16384x8, .f32⟩
  | 37 => ⟨S8x16384x8, .f32⟩
  | 38 => ⟨S1x1x8, .f32⟩
  | 39 => ⟨S8x16384x8, .f32⟩
  | 40 => ⟨S8x16384x8, .f32⟩
  | 41 => ⟨S8x65536x2, .f32⟩
  | 42 => ⟨S_, .i32⟩
  | 43 => ⟨S_, .f32⟩
  | 44 => ⟨S8x130x130x96, .f32⟩
  | 45 => ⟨S9x96x16, .f32⟩
  | 46 => ⟨S8x128x128x96, .f32⟩
  | 47 => ⟨S8x16384x96, .f32⟩
  | 48 => ⟨S1x96x16, .f32⟩
  | 49 => ⟨S96x16, .f32⟩
  | 50 => ⟨S8x16384x16, .f32⟩
  | 51 => ⟨S8x128x128x96, .f32⟩
  | 52 => ⟨S8x16384x96, .f32⟩
  | 53 => ⟨S1x96x16, .f32⟩
  | 54 => ⟨S96x16, .f32⟩
  | 55 => ⟨S8x16384x16, .f32⟩
  | 56 => ⟨S8x16384x16, .f32⟩
  | 57 => ⟨S8x128x128x96, .f32⟩
  | 58 => ⟨S8x16384x96, .f32⟩
  | 59 => ⟨S1x96x16, .f32⟩
  | 60 => ⟨S96x16, .f32⟩
  | 61 => ⟨S8x16384x16, .f32⟩
  | 62 => ⟨S8x16384x16, .f32⟩
  | 63 => ⟨S8x128x128x96, .f32⟩
  | 64 => ⟨S8x16384x96, .f32⟩
  | 65 => ⟨S1x96x16, .f32⟩
  | 66 => ⟨S96x16, .f32⟩
  | 67 => ⟨S8x16384x16, .f32⟩
  | 68 => ⟨S8x16384x16, .f32⟩
  | 69 => ⟨S8x128x128x96, .f32⟩
  | 70 => ⟨S8x16384x96, .f32⟩
  | 71 => ⟨S1x96x16, .f32⟩
  | 72 => ⟨S96x16, .f32⟩
  | 73 => ⟨S8x16384x16, .f32⟩
  | 74 => ⟨S8x16384x16, .f32⟩
  | 75 => ⟨S8x128x128x96, .f32⟩
  | 76 => ⟨S8x16384x96, .f32⟩
  | 77 => ⟨S1x96x16, .f32⟩
  | 78 => ⟨S96x16, .f32⟩
  | 79 => ⟨S8x16384x16, .f32⟩
  | 80 => ⟨S8x16384x16, .f32⟩
  | 81 => ⟨S8x128x128x96, .f32⟩
  | 82 => ⟨S8x16384x96, .f32⟩
  | 83 => ⟨S1x96x16, .f32⟩
  | 84 => ⟨S96x16, .f32⟩
  | 85 => ⟨S8x16384x16, .f32⟩
  | 86 => ⟨S8x16384x16, .f32⟩
  | 87 => ⟨S8x128x128x96, .f32⟩
  | 88 => ⟨S8x16384x96, .f32⟩
  | 89 => ⟨S1x96x16, .f32⟩
  | 90 => ⟨S96x16, .f32⟩
  | 91 => ⟨S8x16384x16, .f32⟩
  | 92 => ⟨S8x16384x16, .f32⟩
  | 93 => ⟨S8x128x128x96, .f32⟩
  | 94 => ⟨S8x16384x96, .f32⟩
  | 95 => ⟨S1x96x16, .f32⟩
  | 96 => ⟨S96x16, .f32⟩
  | 97 => ⟨S8x16384x16, .f32⟩
  | 98 => ⟨S8x16384x16, .f32⟩
  | 99 => ⟨S1x1x16, .f32⟩
  | 100 => ⟨S8x16384x16, .f32⟩
  | 101 => ⟨S8x16384x16, .f32⟩
  | 102 => ⟨S8x65536x4, .f32⟩
  | 103 => ⟨S_, .i32⟩
  | 104 => ⟨S_, .f32⟩
  | 105 => ⟨S8x66x66x192, .f32⟩
  | 106 => ⟨S9x192x8, .f32⟩
  | 107 => ⟨S8x64x64x192, .f32⟩
  | 108 => ⟨S8x4096x192, .f32⟩
  | 109 => ⟨S1x192x8, .f32⟩
  | 110 => ⟨S192x8, .f32⟩
  | 111 => ⟨S8x4096x8, .f32⟩
  | 112 => ⟨S8x64x64x192, .f32⟩
  | 113 => ⟨S8x4096x192, .f32⟩
  | 114 => ⟨S1x192x8, .f32⟩
  | 115 => ⟨S192x8, .f32⟩
  | 116 => ⟨S8x4096x8, .f32⟩
  | 117 => ⟨S8x4096x8, .f32⟩
  | 118 => ⟨S8x64x64x192, .f32⟩
  | 119 => ⟨S8x4096x192, .f32⟩
  | 120 => ⟨S1x192x8, .f32⟩
  | 121 => ⟨S192x8, .f32⟩
  | 122 => ⟨S8x4096x8, .f32⟩
  | 123 => ⟨S8x4096x8, .f32⟩
  | 124 => ⟨S8x64x64x192, .f32⟩
  | 125 => ⟨S8x4096x192, .f32⟩
  | 126 => ⟨S1x192x8, .f32⟩
  | 127 => ⟨S192x8, .f32⟩
  | _ => ⟨S8x128x128x96, .f32⟩

abbrev hbmTy0_2 (i : Nat) : BufTy := match i % 128 with
  | 0 => ⟨S8x4096x8, .f32⟩
  | 1 => ⟨S8x4096x8, .f32⟩
  | 2 => ⟨S8x64x64x192, .f32⟩
  | 3 => ⟨S8x4096x192, .f32⟩
  | 4 => ⟨S1x192x8, .f32⟩
  | 5 => ⟨S192x8, .f32⟩
  | 6 => ⟨S8x4096x8, .f32⟩
  | 7 => ⟨S8x4096x8, .f32⟩
  | 8 => ⟨S8x64x64x192, .f32⟩
  | 9 => ⟨S8x4096x192, .f32⟩
  | 10 => ⟨S1x192x8, .f32⟩
  | 11 => ⟨S192x8, .f32⟩
  | 12 => ⟨S8x4096x8, .f32⟩
  | 13 => ⟨S8x4096x8, .f32⟩
  | 14 => ⟨S8x64x64x192, .f32⟩
  | 15 => ⟨S8x4096x192, .f32⟩
  | 16 => ⟨S1x192x8, .f32⟩
  | 17 => ⟨S192x8, .f32⟩
  | 18 => ⟨S8x4096x8, .f32⟩
  | 19 => ⟨S8x4096x8, .f32⟩
  | 20 => ⟨S8x64x64x192, .f32⟩
  | 21 => ⟨S8x4096x192, .f32⟩
  | 22 => ⟨S1x192x8, .f32⟩
  | 23 => ⟨S192x8, .f32⟩
  | 24 => ⟨S8x4096x8, .f32⟩
  | 25 => ⟨S8x4096x8, .f32⟩
  | 26 => ⟨S8x64x64x192, .f32⟩
  | 27 => ⟨S8x4096x192, .f32⟩
  | 28 => ⟨S1x192x8, .f32⟩
  | 29 => ⟨S192x8, .f32⟩
  | 30 => ⟨S8x4096x8, .f32⟩
  | 31 => ⟨S8x4096x8, .f32⟩
  | 32 => ⟨S1x1x8, .f32⟩
  | 33 => ⟨S8x4096x8, .f32⟩
  | 34 => ⟨S8x4096x8, .f32⟩
  | 35 => ⟨S8x16384x2, .f32⟩
  | 36 => ⟨S_, .i32⟩
  | 37 => ⟨S_, .f32⟩
  | 38 => ⟨S8x66x66x192, .f32⟩
  | 39 => ⟨S9x192x16, .f32⟩
  | 40 => ⟨S8x64x64x192, .f32⟩
  | 41 => ⟨S8x4096x192, .f32⟩
  | 42 => ⟨S1x192x16, .f32⟩
  | 43 => ⟨S192x16, .f32⟩
  | 44 => ⟨S8x4096x16, .f32⟩
  | 45 => ⟨S8x64x64x192, .f32⟩
  | 46 => ⟨S8x4096x192, .f32⟩
  | 47 => ⟨S1x192x16, .f32⟩
  | 48 => ⟨S192x16, .f32⟩
  | 49 => ⟨S8x4096x16, .f32⟩
  | 50 => ⟨S8x4096x16, .f32⟩
  | 51 => ⟨S8x64x64x192, .f32⟩
  | 52 => ⟨S8x4096x192, .f32⟩
  | 53 => ⟨S1x192x16, .f32⟩
  | 54 => ⟨S192x16, .f32⟩
  | 55 => ⟨S8x4096x16, .f32⟩
  | 56 => ⟨S8x4096x16, .f32⟩
  | 57 => ⟨S8x64x64x192, .f32⟩
  | 58 => ⟨S8x4096x192, .f32⟩
  | 59 => ⟨S1x192x16, .f32⟩
  | 60 => ⟨S192x16, .f32⟩
  | 61 => ⟨S8x4096x16, .f32⟩
  | 62 => ⟨S8x4096x16, .f32⟩
  | 63 => ⟨S8x64x64x192, .f32⟩
  | 64 => ⟨S8x4096x192, .f32⟩
  | 65 => ⟨S1x192x16, .f32⟩
  | 66 => ⟨S192x16, .f32⟩
  | 67 => ⟨S8x4096x16, .f32⟩
  | 68 => ⟨S8x4096x16, .f32⟩
  | 69 => ⟨S8x64x64x192, .f32⟩
  | 70 => ⟨S8x4096x192, .f32⟩
  | 71 => ⟨S1x192x16, .f32⟩
  | 72 => ⟨S192x16, .f32⟩
  | 73 => ⟨S8x4096x16, .f32⟩
  | 74 => ⟨S8x4096x16, .f32⟩
  | 75 => ⟨S8x64x64x192, .f32⟩
  | 76 => ⟨S8x4096x192, .f32⟩
  | 77 => ⟨S1x192x16, .f32⟩
  | 78 => ⟨S192x16, .f32⟩
  | 79 => ⟨S8x4096x16, .f32⟩
  | 80 => ⟨S8x4096x16, .f32⟩
  | 81 => ⟨S8x64x64x192, .f32⟩
  | 82 => ⟨S8x4096x192, .f32⟩
  | 83 => ⟨S1x192x16, .f32⟩
  | 84 => ⟨S192x16, .f32⟩
  | 85 => ⟨S8x4096x16, .f32⟩
  | 86 => ⟨S8x4096x16, .f32⟩
  | 87 => ⟨S8x64x64x192, .f32⟩
  | 88 => ⟨S8x4096x192, .f32⟩
  | 89 => ⟨S1x192x16, .f32⟩
  | 90 => ⟨S192x16, .f32⟩
  | 91 => ⟨S8x4096x16, .f32⟩
  | 92 => ⟨S8x4096x16, .f32⟩
  | 93 => ⟨S1x1x16, .f32⟩
  | 94 => ⟨S8x4096x16, .f32⟩
  | 95 => ⟨S8x4096x16, .f32⟩
  | 96 => ⟨S8x16384x4, .f32⟩
  | 97 => ⟨S_, .i32⟩
  | 98 => ⟨S_, .f32⟩
  | 99 => ⟨S8x34x34x384, .f32⟩
  | 100 => ⟨S9x384x8, .f32⟩
  | 101 => ⟨S8x32x32x384, .f32⟩
  | 102 => ⟨S8x1024x384, .f32⟩
  | 103 => ⟨S1x384x8, .f32⟩
  | 104 => ⟨S384x8, .f32⟩
  | 105 => ⟨S8x1024x8, .f32⟩
  | 106 => ⟨S8x32x32x384, .f32⟩
  | 107 => ⟨S8x1024x384, .f32⟩
  | 108 => ⟨S1x384x8, .f32⟩
  | 109 => ⟨S384x8, .f32⟩
  | 110 => ⟨S8x1024x8, .f32⟩
  | 111 => ⟨S8x1024x8, .f32⟩
  | 112 => ⟨S8x32x32x384, .f32⟩
  | 113 => ⟨S8x1024x384, .f32⟩
  | 114 => ⟨S1x384x8, .f32⟩
  | 115 => ⟨S384x8, .f32⟩
  | 116 => ⟨S8x1024x8, .f32⟩
  | 117 => ⟨S8x1024x8, .f32⟩
  | 118 => ⟨S8x32x32x384, .f32⟩
  | 119 => ⟨S8x1024x384, .f32⟩
  | 120 => ⟨S1x384x8, .f32⟩
  | 121 => ⟨S384x8, .f32⟩
  | 122 => ⟨S8x1024x8, .f32⟩
  | 123 => ⟨S8x1024x8, .f32⟩
  | 124 => ⟨S8x32x32x384, .f32⟩
  | 125 => ⟨S8x1024x384, .f32⟩
  | 126 => ⟨S1x384x8, .f32⟩
  | 127 => ⟨S384x8, .f32⟩
  | _ => ⟨S8x128x128x96, .f32⟩

abbrev hbmTy0_3 (i : Nat) : BufTy := match i % 128 with
  | 0 => ⟨S8x1024x8, .f32⟩
  | 1 => ⟨S8x1024x8, .f32⟩
  | 2 => ⟨S8x32x32x384, .f32⟩
  | 3 => ⟨S8x1024x384, .f32⟩
  | 4 => ⟨S1x384x8, .f32⟩
  | 5 => ⟨S384x8, .f32⟩
  | 6 => ⟨S8x1024x8, .f32⟩
  | 7 => ⟨S8x1024x8, .f32⟩
  | 8 => ⟨S8x32x32x384, .f32⟩
  | 9 => ⟨S8x1024x384, .f32⟩
  | 10 => ⟨S1x384x8, .f32⟩
  | 11 => ⟨S384x8, .f32⟩
  | 12 => ⟨S8x1024x8, .f32⟩
  | 13 => ⟨S8x1024x8, .f32⟩
  | 14 => ⟨S8x32x32x384, .f32⟩
  | 15 => ⟨S8x1024x384, .f32⟩
  | 16 => ⟨S1x384x8, .f32⟩
  | 17 => ⟨S384x8, .f32⟩
  | 18 => ⟨S8x1024x8, .f32⟩
  | 19 => ⟨S8x1024x8, .f32⟩
  | 20 => ⟨S8x32x32x384, .f32⟩
  | 21 => ⟨S8x1024x384, .f32⟩
  | 22 => ⟨S1x384x8, .f32⟩
  | 23 => ⟨S384x8, .f32⟩
  | 24 => ⟨S8x1024x8, .f32⟩
  | 25 => ⟨S8x1024x8, .f32⟩
  | 26 => ⟨S1x1x8, .f32⟩
  | 27 => ⟨S8x1024x8, .f32⟩
  | 28 => ⟨S8x1024x8, .f32⟩
  | 29 => ⟨S8x4096x2, .f32⟩
  | 30 => ⟨S_, .i32⟩
  | 31 => ⟨S_, .f32⟩
  | 32 => ⟨S8x34x34x384, .f32⟩
  | 33 => ⟨S9x384x16, .f32⟩
  | 34 => ⟨S8x32x32x384, .f32⟩
  | 35 => ⟨S8x1024x384, .f32⟩
  | 36 => ⟨S1x384x16, .f32⟩
  | 37 => ⟨S384x16, .f32⟩
  | 38 => ⟨S8x1024x16, .f32⟩
  | 39 => ⟨S8x32x32x384, .f32⟩
  | 40 => ⟨S8x1024x384, .f32⟩
  | 41 => ⟨S1x384x16, .f32⟩
  | 42 => ⟨S384x16, .f32⟩
  | 43 => ⟨S8x1024x16, .f32⟩
  | 44 => ⟨S8x1024x16, .f32⟩
  | 45 => ⟨S8x32x32x384, .f32⟩
  | 46 => ⟨S8x1024x384, .f32⟩
  | 47 => ⟨S1x384x16, .f32⟩
  | 48 => ⟨S384x16, .f32⟩
  | 49 => ⟨S8x1024x16, .f32⟩
  | 50 => ⟨S8x1024x16, .f32⟩
  | 51 => ⟨S8x32x32x384, .f32⟩
  | 52 => ⟨S8x1024x384, .f32⟩
  | 53 => ⟨S1x384x16, .f32⟩
  | 54 => ⟨S384x16, .f32⟩
  | 55 => ⟨S8x1024x16, .f32⟩
  | 56 => ⟨S8x1024x16, .f32⟩
  | 57 => ⟨S8x32x32x384, .f32⟩
  | 58 => ⟨S8x1024x384, .f32⟩
  | 59 => ⟨S1x384x16, .f32⟩
  | 60 => ⟨S384x16, .f32⟩
  | 61 => ⟨S8x1024x16, .f32⟩
  | 62 => ⟨S8x1024x16, .f32⟩
  | 63 => ⟨S8x32x32x384, .f32⟩
  | 64 => ⟨S8x1024x384, .f32⟩
  | 65 => ⟨S1x384x16, .f32⟩
  | 66 => ⟨S384x16, .f32⟩
  | 67 => ⟨S8x1024x16, .f32⟩
  | 68 => ⟨S8x1024x16, .f32⟩
  | 69 => ⟨S8x32x32x384, .f32⟩
  | 70 => ⟨S8x1024x384, .f32⟩
  | 71 => ⟨S1x384x16, .f32⟩
  | 72 => ⟨S384x16, .f32⟩
  | 73 => ⟨S8x1024x16, .f32⟩
  | 74 => ⟨S8x1024x16, .f32⟩
  | 75 => ⟨S8x32x32x384, .f32⟩
  | 76 => ⟨S8x1024x384, .f32⟩
  | 77 => ⟨S1x384x16, .f32⟩
  | 78 => ⟨S384x16, .f32⟩
  | 79 => ⟨S8x1024x16, .f32⟩
  | 80 => ⟨S8x1024x16, .f32⟩
  | 81 => ⟨S8x32x32x384, .f32⟩
  | 82 => ⟨S8x1024x384, .f32⟩
  | 83 => ⟨S1x384x16, .f32⟩
  | 84 => ⟨S384x16, .f32⟩
  | 85 => ⟨S8x1024x16, .f32⟩
  | 86 => ⟨S8x1024x16, .f32⟩
  | 87 => ⟨S1x1x16, .f32⟩
  | 88 => ⟨S8x1024x16, .f32⟩
  | 89 => ⟨S8x1024x16, .f32⟩
  | 90 => ⟨S8x4096x4, .f32⟩
  | 91 => ⟨S_, .i32⟩
  | 92 => ⟨S_, .f32⟩
  | 93 => ⟨S8x18x18x768, .f32⟩
  | 94 => ⟨S9x768x8, .f32⟩
  | 95 => ⟨S8x16x16x768, .f32⟩
  | 96 => ⟨S8x256x768, .f32⟩
  | 97 => ⟨S1x768x8, .f32⟩
  | 98 => ⟨S768x8, .f32⟩
  | 99 => ⟨S8x256x8, .f32⟩
  | 100 => ⟨S8x16x16x768, .f32⟩
  | 101 => ⟨S8x256x768, .f32⟩
  | 102 => ⟨S1x768x8, .f32⟩
  | 103 => ⟨S768x8, .f32⟩
  | 104 => ⟨S8x256x8, .f32⟩
  | 105 => ⟨S8x256x8, .f32⟩
  | 106 => ⟨S8x16x16x768, .f32⟩
  | 107 => ⟨S8x256x768, .f32⟩
  | 108 => ⟨S1x768x8, .f32⟩
  | 109 => ⟨S768x8, .f32⟩
  | 110 => ⟨S8x256x8, .f32⟩
  | 111 => ⟨S8x256x8, .f32⟩
  | 112 => ⟨S8x16x16x768, .f32⟩
  | 113 => ⟨S8x256x768, .f32⟩
  | 114 => ⟨S1x768x8, .f32⟩
  | 115 => ⟨S768x8, .f32⟩
  | 116 => ⟨S8x256x8, .f32⟩
  | 117 => ⟨S8x256x8, .f32⟩
  | 118 => ⟨S8x16x16x768, .f32⟩
  | 119 => ⟨S8x256x768, .f32⟩
  | 120 => ⟨S1x768x8, .f32⟩
  | 121 => ⟨S768x8, .f32⟩
  | 122 => ⟨S8x256x8, .f32⟩
  | 123 => ⟨S8x256x8, .f32⟩
  | 124 => ⟨S8x16x16x768, .f32⟩
  | 125 => ⟨S8x256x768, .f32⟩
  | 126 => ⟨S1x768x8, .f32⟩
  | 127 => ⟨S768x8, .f32⟩
  | _ => ⟨S8x128x128x96, .f32⟩

abbrev hbmTy0_4 (i : Nat) : BufTy := match i % 128 with
  | 0 => ⟨S8x256x8, .f32⟩
  | 1 => ⟨S8x256x8, .f32⟩
  | 2 => ⟨S8x16x16x768, .f32⟩
  | 3 => ⟨S8x256x768, .f32⟩
  | 4 => ⟨S1x768x8, .f32⟩
  | 5 => ⟨S768x8, .f32⟩
  | 6 => ⟨S8x256x8, .f32⟩
  | 7 => ⟨S8x256x8, .f32⟩
  | 8 => ⟨S8x16x16x768, .f32⟩
  | 9 => ⟨S8x256x768, .f32⟩
  | 10 => ⟨S1x768x8, .f32⟩
  | 11 => ⟨S768x8, .f32⟩
  | 12 => ⟨S8x256x8, .f32⟩
  | 13 => ⟨S8x256x8, .f32⟩
  | 14 => ⟨S8x16x16x768, .f32⟩
  | 15 => ⟨S8x256x768, .f32⟩
  | 16 => ⟨S1x768x8, .f32⟩
  | 17 => ⟨S768x8, .f32⟩
  | 18 => ⟨S8x256x8, .f32⟩
  | 19 => ⟨S8x256x8, .f32⟩
  | 20 => ⟨S1x1x8, .f32⟩
  | 21 => ⟨S8x256x8, .f32⟩
  | 22 => ⟨S8x256x8, .f32⟩
  | 23 => ⟨S8x1024x2, .f32⟩
  | 24 => ⟨S_, .i32⟩
  | 25 => ⟨S_, .f32⟩
  | 26 => ⟨S8x18x18x768, .f32⟩
  | 27 => ⟨S9x768x16, .f32⟩
  | 28 => ⟨S8x16x16x768, .f32⟩
  | 29 => ⟨S8x256x768, .f32⟩
  | 30 => ⟨S1x768x16, .f32⟩
  | 31 => ⟨S768x16, .f32⟩
  | 32 => ⟨S8x256x16, .f32⟩
  | 33 => ⟨S8x16x16x768, .f32⟩
  | 34 => ⟨S8x256x768, .f32⟩
  | 35 => ⟨S1x768x16, .f32⟩
  | 36 => ⟨S768x16, .f32⟩
  | 37 => ⟨S8x256x16, .f32⟩
  | 38 => ⟨S8x256x16, .f32⟩
  | 39 => ⟨S8x16x16x768, .f32⟩
  | 40 => ⟨S8x256x768, .f32⟩
  | 41 => ⟨S1x768x16, .f32⟩
  | 42 => ⟨S768x16, .f32⟩
  | 43 => ⟨S8x256x16, .f32⟩
  | 44 => ⟨S8x256x16, .f32⟩
  | 45 => ⟨S8x16x16x768, .f32⟩
  | 46 => ⟨S8x256x768, .f32⟩
  | 47 => ⟨S1x768x16, .f32⟩
  | 48 => ⟨S768x16, .f32⟩
  | 49 => ⟨S8x256x16, .f32⟩
  | 50 => ⟨S8x256x16, .f32⟩
  | 51 => ⟨S8x16x16x768, .f32⟩
  | 52 => ⟨S8x256x768, .f32⟩
  | 53 => ⟨S1x768x16, .f32⟩
  | 54 => ⟨S768x16, .f32⟩
  | 55 => ⟨S8x256x16, .f32⟩
  | 56 => ⟨S8x256x16, .f32⟩
  | 57 => ⟨S8x16x16x768, .f32⟩
  | 58 => ⟨S8x256x768, .f32⟩
  | 59 => ⟨S1x768x16, .f32⟩
  | 60 => ⟨S768x16, .f32⟩
  | 61 => ⟨S8x256x16, .f32⟩
  | 62 => ⟨S8x256x16, .f32⟩
  | 63 => ⟨S8x16x16x768, .f32⟩
  | 64 => ⟨S8x256x768, .f32⟩
  | 65 => ⟨S1x768x16, .f32⟩
  | 66 => ⟨S768x16, .f32⟩
  | 67 => ⟨S8x256x16, .f32⟩
  | 68 => ⟨S8x256x16, .f32⟩
  | 69 => ⟨S8x16x16x768, .f32⟩
  | 70 => ⟨S8x256x768, .f32⟩
  | 71 => ⟨S1x768x16, .f32⟩
  | 72 => ⟨S768x16, .f32⟩
  | 73 => ⟨S8x256x16, .f32⟩
  | 74 => ⟨S8x256x16, .f32⟩
  | 75 => ⟨S8x16x16x768, .f32⟩
  | 76 => ⟨S8x256x768, .f32⟩
  | 77 => ⟨S1x768x16, .f32⟩
  | 78 => ⟨S768x16, .f32⟩
  | 79 => ⟨S8x256x16, .f32⟩
  | 80 => ⟨S8x256x16, .f32⟩
  | 81 => ⟨S1x1x16, .f32⟩
  | 82 => ⟨S8x256x16, .f32⟩
  | 83 => ⟨S8x256x16, .f32⟩
  | 84 => ⟨S8x1024x4, .f32⟩
  | 85 => ⟨S8x87040x2, .f32⟩
  | 86 => ⟨S8x87040x4, .f32⟩
  | 87 => ⟨S_, .f32⟩
  | 88 => ⟨S8x87040, .f32⟩
  | 89 => ⟨S_, .f32⟩
  | 90 => ⟨S8x87040, .f32⟩
  | 91 => ⟨S8x87040, .f32⟩
  | 92 => ⟨S8x87040x1, .f32⟩
  | 93 => ⟨S8x87040x2, .f32⟩
  | 94 => ⟨S8x87040x2, .f32⟩
  | 95 => ⟨S8x87040x2, .f32⟩
  | 96 => ⟨S_, .f32⟩
  | 97 => ⟨S8x87040, .f32⟩
  | 98 => ⟨S8x87040x1, .f32⟩
  | 99 => ⟨S8x87040x2, .f32⟩
  | 100 => ⟨S8x87040x2, .f32⟩
  | 101 => ⟨S8x87040x14, .f32⟩
  | _ => ⟨S8x128x128x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x128x128x96, .f32⟩

abbrev bufTy : (tb : Table) → Fin (tcTables nBuf tb) → BufTy
  | .hbm, ⟨i, _⟩ => hbmTy i
  | _, _ => ⟨S8x128x128x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_cst_0 : Ref sig .tc := ⟨.hbm, 21, rfl⟩
abbrev main_cst_1 : Ref sig .tc := ⟨.hbm, 22, rfl⟩
abbrev main_cst_2 : Ref sig .tc := ⟨.hbm, 23, rfl⟩
abbrev main_v0 : Ref sig .tc := ⟨.hbm, 24, rfl⟩
abbrev main_v1 : Ref sig .tc := ⟨.hbm, 25, rfl⟩
abbrev main_cst_3 : Ref sig .tc := ⟨.hbm, 26, rfl⟩
abbrev main_v2 : Ref sig .tc := ⟨.hbm, 27, rfl⟩
abbrev main_v3 : Ref sig .tc := ⟨.hbm, 28, rfl⟩
abbrev main_cst_4 : Ref sig .tc := ⟨.hbm, 29, rfl⟩
abbrev main_v4 : Ref sig .tc := ⟨.hbm, 30, rfl⟩
abbrev main_v5 : Ref sig .tc := ⟨.hbm, 31, rfl⟩
abbrev main_cst_5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_6 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_9 : Ref sig .tc := ⟨.hbm, 68, rfl⟩
abbrev main_v38 : Ref sig .tc := ⟨.hbm, 69, rfl⟩
abbrev main_v39 : Ref sig .tc := ⟨.hbm, 70, rfl⟩
abbrev main_cst_10 : Ref sig .tc := ⟨.hbm, 71, rfl⟩
abbrev main_v40 : Ref sig .tc := ⟨.hbm, 72, rfl⟩
abbrev main_v41 : Ref sig .tc := ⟨.hbm, 73, rfl⟩
abbrev main_cst_11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_cst_13 : Ref sig .tc := ⟨.hbm, 92, rfl⟩
abbrev main_v58 : Ref sig .tc := ⟨.hbm, 93, rfl⟩
abbrev main_v59 : Ref sig .tc := ⟨.hbm, 94, rfl⟩
abbrev main_cst_14 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c : Ref sig .tc := ⟨.hbm, 109, rfl⟩
abbrev main_call0_v0 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_c_15 : Ref sig .tc := ⟨.hbm, 170, rfl⟩
abbrev main_call1_v0 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_c_16 : Ref sig .tc := ⟨.hbm, 231, rfl⟩
abbrev main_call2_v0 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_c_17 : Ref sig .tc := ⟨.hbm, 292, rfl⟩
abbrev main_call3_v0 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_c_18 : Ref sig .tc := ⟨.hbm, 353, rfl⟩
abbrev main_call4_v0 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_v360 : Ref sig .tc := ⟨.hbm, 406, rfl⟩
abbrev main_v361 : Ref sig .tc := ⟨.hbm, 407, rfl⟩
abbrev main_v362 : Ref sig .tc := ⟨.hbm, 408, rfl⟩
abbrev main_v363 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_c_19 : Ref sig .tc := ⟨.hbm, 414, rfl⟩
abbrev main_call5_v0 : Ref sig .tc := ⟨.hbm, 415, rfl⟩
abbrev main_v368 : Ref sig .tc := ⟨.hbm, 416, rfl⟩
abbrev main_v369 : Ref sig .tc := ⟨.hbm, 417, rfl⟩
abbrev main_v370 : Ref sig .tc := ⟨.hbm, 418, rfl⟩
abbrev main_v371 : Ref sig .tc := ⟨.hbm, 419, rfl⟩
abbrev main_v372 : Ref sig .tc := ⟨.hbm, 420, rfl⟩
abbrev main_v373 : Ref sig .tc := ⟨.hbm, 421, rfl⟩
abbrev main_v374 : Ref sig .tc := ⟨.hbm, 422, rfl⟩
abbrev main_v375 : Ref sig .tc := ⟨.hbm, 423, rfl⟩
abbrev main_v376 : Ref sig .tc := ⟨.hbm, 424, rfl⟩
abbrev main_v377 : Ref sig .tc := ⟨.hbm, 425, rfl⟩
abbrev main_v378 : Ref sig .tc := ⟨.hbm, 426, rfl⟩
abbrev main_v379 : Ref sig .tc := ⟨.hbm, 427, rfl⟩
abbrev main_v380 : Ref sig .tc := ⟨.hbm, 428, rfl⟩
abbrev main_v381 : Ref sig .tc := ⟨.hbm, 429, rfl⟩
abbrev main_v382 : Ref sig .tc := ⟨.hbm, 430, rfl⟩
abbrev main_v383 : Ref sig .tc := ⟨.hbm, 431, rfl⟩
abbrev main_v384 : Ref sig .tc := ⟨.hbm, 432, rfl⟩
abbrev main_v385 : Ref sig .tc := ⟨.hbm, 433, rfl⟩
abbrev main_v386 : Ref sig .tc := ⟨.hbm, 434, rfl⟩
abbrev main_v387 : Ref sig .tc := ⟨.hbm, 435, rfl⟩
abbrev main_v388 : Ref sig .tc := ⟨.hbm, 436, rfl⟩
abbrev main_v389 : Ref sig .tc := ⟨.hbm, 437, rfl⟩
abbrev main_v390 : Ref sig .tc := ⟨.hbm, 438, rfl⟩
abbrev main_v391 : Ref sig .tc := ⟨.hbm, 439, rfl⟩
abbrev main_v392 : Ref sig .tc := ⟨.hbm, 440, rfl⟩
abbrev main_v393 : Ref sig .tc := ⟨.hbm, 441, rfl⟩
abbrev main_v394 : Ref sig .tc := ⟨.hbm, 442, rfl⟩
abbrev main_v395 : Ref sig .tc := ⟨.hbm, 443, rfl⟩
abbrev main_v396 : Ref sig .tc := ⟨.hbm, 444, rfl⟩
abbrev main_v397 : Ref sig .tc := ⟨.hbm, 445, rfl⟩
abbrev main_v398 : Ref sig .tc := ⟨.hbm, 446, rfl⟩
abbrev main_v399 : Ref sig .tc := ⟨.hbm, 447, rfl⟩
abbrev main_v400 : Ref sig .tc := ⟨.hbm, 448, rfl⟩
abbrev main_v401 : Ref sig .tc := ⟨.hbm, 449, rfl⟩
abbrev main_v402 : Ref sig .tc := ⟨.hbm, 450, rfl⟩
abbrev main_v403 : Ref sig .tc := ⟨.hbm, 451, rfl⟩
abbrev main_v404 : Ref sig .tc := ⟨.hbm, 452, rfl⟩
abbrev main_v405 : Ref sig .tc := ⟨.hbm, 453, rfl⟩
abbrev main_v406 : Ref sig .tc := ⟨.hbm, 454, rfl⟩
abbrev main_v407 : Ref sig .tc := ⟨.hbm, 455, rfl⟩
abbrev main_v408 : Ref sig .tc := ⟨.hbm, 456, rfl⟩
abbrev main_v409 : Ref sig .tc := ⟨.hbm, 457, rfl⟩
abbrev main_v410 : Ref sig .tc := ⟨.hbm, 458, rfl⟩
abbrev main_v411 : Ref sig .tc := ⟨.hbm, 459, rfl⟩
abbrev main_v412 : Ref sig .tc := ⟨.hbm, 460, rfl⟩
abbrev main_v413 : Ref sig .tc := ⟨.hbm, 461, rfl⟩
abbrev main_v414 : Ref sig .tc := ⟨.hbm, 462, rfl⟩
abbrev main_v415 : Ref sig .tc := ⟨.hbm, 463, rfl⟩
abbrev main_v416 : Ref sig .tc := ⟨.hbm, 464, rfl⟩
abbrev main_v417 : Ref sig .tc := ⟨.hbm, 465, rfl⟩
abbrev main_v418 : Ref sig .tc := ⟨.hbm, 466, rfl⟩
abbrev main_v419 : Ref sig .tc := ⟨.hbm, 467, rfl⟩
abbrev main_v420 : Ref sig .tc := ⟨.hbm, 468, rfl⟩
abbrev main_v421 : Ref sig .tc := ⟨.hbm, 469, rfl⟩
abbrev main_v422 : Ref sig .tc := ⟨.hbm, 470, rfl⟩
abbrev main_v423 : Ref sig .tc := ⟨.hbm, 471, rfl⟩
abbrev main_v424 : Ref sig .tc := ⟨.hbm, 472, rfl⟩
abbrev main_v425 : Ref sig .tc := ⟨.hbm, 473, rfl⟩
abbrev main_v426 : Ref sig .tc := ⟨.hbm, 474, rfl⟩
abbrev main_c_20 : Ref sig .tc := ⟨.hbm, 475, rfl⟩
abbrev main_call6_v0 : Ref sig .tc := ⟨.hbm, 476, rfl⟩
abbrev main_v427 : Ref sig .tc := ⟨.hbm, 477, rfl⟩
abbrev main_v428 : Ref sig .tc := ⟨.hbm, 478, rfl⟩
abbrev main_v429 : Ref sig .tc := ⟨.hbm, 479, rfl⟩
abbrev main_v430 : Ref sig .tc := ⟨.hbm, 480, rfl⟩
abbrev main_v431 : Ref sig .tc := ⟨.hbm, 481, rfl⟩
abbrev main_v432 : Ref sig .tc := ⟨.hbm, 482, rfl⟩
abbrev main_v433 : Ref sig .tc := ⟨.hbm, 483, rfl⟩
abbrev main_v434 : Ref sig .tc := ⟨.hbm, 484, rfl⟩
abbrev main_v435 : Ref sig .tc := ⟨.hbm, 485, rfl⟩
abbrev main_v436 : Ref sig .tc := ⟨.hbm, 486, rfl⟩
abbrev main_v437 : Ref sig .tc := ⟨.hbm, 487, rfl⟩
abbrev main_v438 : Ref sig .tc := ⟨.hbm, 488, rfl⟩
abbrev main_v439 : Ref sig .tc := ⟨.hbm, 489, rfl⟩
abbrev main_v440 : Ref sig .tc := ⟨.hbm, 490, rfl⟩
abbrev main_v441 : Ref sig .tc := ⟨.hbm, 491, rfl⟩
abbrev main_v442 : Ref sig .tc := ⟨.hbm, 492, rfl⟩
abbrev main_v443 : Ref sig .tc := ⟨.hbm, 493, rfl⟩
abbrev main_v444 : Ref sig .tc := ⟨.hbm, 494, rfl⟩
abbrev main_v445 : Ref sig .tc := ⟨.hbm, 495, rfl⟩
abbrev main_v446 : Ref sig .tc := ⟨.hbm, 496, rfl⟩
abbrev main_v447 : Ref sig .tc := ⟨.hbm, 497, rfl⟩
abbrev main_v448 : Ref sig .tc := ⟨.hbm, 498, rfl⟩
abbrev main_v449 : Ref sig .tc := ⟨.hbm, 499, rfl⟩
abbrev main_v450 : Ref sig .tc := ⟨.hbm, 500, rfl⟩
abbrev main_v451 : Ref sig .tc := ⟨.hbm, 501, rfl⟩
abbrev main_v452 : Ref sig .tc := ⟨.hbm, 502, rfl⟩
abbrev main_v453 : Ref sig .tc := ⟨.hbm, 503, rfl⟩
abbrev main_v454 : Ref sig .tc := ⟨.hbm, 504, rfl⟩
abbrev main_v455 : Ref sig .tc := ⟨.hbm, 505, rfl⟩
abbrev main_v456 : Ref sig .tc := ⟨.hbm, 506, rfl⟩
abbrev main_v457 : Ref sig .tc := ⟨.hbm, 507, rfl⟩
abbrev main_v458 : Ref sig .tc := ⟨.hbm, 508, rfl⟩
abbrev main_v459 : Ref sig .tc := ⟨.hbm, 509, rfl⟩
abbrev main_v460 : Ref sig .tc := ⟨.hbm, 510, rfl⟩
abbrev main_v461 : Ref sig .tc := ⟨.hbm, 511, rfl⟩
abbrev main_v462 : Ref sig .tc := ⟨.hbm, 512, rfl⟩
abbrev main_v463 : Ref sig .tc := ⟨.hbm, 513, rfl⟩
abbrev main_v464 : Ref sig .tc := ⟨.hbm, 514, rfl⟩
abbrev main_v465 : Ref sig .tc := ⟨.hbm, 515, rfl⟩
abbrev main_v466 : Ref sig .tc := ⟨.hbm, 516, rfl⟩
abbrev main_v467 : Ref sig .tc := ⟨.hbm, 517, rfl⟩
abbrev main_v468 : Ref sig .tc := ⟨.hbm, 518, rfl⟩
abbrev main_v469 : Ref sig .tc := ⟨.hbm, 519, rfl⟩
abbrev main_v470 : Ref sig .tc := ⟨.hbm, 520, rfl⟩
abbrev main_v471 : Ref sig .tc := ⟨.hbm, 521, rfl⟩
abbrev main_v472 : Ref sig .tc := ⟨.hbm, 522, rfl⟩
abbrev main_v473 : Ref sig .tc := ⟨.hbm, 523, rfl⟩
abbrev main_v474 : Ref sig .tc := ⟨.hbm, 524, rfl⟩
abbrev main_v475 : Ref sig .tc := ⟨.hbm, 525, rfl⟩
abbrev main_v476 : Ref sig .tc := ⟨.hbm, 526, rfl⟩
abbrev main_v477 : Ref sig .tc := ⟨.hbm, 527, rfl⟩
abbrev main_v478 : Ref sig .tc := ⟨.hbm, 528, rfl⟩
abbrev main_v479 : Ref sig .tc := ⟨.hbm, 529, rfl⟩
abbrev main_v480 : Ref sig .tc := ⟨.hbm, 530, rfl⟩
abbrev main_v481 : Ref sig .tc := ⟨.hbm, 531, rfl⟩
abbrev main_v482 : Ref sig .tc := ⟨.hbm, 532, rfl⟩
abbrev main_v483 : Ref sig .tc := ⟨.hbm, 533, rfl⟩
abbrev main_v484 : Ref sig .tc := ⟨.hbm, 534, rfl⟩
abbrev main_v485 : Ref sig .tc := ⟨.hbm, 535, rfl⟩
abbrev main_c_21 : Ref sig .tc := ⟨.hbm, 536, rfl⟩
abbrev main_call7_v0 : Ref sig .tc := ⟨.hbm, 537, rfl⟩
abbrev main_v486 : Ref sig .tc := ⟨.hbm, 538, rfl⟩
abbrev main_v487 : Ref sig .tc := ⟨.hbm, 539, rfl⟩
abbrev main_v488 : Ref sig .tc := ⟨.hbm, 540, rfl⟩
abbrev main_v489 : Ref sig .tc := ⟨.hbm, 541, rfl⟩
abbrev main_v490 : Ref sig .tc := ⟨.hbm, 542, rfl⟩
abbrev main_v491 : Ref sig .tc := ⟨.hbm, 543, rfl⟩
abbrev main_v492 : Ref sig .tc := ⟨.hbm, 544, rfl⟩
abbrev main_v493 : Ref sig .tc := ⟨.hbm, 545, rfl⟩
abbrev main_v494 : Ref sig .tc := ⟨.hbm, 546, rfl⟩
abbrev main_v495 : Ref sig .tc := ⟨.hbm, 547, rfl⟩
abbrev main_v496 : Ref sig .tc := ⟨.hbm, 548, rfl⟩
abbrev main_v497 : Ref sig .tc := ⟨.hbm, 549, rfl⟩
abbrev main_v498 : Ref sig .tc := ⟨.hbm, 550, rfl⟩
abbrev main_v499 : Ref sig .tc := ⟨.hbm, 551, rfl⟩
abbrev main_v500 : Ref sig .tc := ⟨.hbm, 552, rfl⟩
abbrev main_v501 : Ref sig .tc := ⟨.hbm, 553, rfl⟩
abbrev main_v502 : Ref sig .tc := ⟨.hbm, 554, rfl⟩
abbrev main_v503 : Ref sig .tc := ⟨.hbm, 555, rfl⟩
abbrev main_v504 : Ref sig .tc := ⟨.hbm, 556, rfl⟩
abbrev main_v505 : Ref sig .tc := ⟨.hbm, 557, rfl⟩
abbrev main_v506 : Ref sig .tc := ⟨.hbm, 558, rfl⟩
abbrev main_v507 : Ref sig .tc := ⟨.hbm, 559, rfl⟩
abbrev main_v508 : Ref sig .tc := ⟨.hbm, 560, rfl⟩
abbrev main_v509 : Ref sig .tc := ⟨.hbm, 561, rfl⟩
abbrev main_v510 : Ref sig .tc := ⟨.hbm, 562, rfl⟩
abbrev main_v511 : Ref sig .tc := ⟨.hbm, 563, rfl⟩
abbrev main_v512 : Ref sig .tc := ⟨.hbm, 564, rfl⟩
abbrev main_v513 : Ref sig .tc := ⟨.hbm, 565, rfl⟩
abbrev main_v514 : Ref sig .tc := ⟨.hbm, 566, rfl⟩
abbrev main_v515 : Ref sig .tc := ⟨.hbm, 567, rfl⟩
abbrev main_v516 : Ref sig .tc := ⟨.hbm, 568, rfl⟩
abbrev main_v517 : Ref sig .tc := ⟨.hbm, 569, rfl⟩
abbrev main_v518 : Ref sig .tc := ⟨.hbm, 570, rfl⟩
abbrev main_v519 : Ref sig .tc := ⟨.hbm, 571, rfl⟩
abbrev main_v520 : Ref sig .tc := ⟨.hbm, 572, rfl⟩
abbrev main_v521 : Ref sig .tc := ⟨.hbm, 573, rfl⟩
abbrev main_v522 : Ref sig .tc := ⟨.hbm, 574, rfl⟩
abbrev main_v523 : Ref sig .tc := ⟨.hbm, 575, rfl⟩
abbrev main_v524 : Ref sig .tc := ⟨.hbm, 576, rfl⟩
abbrev main_v525 : Ref sig .tc := ⟨.hbm, 577, rfl⟩
abbrev main_v526 : Ref sig .tc := ⟨.hbm, 578, rfl⟩
abbrev main_v527 : Ref sig .tc := ⟨.hbm, 579, rfl⟩
abbrev main_v528 : Ref sig .tc := ⟨.hbm, 580, rfl⟩
abbrev main_v529 : Ref sig .tc := ⟨.hbm, 581, rfl⟩
abbrev main_v530 : Ref sig .tc := ⟨.hbm, 582, rfl⟩
abbrev main_v531 : Ref sig .tc := ⟨.hbm, 583, rfl⟩
abbrev main_v532 : Ref sig .tc := ⟨.hbm, 584, rfl⟩
abbrev main_v533 : Ref sig .tc := ⟨.hbm, 585, rfl⟩
abbrev main_v534 : Ref sig .tc := ⟨.hbm, 586, rfl⟩
abbrev main_v535 : Ref sig .tc := ⟨.hbm, 587, rfl⟩
abbrev main_v536 : Ref sig .tc := ⟨.hbm, 588, rfl⟩
abbrev main_v537 : Ref sig .tc := ⟨.hbm, 589, rfl⟩
abbrev main_v538 : Ref sig .tc := ⟨.hbm, 590, rfl⟩
abbrev main_v539 : Ref sig .tc := ⟨.hbm, 591, rfl⟩
abbrev main_v540 : Ref sig .tc := ⟨.hbm, 592, rfl⟩
abbrev main_v541 : Ref sig .tc := ⟨.hbm, 593, rfl⟩
abbrev main_v542 : Ref sig .tc := ⟨.hbm, 594, rfl⟩
abbrev main_v543 : Ref sig .tc := ⟨.hbm, 595, rfl⟩
abbrev main_v544 : Ref sig .tc := ⟨.hbm, 596, rfl⟩
abbrev main_v545 : Ref sig .tc := ⟨.hbm, 597, rfl⟩
abbrev main_v546 : Ref sig .tc := ⟨.hbm, 598, rfl⟩
abbrev main_cst_22 : Ref sig .tc := ⟨.hbm, 599, rfl⟩
abbrev main_v547 : Ref sig .tc := ⟨.hbm, 600, rfl⟩
abbrev main_cst_23 : Ref sig .tc := ⟨.hbm, 601, rfl⟩
abbrev main_v548 : Ref sig .tc := ⟨.hbm, 602, rfl⟩
abbrev main_v549 : Ref sig .tc := ⟨.hbm, 603, rfl⟩
abbrev main_v550 : Ref sig .tc := ⟨.hbm, 604, rfl⟩
abbrev main_v551 : Ref sig .tc := ⟨.hbm, 605, rfl⟩
abbrev main_v552 : Ref sig .tc := ⟨.hbm, 606, rfl⟩
abbrev main_v553 : Ref sig .tc := ⟨.hbm, 607, rfl⟩
abbrev main_cst_24 : Ref sig .tc := ⟨.hbm, 608, rfl⟩
abbrev main_v554 : Ref sig .tc := ⟨.hbm, 609, rfl⟩
abbrev main_v555 : Ref sig .tc := ⟨.hbm, 610, rfl⟩
abbrev main_v556 : Ref sig .tc := ⟨.hbm, 611, rfl⟩
abbrev main_v557 : Ref sig .tc := ⟨.hbm, 612, rfl⟩
abbrev main_v558 : Ref sig .tc := ⟨.hbm, 613, rfl⟩

abbrev nD : Nat := 1
abbrev τ : Topo := Topo.v7x

variable {F : FTy → Type} [FloatOps F]
-- ==== Proof.Own.KernelFrame.lean ====
/- The kernel at machine numbers runs to its end and leaves its arguments as they were.  Nothing is said of what it
   computes, so no staging buffer's contents are named: a grid point takes the eleven buffers at anything and gives them
   back at anything, and the arrays the windows only read end as they began because nothing is written back to them. -/
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameSuffix
public import Idealize.ShloMosaic.Lib.Tactic
public import Idealize.ShloMosaic.Lib.WordCmp

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)
open Cert.Kernel.Gen

variable {F : FTy → Type} [FloatOps F]

local notation "𝕄" => MT nD τ sig Unit (Elt F) ℕ (UR sig nD τ) ℕ

/-! ## One grid point -/

/-- A buffer held at contents that are not named. -/
def anyHeld (c : Dev nD) {s : Shape} {e : EltTy} (a : Memref sig .tc .vmem s e) : sProp 𝕄 :=
  iprop(∃ X, owns (c : Thread nD τ) a fullShare X)

/-- A buffer at any contents is held. -/
theorem anyHeld_of (c : Dev nD) {s : Shape} {e : EltTy} (a : Memref sig .tc .vmem s e) (f : a.view.ty.Contents (Elt F)) :
    (a.view.loc (c : Thread nD τ) ↦[a.view.set]{fullShare} f) ⊢ (anyHeld c a : sProp 𝕄) := by
  unfold anyHeld owns
  iintro H
  iexists a.view.read (Elt F) f, f
  isplitr
  · ipureintro; rfl
  iexact H

set_option maxHeartbeats 4000000 in
/-- The body at coordinates of which exactly branch `j` is taken: eleven buffers in, eleven buffers out. -/
theorem body_runs (c : Dev nD) (i : grid0.Coords) (j : ℕ) (hj : j < 6)
    (b0 : k0_cond1 i = 1#1 ↔ j = 0) (b1 : k0_cond2 i = 1#1 ↔ j = 1) (b2 : k0_cond3 i = 1#1 ↔ j = 2)
    (b3 : k0_cond4 i = 1#1 ↔ j = 3) (b4 : k0_cond5 i = 1#1 ↔ j = 4) (b5 : k0_cond6 i = 1#1 ↔ j = 5)
    (a2 : Memref sig .tc .vmem S1x128x128x96 .f32) (h2 : a2.IsWhole) (a3 : Memref sig .tc .vmem S1x64x64x192 .f32) (h3 : a3.IsWhole)
    (a4 : Memref sig .tc .vmem S1x32x32x384 .f32) (h4 : a4.IsWhole) (a5 : Memref sig .tc .vmem S1x16x16x768 .f32) (h5 : a5.IsWhole)
    (a6 : Memref sig .tc .vmem S216x96 .bf16) (h6 : a6.IsWhole) (a7 : Memref sig .tc .vmem S216x192 .bf16) (h7 : a7.IsWhole)
    (a8 : Memref sig .tc .vmem S216x384 .bf16) (h8 : a8.IsWhole) (a9 : Memref sig .tc .vmem S216x768 .bf16) (h9 : a9.IsWhole)
    (a10 : Memref sig .tc .vmem S32x8 .f32) (h10 : a10.IsWhole) (a11 : Memref sig .tc .vmem S64x8 .f32) (h11 : a11.IsWhole)
    (a12 : Memref sig .tc .vmem S1x4096x56 .f32) (h12 : a12.IsWhole) :
    iprop(anyHeld c a2 ∗ anyHeld c a3 ∗ anyHeld c a4 ∗ anyHeld c a5 ∗ anyHeld c a6 ∗ anyHeld c a7 ∗ anyHeld c a8 ∗ anyHeld c a9 ∗ anyHeld c a10
      ∗ anyHeld c a11 ∗ anyHeld c a12)
    ⊢ wp frame (wpE (defs₀ (F := F)) Variants.none c none) Set.univ
        (cc0__ssd_head_kernel i a2 h2 a3 h3 a4 h4 a5 h5 a6 h6 a7 h7 a8 h8 a9 h9 a10 h10 a11 h11 a12 h12) (fun _ =>
      (iprop(anyHeld c a2 ∗ anyHeld c a3 ∗ anyHeld c a4 ∗ anyHeld c a5 ∗ anyHeld c a6 ∗ anyHeld c a7 ∗ anyHeld c a8 ∗ anyHeld c a9 ∗ anyHeld c a10
        ∗ anyHeld c a11 ∗ anyHeld c a12) : sProp 𝕄)) := by
  simp only [cc0__ssd_head_kernel_eq_skeleton]; unfold cc0__ssd_head_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton]
  obtain rfl | rfl | rfl | rfl | rfl | rfl : j = 0 ∨ j = 1 ∨ j = 2 ∨ j = 3 ∨ j = 4 ∨ j = 5 := by omega
  all_goals
    conv => lhs; unfold anyHeld owns
    iintro ⟨⟨%x0, %f0, -, H0⟩, ⟨%x1, %f1, -, H1⟩, ⟨%x2, %f2, -, H2⟩, ⟨%x3, %f3, -, H3⟩, ⟨%x4, %f4, -, H4⟩, ⟨%x5, %f5, -, H5⟩,
      ⟨%x6, %f6, -, H6⟩, ⟨%x7, %f7, -, H7⟩, ⟨%x8, %f8, -, H8⟩, ⟨%x9, %f9, -, H9⟩, ⟨%x10, %f10, -, H10⟩⟩
    sl_exec (disch := first
      | sl_exact (b0.mpr rfl) | sl_exact (b1.mpr rfl) | sl_exact (b2.mpr rfl) | sl_exact (b3.mpr rfl) | sl_exact (b4.mpr rfl)
      | sl_exact (b5.mpr rfl) | sl_exact (mt b0.mp (by decide)) | sl_exact (mt b1.mp (by decide)) | sl_exact (mt b2.mp (by decide))
      | sl_exact (mt b3.mp (by decide)) | sl_exact (mt b4.mp (by decide)) | sl_exact (mt b5.mp (by decide)))
    sl_step
    isplitl [H0]; · iapply (anyHeld_of c a2 _); iexact H0
    isplitl [H1]; · iapply (anyHeld_of c a3 _); iexact H1
    isplitl [H2]; · iapply (anyHeld_of c a4 _); iexact H2
    isplitl [H3]; · iapply (anyHeld_of c a5 _); iexact H3
    isplitl [H4]; · iapply (anyHeld_of c a6 _); iexact H4
    isplitl [H5]; · iapply (anyHeld_of c a7 _); iexact H5
    isplitl [H6]; · iapply (anyHeld_of c a8 _); iexact H6
    isplitl [H7]; · iapply (anyHeld_of c a9 _); iexact H7
    isplitl [H8]; · iapply (anyHeld_of c a10 _); iexact H8
    isplitl [H9]; · iapply (anyHeld_of c a11 _); iexact H9
    iapply (anyHeld_of c a12 _); iexact H10

/-- Point `t` takes the branch numbered `t mod 6` and no other. -/
theorem branch_iff (t : Fin grid0.N) :
    (k0_cond1 (grid0.coords t) = 1#1 ↔ t.val % 6 = 0) ∧ (k0_cond2 (grid0.coords t) = 1#1 ↔ t.val % 6 = 1)
      ∧ (k0_cond3 (grid0.coords t) = 1#1 ↔ t.val % 6 = 2) ∧ (k0_cond4 (grid0.coords t) = 1#1 ↔ t.val % 6 = 3)
      ∧ (k0_cond5 (grid0.coords t) = 1#1 ↔ t.val % 6 = 4) ∧ (k0_cond6 (grid0.coords t) = 1#1 ↔ t.val % 6 = 5) := by
  have ht : t.val < 48 := Nat.lt_of_lt_of_eq t.isLt N_0
  have e1 : (grid0.coords t 1).val = t.val / 1 % 6 := Pipeline.Grid.coords_val t 1 (by decide) rfl
  simp only [k0_cond1, k0_cond2, k0_cond3, k0_cond4, k0_cond5, k0_cond6, e1]
  refine ⟨?_, ?_, ?_, ?_, ?_, ?_⟩ <;> word_cmp

/-! ## The launch -/

variable (m : (ℓ : Loc nD τ sig) → Buf (Elt F) ℓ) (ρ : Dev nD → PrngReg)

/-- The proof data: the arrays as the launch finds them, and no contents named after a body. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem A_eq (c : Dev nD) (w : Fin cfg0.W) : (dats m 0 c).A w = V m c (Pipeline.arrRef spec0 w) := by
  dsimp only [dats]

/-- Every window's staged contents are forgotten. -/
abbrev forgotten : Fin cfg0.W → Bool := fun _ => true

/-- The body at any point, as the pipeline asks it. -/
theorem body_sound (c : Dev nD) :
    BodyObligationLoose (dats (F := F) m 0 c) (defs₀ (F := F)) Variants.none () Set.univ forgotten := fun t => by
  obtain ⟨b0, b1, b2, b3, b4, b5⟩ := branch_iff t
  rw [bigSep_W0,
    show defs₀ (F := F) .tc cfg0.body (cfg0.bodyArgs t (cfg0.slots t)) = bodyAt0 t from by unfold defs₀; rw [Defs.onTc_tc],
    show (dats m 0 c).Φ t.succ = (dats m 0 c).Φ t.castSucc from rfl,
    show (dats m 0 c).owesAt () t.succ = (dats m 0 c).owesAt () t.castSucc from rfl]
  have h := body_runs (F := F) c (grid0.coords t) (t.val % 6) (Nat.mod_lt _ (by decide)) b0 b1 b2 b3 b4 b5
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
  exact (Laws.sep_mono .rfl ((Laws.sep_mono .rfl h).trans (wp_frame_l _ _ _))).trans (wp_frame_l _ _ _)

/-- The one buffer the host line after the launch writes. -/
def later : Finset (Ref sig .tc) := {main_v204}

theorem later_writes : ∀ ops ∈ ([hostOps1] : List (List (HloOp τ sig (Elt F)))), ∀ op ∈ ops,
    ∀ b : Ref sig .tc, Proc.devRef .tc b ∈ op.writes → b ∈ later := by
  intro ops hops op hop b hb
  obtain rfl := List.mem_singleton.mp hops
  obtain rfl := List.mem_singleton.mp hop
  simp only [StableHlo.reshape_writes, StableHlo.unary_writes, Finset.mem_singleton] at hb
  cases Proc.devRef_injective _ hb
  decide

/-- What the launch leaves: the arrays that are only read as they were, and every other buffer but `later`. -/
abbrev Left : PUnit × MemSt nD τ sig (Elt F) → Prop :=
  Pipeline.RDat.FramePostR (cfgs 0) (fun c => (dats m 0 c).toRForget forgotten) later (V m)

set_option backward.isDefEq.respectTransparency.types false in
set_option maxHeartbeats 800000 in
/-- Every weakly fair run ends so, every semaphore counter at zero. -/
theorem launch : θ_run defs (onTc (τ := τ) (main (F := F))) (s₀ m ρ) (fun r => Left m r ∧ r.2.sem = fun _ => 0) :=
  Pipeline.θ_run_frame_around_T_forget (Q' := _) cfgs (dats m) (0 : Fin 1) launch0 defs₀ Variants.none forgotten later m ρ main
    (hbody := body_sound m) (hshare := fun c => (dats m 0 c).share_full fun _ => rfl)
    (howed := fun _ _ => rfl) (V₀ := V0 m) (opss := [hostOps1]) (hsub := sfx_sub) (hfresh := sfx_fresh) (hkeep := sfx_keeps)
    (hT := later_writes) (hmain := hmain m Variants.none) (hA := A_eq m) (hΦ := fun _ _ => rfl)

variable {m} in
/-- A buffer no window stages and no host line writes ends as it began. -/
theorem rest {r : PUnit × MemSt nD τ sig (Elt F)} (h : Left m r) (c : Dev nD) (b : Ref sig .tc)
    (hs : b.isScoped = false) (ha : ∀ w, (spec0 w).arr.view.ref ≠ b) (hl : b ∉ later) (hV : V m c b = m ((c : Thread nD τ).loc b)) :
    r.2.mem ((c : Thread nD τ).loc b) = m ((c : Thread nD τ).loc b) :=
  ((h c).2 b (Finset.mem_sdiff.mpr ⟨Pipeline.mem_restRefs_of b hs ha, hl⟩)).trans hV

variable {m} in
/-- An array a window only reads ends as it began. -/
theorem staged {r : PUnit × MemSt nD τ sig (Elt F)} (h : Left m r) (c : Dev nD) (w : Fin cfg0.W)
    (hin : (cfg0.win w).isOut = false) :
    r.2.mem ((cfg0.spec w).arr.view.loc (c : Thread nD τ)) = V m c (Pipeline.arrRef spec0 w) :=
  (Pipeline.RDat.FramePostR.arr_in h c w hin).trans (A_eq m c w)

/-- The kernel's arguments end as they began and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun r h => ⟨fun c =>
    ⟨(staged h.1 c 0 rfl).trans (V_main_arg0 m c),
     (staged h.1 c 1 rfl).trans (V_main_arg1 m c),
     (staged h.1 c 2 rfl).trans (V_main_arg2 m c),
     (staged h.1 c 3 rfl).trans (V_main_arg3 m c),
     rest h.1 c main_arg4 (by decide) (by decide) (by decide) (V_main_arg4 m c),
     rest h.1 c main_arg5 (by decide) (by decide) (by decide) (V_main_arg5 m c),
     rest h.1 c main_arg6 (by decide) (by decide) (by decide) (V_main_arg6 m c),
     rest h.1 c main_arg7 (by decide) (by decide) (by decide) (V_main_arg7 m c),
     rest h.1 c main_arg8 (by decide) (by decide) (by decide) (V_main_arg8 m c),
     rest h.1 c main_arg9 (by decide) (by decide) (by decide) (V_main_arg9 m c),
     rest h.1 c main_arg10 (by decide) (by decide) (by decide) (V_main_arg10 m c),
     rest h.1 c main_arg11 (by decide) (by decide) (by decide) (V_main_arg11 m c),
     rest h.1 c main_arg12 (by decide) (by decide) (by decide) (V_main_arg12 m c),
     rest h.1 c main_arg13 (by decide) (by decide) (by decide) (V_main_arg13 m c),
     rest h.1 c main_arg14 (by decide) (by decide) (by decide) (V_main_arg14 m c),
     rest h.1 c main_arg15 (by decide) (by decide) (by decide) (V_main_arg15 m c),
     rest h.1 c main_arg16 (by decide) (by decide) (by decide) (V_main_arg16 m c),
     rest h.1 c main_arg17 (by decide) (by decide) (by decide) (V_main_arg17 m c),
     rest h.1 c main_arg18 (by decide) (by decide) (by decide) (V_main_arg18 m c),
     rest h.1 c main_arg19 (by decide) (by decide) (by decide) (V_main_arg19 m c)⟩, h.2⟩)
    (launch m ρ)

end Cert.Kernel.Own
-- ==== Proof.Own.Blocks.lean ====
/- What one grid point of the kernel writes: the block each of the body's six cases stores, as a function of the
   blocks it loads.  Each is the composition of the body's own payloads; nothing is simplified here. -/
module

public import proofs.«01_k».proof.Proof.Gen.KernelIdeal.Skeleton
public import Idealize.ShloMosaic.Lib.Pipeline.FrameBody

@[expose] public section

set_option maxRecDepth 16384

noncomputable section

namespace Cert.KernelIdeal.Own

open Idealize.ShloMosaic Idealize.ShloMosaic.TcCoe Cert.KernelIdeal.Gen

variable {F : FTy → Type} [FloatOps F]

/-- The lane numbers of a 4096-pixel block, and of the two smaller levels. -/
abbrev lanes4096 : IVec S1x4096 32 := iota .tc S1x4096 32 [1] iota_S1x4096_d1_w32
@[inherit_doc lanes4096] abbrev lanes1024 : IVec S1x1024 32 := iota .tc S1x1024 32 [1] iota_S1x1024_d1_w32
@[inherit_doc lanes4096] abbrev lanes256 : IVec S1x256 32 := iota .tc S1x256 32 [1] iota_S1x256_d1_w32

/-! ## Level 0, rows 0 to 31 -/

/-- The running sum of the first taps of the top block. -/
abbrev preA (w : Vec F S216x96 .bf16) (x : Vec F S1x33x128x96 .f32) (bt : Vec F S32x8 .f32) : FVec F S24x4096 .f32 :=
  k0_pay14 (k0_pay9 w x) lanes4096 k0_pay10 (k0_pay11 (k0_pay1 bt) w x) (k0_pay12 w x) k0_pay13
/-- All nine taps and the bias of the top block. -/
abbrev accA (w : Vec F S216x96 .bf16) (x : Vec F S1x33x128x96 .f32) (bt : Vec F S32x8 .f32) : FVec F S24x4096 .f32 :=
  k0_pay17 k0_pay10 (preA w x bt) (k0_pay15 (k0_pay9 w x)) k0_pay16
/-- The block stored for the top rows of level 0. -/
abbrev blkA (w : Vec F S216x96 .bf16) (x : Vec F S1x33x128x96 .f32) (bt : Vec F S32x8 .f32) (ct : Vec F S64x8 .f32) :
    FVec F S1x4096x56 .f32 :=
  k0_pay3 ct (accA w x bt) (k0_pay18 k0_pay10 (preA w x bt) (k0_pay15 (k0_pay9 w x)) k0_pay16) k0_pay19 k0_pay20
    (k0_pay21 k0_pay10 (preA w x bt) (k0_pay15 (k0_pay9 w x)) k0_pay16)
    (k0_pay22 k0_pay10 (preA w x bt) (k0_pay15 (k0_pay9 w x)) k0_pay16) (k0_pay23 (k0_pay2 ct))
    (k0_pay24 k0_pay10 (preA w x bt) (k0_pay15 (k0_pay9 w x)) k0_pay16)
    (k0_pay25 k0_pay10 (preA w x bt) (k0_pay15 (k0_pay9 w x)) k0_pay16) (k0_pay26 (k0_pay2 ct))
    (k0_pay27 k0_pay10 (preA w x bt) (k0_pay15 (k0_pay9 w x)) k0_pay16)
    (k0_pay28 k0_pay10 (preA w x bt) (k0_pay15 (k0_pay9 w x)) k0_pay16)

/-! ## Level 0, rows 32 to 63 and rows 64 to 95 -/

/-- All nine taps and the bias of the second block. -/
abbrev accB (w : Vec F S216x96 .bf16) (x : Vec F S1x34x128x96 .f32) (bt : Vec F S32x8 .f32) : FVec F S24x4096 .f32 :=
  k0_pay32 (k0_pay29 w x) k0_pay30 (k0_pay31 (k0_pay1 bt) w x)
/-- The block stored for the second quarter of level 0. -/
abbrev blkB (w : Vec F S216x96 .bf16) (x : Vec F S1x34x128x96 .f32) (bt : Vec F S32x8 .f32) (ct : Vec F S64x8 .f32) :
    FVec F S1x4096x56 .f32 :=
  k0_pay4 ct (accB w x bt) (k0_pay33 (k0_pay29 w x) k0_pay30 (k0_pay31 (k0_pay1 bt) w x)) lanes4096

/-- All nine taps and the bias of the third block. -/
abbrev accC (w : Vec F S216x96 .bf16) (x : Vec F S1x34x128x96 .f32) (bt : Vec F S32x8 .f32) : FVec F S24x4096 .f32 :=
  k0_pay37 (k0_pay34 w x) k0_pay35 (k0_pay36 (k0_pay1 bt) w x)
/-- The block stored for the third quarter of level 0. -/
abbrev blkC (w : Vec F S216x96 .bf16) (x : Vec F S1x34x128x96 .f32) (bt : Vec F S32x8 .f32) (ct : Vec F S64x8 .f32) :
    FVec F S1x4096x56 .f32 :=
  k0_pay5 ct (accC w x bt) (k0_pay38 (k0_pay34 w x) k0_pay35 (k0_pay36 (k0_pay1 bt) w x)) lanes4096

/-! ## Level 0, rows 96 to 127 -/

/-- The running sum of the first taps of the bottom block. -/
abbrev preD (w : Vec F S216x96 .bf16) (x : Vec F S1x33x128x96 .f32) (bt : Vec F S32x8 .f32) : FVec F S24x4096 .f32 :=
  k0_pay42 (k0_pay39 w x) lanes4096 k0_pay40 (k0_pay41 (k0_pay1 bt) w x)
/-- All nine taps and the bias of the bottom block. -/
abbrev accD (w : Vec F S216x96 .bf16) (x : Vec F S1x33x128x96 .f32) (bt : Vec F S32x8 .f32) : FVec F S24x4096 .f32 :=
  k0_pay46 (preD w x bt) (k0_pay43 (k0_pay39 w x)) (k0_pay44 k0_pay40) (k0_pay45 lanes4096)
/-- The block stored for the bottom rows of level 0. -/
abbrev blkD (w : Vec F S216x96 .bf16) (x : Vec F S1x33x128x96 .f32) (bt : Vec F S32x8 .f32) (ct : Vec F S64x8 .f32) :
    FVec F S1x4096x56 .f32 :=
  k0_pay6 ct (accD w x bt)
    (k0_pay47 (preD w x bt) (k0_pay43 (k0_pay39 w x)) (k0_pay44 k0_pay40) (k0_pay45 lanes4096)) k0_pay48 k0_pay49
    (k0_pay50 (preD w x bt) (k0_pay43 (k0_pay39 w x)) (k0_pay44 k0_pay40) (k0_pay45 lanes4096))
    (k0_pay51 (preD w x bt) (k0_pay43 (k0_pay39 w x)) (k0_pay44 k0_pay40) (k0_pay45 lanes4096)) (k0_pay52 (k0_pay2 ct))
    (k0_pay53 (preD w x bt) (k0_pay43 (k0_pay39 w x)) (k0_pay44 k0_pay40) (k0_pay45 lanes4096))
    (k0_pay54 (preD w x bt) (k0_pay43 (k0_pay39 w x)) (k0_pay44 k0_pay40) (k0_pay45 lanes4096)) (k0_pay55 (k0_pay2 ct))
    (k0_pay56 (preD w x bt) (k0_pay43 (k0_pay39 w x)) (k0_pay44 k0_pay40) (k0_pay45 lanes4096))
    (k0_pay57 (preD w x bt) (k0_pay43 (k0_pay39 w x)) (k0_pay44 k0_pay40) (k0_pay45 lanes4096))

/-! ## Level 1 -/

/-- The running sum of the first taps of level 1. -/
abbrev preE (w : Vec F S216x192 .bf16) (x : Vec F S1x64x64x192 .f32) (bt : Vec F S32x8 .f32) : FVec F S24x4096 .f32 :=
  k0_pay64 (k0_pay58 w x) lanes4096 k0_pay59 (k0_pay60 (k0_pay1 bt) w x) (k0_pay61 w x) k0_pay62 k0_pay63
/-- All nine taps and the bias of level 1. -/
abbrev accE (w : Vec F S216x192 .bf16) (x : Vec F S1x64x64x192 .f32) (bt : Vec F S32x8 .f32) : FVec F S24x4096 .f32 :=
  k0_pay67 (k0_pay58 w x) lanes4096 k0_pay59 (preE w x bt) (k0_pay65 (k0_pay58 w x)) (k0_pay66 lanes4096)
/-- The block stored for level 1. -/
abbrev blkE (w : Vec F S216x192 .bf16) (x : Vec F S1x64x64x192 .f32) (bt : Vec F S32x8 .f32) (ct : Vec F S64x8 .f32) :
    FVec F S1x4096x56 .f32 :=
  k0_pay7 ct (accE w x bt)
    (k0_pay68 (k0_pay58 w x) lanes4096 k0_pay59 (preE w x bt) (k0_pay65 (k0_pay58 w x)) (k0_pay66 lanes4096))
    k0_pay69 k0_pay70 k0_pay71

/-! ## Levels 2 and 3 -/

/-- The running sum of the first taps of level 2. -/
abbrev preF (w : Vec F S216x384 .bf16) (x : Vec F S1x32x32x384 .f32) (bt : Vec F S32x8 .f32) : FVec F S24x1024 .f32 :=
  k0_pay78 (k0_pay72 w x) lanes1024 k0_pay73 (k0_pay74 (k0_pay1 bt) w x) (k0_pay75 w x) k0_pay76 k0_pay77
/-- All nine taps and the bias of level 2. -/
abbrev accF (w : Vec F S216x384 .bf16) (x : Vec F S1x32x32x384 .f32) (bt : Vec F S32x8 .f32) : FVec F S24x1024 .f32 :=
  k0_pay81 (k0_pay72 w x) lanes1024 k0_pay73 (preF w x bt) (k0_pay79 (k0_pay72 w x)) (k0_pay80 lanes1024)
/-- The block stored for level 2. -/
abbrev blkF (w : Vec F S216x384 .bf16) (x : Vec F S1x32x32x384 .f32) (bt : Vec F S32x8 .f32) (ct : Vec F S64x8 .f32) :
    FVec F S1x1024x56 .f32 :=
  k0_pay86 (k0_pay2 ct) (accF w x bt)
    (k0_pay82 (k0_pay72 w x) lanes1024 k0_pay73 (preF w x bt) (k0_pay79 (k0_pay72 w x)) (k0_pay80 lanes1024))
    k0_pay83 k0_pay84 k0_pay85

/-- The running sum of the first taps of level 3. -/
abbrev preG (w : Vec F S216x768 .bf16) (x : Vec F S1x16x16x768 .f32) (bt : Vec F S32x8 .f32) : FVec F S24x256 .f32 :=
  k0_pay92 (k0_pay87 w x) lanes256 k0_pay88 (k0_pay89 (k0_pay1 bt)) (k0_pay90 w x) k0_pay91
/-- All nine taps and the bias of level 3. -/
abbrev accG (w : Vec F S216x768 .bf16) (x : Vec F S1x16x16x768 .f32) (bt : Vec F S32x8 .f32) : FVec F S24x256 .f32 :=
  k0_pay94 (k0_pay87 w x) lanes256 k0_pay88 (preG w x bt) (k0_pay93 (k0_pay87 w x))
/-- The block stored for level 3. -/
abbrev blkG (w : Vec F S216x768 .bf16) (x : Vec F S1x16x16x768 .f32) (bt : Vec F S32x8 .f32) (ct : Vec F S64x8 .f32) :
    FVec F S1x256x56 .f32 :=
  k0_pay8 (k0_pay97 (k0_pay2 ct) (accG w x bt)
    (k0_pay95 (k0_pay87 w x) lanes256 k0_pay88 (preG w x bt) (k0_pay93 (k0_pay87 w x)))
    (iota .tc S8x256 32 [0] iota_S8x256_d0_w32) k0_pay96)

/-! ## The row slabs of level 0 -/

/-- The rows of level 0 the four blocks read: rows 0 to 32, 31 to 64, 63 to 96 and 95 to 127. -/
abbrev slabA (x : Vec F S1x128x128x96 .f32) : Vec F S1x33x128x96 .f32 :=
  View.ld x (Rect.unit (s := S1x128x128x96) ![0, 0, 0, 0] S1x33x128x96.size inb_S1x128x128x96_S1x33x128x96_0_0_0_0)
@[inherit_doc slabA] abbrev slabB (x : Vec F S1x128x128x96 .f32) : Vec F S1x34x128x96 .f32 :=
  View.ld x (Rect.unit (s := S1x128x128x96) ![0, 31, 0, 0] S1x34x128x96.size inb_S1x128x128x96_S1x34x128x96_0_31_0_0)
@[inherit_doc slabA] abbrev slabC (x : Vec F S1x128x128x96 .f32) : Vec F S1x34x128x96 .f32 :=
  View.ld x (Rect.unit (s := S1x128x128x96) ![0, 63, 0, 0] S1x34x128x96.size inb_S1x128x128x96_S1x34x128x96_0_63_0_0)
@[inherit_doc slabA] abbrev slabD (x : Vec F S1x128x128x96 .f32) : Vec F S1x33x128x96 .f32 :=
  View.ld x (Rect.unit (s := S1x128x128x96) ![0, 95, 0, 0] S1x33x128x96.size inb_S1x128x128x96_S1x33x128x96_0_95_0_0)

end Cert.KernelIdeal.Own
-- ==== Proof.Own.RunBase.lean ====
/- The statement of one run of the kernel body: on whole staging buffers holding given blocks it leaves the inputs as
   they were and the output buffer at a stated function of what it held. -/
module

public import proofs.«01_k».proof.Proof.Own.Blocks
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit.Basic
public import Idealize.ShloMosaic.Lib.VecWindow
public import Idealize.ShloMosaic.Lib.WritesUnit
public import Idealize.ShloMosaic.Lib.Ring
public import Idealize.ShloMosaic.Lib.Pointwise
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The eleven staging buffers a grid point's body runs on, each whole. -/
structure Bufs where
  a2 : Memref sig .tc .vmem S1x128x128x96 .f32
  h2 : a2.IsWhole
  a3 : Memref sig .tc .vmem S1x64x64x192 .f32
  h3 : a3.IsWhole
  a4 : Memref sig .tc .vmem S1x32x32x384 .f32
  h4 : a4.IsWhole
  a5 : Memref sig .tc .vmem S1x16x16x768 .f32
  h5 : a5.IsWhole
  a6 : Memref sig .tc .vmem S216x96 .bf16
  h6 : a6.IsWhole
  a7 : Memref sig .tc .vmem S216x192 .bf16
  h7 : a7.IsWhole
  a8 : Memref sig .tc .vmem S216x384 .bf16
  h8 : a8.IsWhole
  a9 : Memref sig .tc .vmem S216x768 .bf16
  h9 : a9.IsWhole
  a10 : Memref sig .tc .vmem S32x8 .f32
  h10 : a10.IsWhole
  a11 : Memref sig .tc .vmem S64x8 .f32
  h11 : a11.IsWhole
  a12 : Memref sig .tc .vmem S1x4096x56 .f32
  h12 : a12.IsWhole

/-- The ten input blocks of a grid point. -/
structure Ins (F : FTy → Type) [FloatOps F] where
  x0 : Vec F S1x128x128x96 .f32
  x1 : Vec F S1x64x64x192 .f32
  x2 : Vec F S1x32x32x384 .f32
  x3 : Vec F S1x16x16x768 .f32
  x4 : Vec F S216x96 .bf16
  x5 : Vec F S216x192 .bf16
  x6 : Vec F S216x384 .bf16
  x7 : Vec F S216x768 .bf16
  x8 : Vec F S32x8 .f32
  x9 : Vec F S64x8 .f32

/-- The input buffers hold the input blocks. -/
def held (c : Dev nD) (M : Bufs) (X : Ins F) : sProp 𝕄 :=
  iprop(owns (c : Thread nD τ) M.a2 fullShare X.x0 ∗ owns (c : Thread nD τ) M.a3 fullShare X.x1
    ∗ owns (c : Thread nD τ) M.a4 fullShare X.x2 ∗ owns (c : Thread nD τ) M.a5 fullShare X.x3
    ∗ owns (c : Thread nD τ) M.a6 fullShare X.x4 ∗ owns (c : Thread nD τ) M.a7 fullShare X.x5
    ∗ owns (c : Thread nD τ) M.a8 fullShare X.x6 ∗ owns (c : Thread nD τ) M.a9 fullShare X.x7
    ∗ owns (c : Thread nD τ) M.a10 fullShare X.x8 ∗ owns (c : Thread nD τ) M.a11 fullShare X.x9)

/-- The body at coordinates `i` on the buffers `M`. -/
abbrev bodyOn (i : grid0.Coords) (M : Bufs) : Prog (TpuEff nD τ sig (Elt F) Λ₀ .tc) PUnit :=
  cc0__ssd_head_kernel i M.a2 M.h2 M.a3 M.h3 M.a4 M.h4 M.a5 M.h5 M.a6 M.h6 M.a7 M.h7 M.a8 M.h8 M.a9 M.h9 M.a10 M.h10
    M.a11 M.h11 M.a12 M.h12

/-- The body at `i`, on any buffers holding the blocks `X`, leaves them so and turns the output buffer's contents `d`
    into `out d`. -/
def RunsTo (c : Dev nD) (i : grid0.Coords) (X : Ins F) (out : Vec F S1x4096x56 .f32 → Vec F S1x4096x56 .f32) : Prop :=
  ∀ (M : Bufs) (E : Set ℕ) (K : PUnit → sProp 𝕄),
    iprop(held c M X ∗ (∃ d, owns (c : Thread nD τ) M.a12 fullShare d)
      ∗ (iprop(held c M X ∗ (∃ d, owns (c : Thread nD τ) M.a12 fullShare (out d))) -∗ K ⟨⟩))
    ⊢ wp frame (wpE (defs₀ (F := F)) Variants.none c none) E (bodyOn i M) K

/-- Ten buffers at contents that read the blocks are the input buffers held. -/
theorem held_of (c : Dev nD) (M : Bufs) (X : Ins F) {f0 : M.a2.view.ty.Contents (Elt F)} {f1 : M.a3.view.ty.Contents (Elt F)}
    {f2 : M.a4.view.ty.Contents (Elt F)} {f3 : M.a5.view.ty.Contents (Elt F)} {f4 : M.a6.view.ty.Contents (Elt F)}
    {f5 : M.a7.view.ty.Contents (Elt F)} {f6 : M.a8.view.ty.Contents (Elt F)} {f7 : M.a9.view.ty.Contents (Elt F)}
    {f8 : M.a10.view.ty.Contents (Elt F)} {f9 : M.a11.view.ty.Contents (Elt F)}
    (h0 : M.a2.view.read (Elt F) f0 = X.x0) (h1 : M.a3.view.read (Elt F) f1 = X.x1) (h2 : M.a4.view.read (Elt F) f2 = X.x2)
    (h3 : M.a5.view.read (Elt F) f3 = X.x3) (h4 : M.a6.view.read (Elt F) f4 = X.x4) (h5 : M.a7.view.read (Elt F) f5 = X.x5)
    (h6 : M.a8.view.read (Elt F) f6 = X.x6) (h7 : M.a9.view.read (Elt F) f7 = X.x7) (h8 : M.a10.view.read (Elt F) f8 = X.x8)
    (h9 : M.a11.view.read (Elt F) f9 = X.x9) :
    iprop((M.a2.view.loc (c : Thread nD τ) ↦[M.a2.view.set]{fullShare} f0) ∗ (M.a3.view.loc (c : Thread nD τ) ↦[M.a3.view.set]{fullShare} f1)
      ∗ (M.a4.view.loc (c : Thread nD τ) ↦[M.a4.view.set]{fullShare} f2) ∗ (M.a5.view.loc (c : Thread nD τ) ↦[M.a5.view.set]{fullShare} f3)
      ∗ (M.a6.view.loc (c : Thread nD τ) ↦[M.a6.view.set]{fullShare} f4) ∗ (M.a7.view.loc (c : Thread nD τ) ↦[M.a7.view.set]{fullShare} f5)
      ∗ (M.a8.view.loc (c : Thread nD τ) ↦[M.a8.view.set]{fullShare} f6) ∗ (M.a9.view.loc (c : Thread nD τ) ↦[M.a9.view.set]{fullShare} f7)
      ∗ (M.a10.view.loc (c : Thread nD τ) ↦[M.a10.view.set]{fullShare} f8) ∗ (M.a11.view.loc (c : Thread nD τ) ↦[M.a11.view.set]{fullShare} f9))
    ⊢ (held c M X : sProp 𝕄) := by
  unfold held owns
  iintro ⟨H0, H1, H2, H3, H4, H5, H6, H7, H8, H9⟩
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  iexists f9; isplitr; · ipureintro; exact h9
  iexact H9

/-- A load of a whole buffer is what it holds. -/
theorem readAt_all {s : Shape} {e : EltTy} (a : Memref sig .tc .vmem s e) {f : a.view.ty.Contents (Elt F)} {X : s.Idx → Elt F e}
    (h : a.view.read (Elt F) f = X) {off : Fin s.rank → ℕ} (inb : ∀ k, off k + s.size k ≤ s.size k) (h0 : ∀ k, off k = 0) :
    a.view.readAt (Elt F) (Rect.unit off s.size inb).toLoadRect f = X := by
  rw [View.readAt_eq_ld, h]
  exact View.ld_unit_lit inb X h0

/-- A load of part of a buffer is that part of what it holds. -/
theorem readAt_part {s : Shape} {e : EltTy} (a : Memref sig .tc .vmem s e) {f : a.view.ty.Contents (Elt F)} {X : s.Idx → Elt F e}
    (h : a.view.read (Elt F) f = X) (r : Rect s) : a.view.readAt (Elt F) r.toLoadRect f = View.ld X r := by
  rw [View.readAt_eq_ld, h]

/-- Equal loads give equal blocks. -/
theorem block_congr {W X B C D : Type} (f : W → X → B → C → D) {w w' : W} {x x' : X} {b b' : B} {t t' : C}
    (hw : w = w') (hx : x = x') (hb : b = b') (ht : t = t') : f w x b t = f w' x' b' t' := by
  subst hw hx hb ht; rfl

end Cert.KernelIdeal.Own
-- ==== Proof.Own.Runs.lean ====
/- The six runs of the kernel body: which block each branch stores. -/
module

public import proofs.«01_k».proof.Proof.Own.RunBase

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The block of levels 2 and 3 stored over what the buffer held: 1024 rows, then 256, the rest untouched. -/
def tailOut (u : Vec F S1x1024x56 .f32) (v : Vec F S1x256x56 .f32) (d : Vec F S1x4096x56 .f32) : Vec F S1x4096x56 .f32 :=
  fun y => if h : (y 1).val < 1024 then u (ix3 0 ⟨(y 1).val, h⟩ (y 2))
    else if h' : (y 1).val < 1280 then v (ix3 0 ⟨(y 1).val - 1024, by omega⟩ (y 2)) else d y

set_option maxHeartbeats 1000000 in
/-- The body where the first branch is taken: the top quarter of level 0. -/
theorem runA (c : Dev nD) (i : grid0.Coords) (X : Ins F) (hc0 : k0_cond1 i = 1#1) (hc1 : ¬k0_cond2 i = 1#1)
    (hc2 : ¬k0_cond3 i = 1#1) (hc3 : ¬k0_cond4 i = 1#1) (hc4 : ¬k0_cond5 i = 1#1) (hc5 : ¬k0_cond6 i = 1#1) :
    RunsTo c i X fun _ => blkA X.x4 (slabA X.x0) X.x8 X.x9 := by
  intro M E K
  unfold held bodyOn
  simp only [cc0__ssd_head_kernel_eq_skeleton]; unfold cc0__ssd_head_kernel_skel
  simp only [k0_part1_eq_skeleton, k0_part2_eq_skeleton, k0_part3_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩⟩, ⟨%d10, %f10, %hf10, H10⟩, Hk⟩
  sl_exec (disch := first | sl_exact hc0 | sl_exact hc1 | sl_exact hc2 | sl_exact hc3 | sl_exact hc4 | sl_exact hc5)
  sl_step
  iapply Hk
  isplitr [H10]
  · have hh := held_of c M X hf0 hf1 hf2 hf3 hf4 hf5 hf6 hf7 hf8 hf9
    unfold held owns at hh
    iapply hh
    iframe
  iexists d10, _; isplitr; swap; · iexact H10
  ipureintro
  rw [View.read_writes_full]
  delta runA.sl.r_5 runA.sl.r_6 runA.sl.r_7 runA.sl.r_8 runA.sl.r_9 runA.sl.r_10 runA.sl.r_11 runA.sl.r_12 runA.sl.r_13 runA.sl.r_14
  exact block_congr blkA (readAt_all M.a6 hf4 inb_S216x96_S216x96_0_0 (by decide)) (readAt_part M.a2 hf0 _)
    (readAt_all M.a10 hf8 inb_S32x8_S32x8_0_0 (by decide)) (readAt_all M.a11 hf9 inb_S64x8_S64x8_0_0 (by decide))

set_option maxHeartbeats 1000000 in
/-- The second branch: the second quarter of level 0. -/
theorem runB (c : Dev nD) (i : grid0.Coords) (X : Ins F) (hc0 : ¬k0_cond1 i = 1#1) (hc1 : k0_cond2 i = 1#1)
    (hc2 : ¬k0_cond3 i = 1#1) (hc3 : ¬k0_cond4 i = 1#1) (hc4 : ¬k0_cond5 i = 1#1) (hc5 : ¬k0_cond6 i = 1#1) :
    RunsTo c i X fun _ => blkB X.x4 (slabB X.x0) X.x8 X.x9 := by
  intro M E K
  unfold held bodyOn
  simp only [cc0__ssd_head_kernel_eq_skeleton]; unfold cc0__ssd_head_kernel_skel
  simp only [k0_part4_eq_skeleton, k0_part5_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩⟩, ⟨%d10, %f10, %hf10, H10⟩, Hk⟩
  sl_exec (disch := first | sl_exact hc0 | sl_exact hc1 | sl_exact hc2 | sl_exact hc3 | sl_exact hc4 | sl_exact hc5)
  sl_step
  iapply Hk
  isplitr [H10]
  · have hh := held_of c M X hf0 hf1 hf2 hf3 hf4 hf5 hf6 hf7 hf8 hf9
    unfold held owns at hh
    iapply hh
    iframe
  iexists d10, _; isplitr; swap; · iexact H10
  ipureintro
  rw [View.read_writes_full]
  delta runB.sl.r_2 runB.sl.r_3 runB.sl.v119
  exact block_congr blkB (readAt_all M.a6 hf4 inb_S216x96_S216x96_0_0 (by decide)) (readAt_part M.a2 hf0 _)
    (readAt_all M.a10 hf8 inb_S32x8_S32x8_0_0 (by decide)) (readAt_all M.a11 hf9 inb_S64x8_S64x8_0_0 (by decide))

set_option maxHeartbeats 1000000 in
/-- The third branch: the third quarter of level 0. -/
theorem runC (c : Dev nD) (i : grid0.Coords) (X : Ins F) (hc0 : ¬k0_cond1 i = 1#1) (hc1 : ¬k0_cond2 i = 1#1)
    (hc2 : k0_cond3 i = 1#1) (hc3 : ¬k0_cond4 i = 1#1) (hc4 : ¬k0_cond5 i = 1#1) (hc5 : ¬k0_cond6 i = 1#1) :
    RunsTo c i X fun _ => blkC X.x4 (slabC X.x0) X.x8 X.x9 := by
  intro M E K
  unfold held bodyOn
  simp only [cc0__ssd_head_kernel_eq_skeleton]; unfold cc0__ssd_head_kernel_skel
  simp only [k0_part6_eq_skeleton, k0_part7_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩⟩, ⟨%d10, %f10, %hf10, H10⟩, Hk⟩
  sl_exec (disch := first | sl_exact hc0 | sl_exact hc1 | sl_exact hc2 | sl_exact hc3 | sl_exact hc4 | sl_exact hc5)
  sl_step
  iapply Hk
  isplitr [H10]
  · have hh := held_of c M X hf0 hf1 hf2 hf3 hf4 hf5 hf6 hf7 hf8 hf9
    unfold held owns at hh
    iapply hh
    iframe
  iexists d10, _; isplitr; swap; · iexact H10
  ipureintro
  rw [View.read_writes_full]
  delta runC.sl.r_2 runC.sl.r_3 runC.sl.v119
  exact block_congr blkC (readAt_all M.a6 hf4 inb_S216x96_S216x96_0_0 (by decide)) (readAt_part M.a2 hf0 _)
    (readAt_all M.a10 hf8 inb_S32x8_S32x8_0_0 (by decide)) (readAt_all M.a11 hf9 inb_S64x8_S64x8_0_0 (by decide))

set_option maxHeartbeats 1000000 in
/-- The fourth branch: the bottom quarter of level 0. -/
theorem runD (c : Dev nD) (i : grid0.Coords) (X : Ins F) (hc0 : ¬k0_cond1 i = 1#1) (hc1 : ¬k0_cond2 i = 1#1)
    (hc2 : ¬k0_cond3 i = 1#1) (hc3 : k0_cond4 i = 1#1) (hc4 : ¬k0_cond5 i = 1#1) (hc5 : ¬k0_cond6 i = 1#1) :
    RunsTo c i X fun _ => blkD X.x4 (slabD X.x0) X.x8 X.x9 := by
  intro M E K
  unfold held bodyOn
  simp only [cc0__ssd_head_kernel_eq_skeleton]; unfold cc0__ssd_head_kernel_skel
  simp only [k0_part8_eq_skeleton, k0_part9_eq_skeleton, k0_part10_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩⟩, ⟨%d10, %f10, %hf10, H10⟩, Hk⟩
  sl_exec (disch := first | sl_exact hc0 | sl_exact hc1 | sl_exact hc2 | sl_exact hc3 | sl_exact hc4 | sl_exact hc5)
  sl_step
  iapply Hk
  isplitr [H10]
  · have hh := held_of c M X hf0 hf1 hf2 hf3 hf4 hf5 hf6 hf7 hf8 hf9
    unfold held owns at hh
    iapply hh
    iframe
  iexists d10, _; isplitr; swap; · iexact H10
  ipureintro
  rw [View.read_writes_full]
  delta runD.sl.r_4 runD.sl.r_5 runD.sl.r_6 runD.sl.r_7 runD.sl.r_8 runD.sl.r_9 runD.sl.r_10 runD.sl.r_11 runD.sl.r_12 runD.sl.r_13
  exact block_congr blkD (readAt_all M.a6 hf4 inb_S216x96_S216x96_0_0 (by decide)) (readAt_part M.a2 hf0 _)
    (readAt_all M.a10 hf8 inb_S32x8_S32x8_0_0 (by decide)) (readAt_all M.a11 hf9 inb_S64x8_S64x8_0_0 (by decide))

set_option maxHeartbeats 1000000 in
/-- The fifth branch: level 1. -/
theorem runE (c : Dev nD) (i : grid0.Coords) (X : Ins F) (hc0 : ¬k0_cond1 i = 1#1) (hc1 : ¬k0_cond2 i = 1#1)
    (hc2 : ¬k0_cond3 i = 1#1) (hc3 : ¬k0_cond4 i = 1#1) (hc4 : k0_cond5 i = 1#1) (hc5 : ¬k0_cond6 i = 1#1) :
    RunsTo c i X fun _ => blkE X.x5 X.x1 X.x8 X.x9 := by
  intro M E K
  unfold held bodyOn
  simp only [cc0__ssd_head_kernel_eq_skeleton]; unfold cc0__ssd_head_kernel_skel
  simp only [k0_part11_eq_skeleton, k0_part12_eq_skeleton, k0_part13_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩⟩, ⟨%d10, %f10, %hf10, H10⟩, Hk⟩
  sl_exec (disch := first | sl_exact hc0 | sl_exact hc1 | sl_exact hc2 | sl_exact hc3 | sl_exact hc4 | sl_exact hc5)
  sl_step
  iapply Hk
  isplitr [H10]
  · have hh := held_of c M X hf0 hf1 hf2 hf3 hf4 hf5 hf6 hf7 hf8 hf9
    unfold held owns at hh
    iapply hh
    iframe
  iexists d10, _; isplitr; swap; · iexact H10
  ipureintro
  rw [View.read_writes_full]
  delta runE.sl.r_5 runE.sl.r_6
  exact block_congr blkE (readAt_all M.a7 hf5 inb_S216x192_S216x192_0_0 (by decide)) (readAt_all M.a3 hf1 inb_S1x64x64x192_S1x64x64x192_0_0_0_0 (by decide))
    (readAt_all M.a10 hf8 inb_S32x8_S32x8_0_0 (by decide)) (readAt_all M.a11 hf9 inb_S64x8_S64x8_0_0 (by decide))

set_option maxHeartbeats 1000000 in
/-- The sixth branch: levels 2 and 3. -/
theorem runF (c : Dev nD) (i : grid0.Coords) (X : Ins F) (hc0 : ¬k0_cond1 i = 1#1) (hc1 : ¬k0_cond2 i = 1#1)
    (hc2 : ¬k0_cond3 i = 1#1) (hc3 : ¬k0_cond4 i = 1#1) (hc4 : ¬k0_cond5 i = 1#1) (hc5 : k0_cond6 i = 1#1) :
    RunsTo c i X (tailOut (blkF X.x6 X.x2 X.x8 X.x9) (blkG X.x7 X.x3 X.x8 X.x9)) := by
  intro M E K
  unfold held bodyOn
  simp only [cc0__ssd_head_kernel_eq_skeleton]; unfold cc0__ssd_head_kernel_skel
  simp only [k0_part14_eq_skeleton, k0_part15_eq_skeleton, k0_part16_eq_skeleton, k0_part17_eq_skeleton, k0_part18_eq_skeleton, k0_part19_eq_skeleton, k0_part20_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩⟩, ⟨%d10, %f10, %hf10, H10⟩, Hk⟩
  sl_exec (disch := first | sl_exact hc0 | sl_exact hc1 | sl_exact hc2 | sl_exact hc3 | sl_exact hc4 | sl_exact hc5)
  sl_step
  iapply Hk
  isplitr [H10]
  · have hh := held_of c M X hf0 hf1 hf2 hf3 hf4 hf5 hf6 hf7 hf8 hf9
    unfold held owns at hh
    iapply hh
    iframe
  iexists d10, _; isplitr; swap; · iexact H10
  ipureintro
  funext y
  have hy0 : (y 0).val < 1 := (y 0).isLt
  unfold tailOut
  split
  · rename_i h
    refine (View.read_writes_cons_unit_of_not_mem M.a12.view f10 inb_S1x4096x56_S1x256x56_0_1024_0 _ _ y rfl 1 (Or.inl h)).trans ?_
    refine (View.read_writes_cons_unit_of_mem M.a12.view f10 inb_S1x4096x56_S1x1024x56_0_0_0 _ _ y (ix3 0 ⟨(y 1).val, h⟩ (y 2)) rfl
      fun a => ?_).trans ?_
    · fin_cases a
      · show (y 0).val = 0 + 0; omega
      · show (y 1).val = 0 + (y 1).val; omega
      · show (y 2).val = 0 + (y 2).val; omega
    · delta runF.sl.r_5 runF.sl.r_6
      exact congrFun (block_congr blkF (readAt_all M.a8 hf6 inb_S216x384_S216x384_0_0 (by decide))
        (readAt_all M.a4 hf2 inb_S1x32x32x384_S1x32x32x384_0_0_0_0 (by decide))
        (readAt_all M.a10 hf8 inb_S32x8_S32x8_0_0 (by decide)) (readAt_all M.a11 hf9 inb_S64x8_S64x8_0_0 (by decide))) _
  · rename_i h
    split
    · rename_i h'
      refine (View.read_writes_cons_unit_of_mem M.a12.view f10 inb_S1x4096x56_S1x256x56_0_1024_0 _ _ y
        (ix3 0 ⟨(y 1).val - 1024, by omega⟩ (y 2)) rfl fun a => ?_).trans ?_
      · fin_cases a
        · show (y 0).val = 0 + 0; omega
        · show (y 1).val = 1024 + ((y 1).val - 1024); omega
        · show (y 2).val = 0 + (y 2).val; omega
      · delta runF.sl.r_14
        exact congrFun (block_congr blkG (readAt_all M.a9 hf7 inb_S216x768_S216x768_0_0 (by decide))
          (readAt_all M.a5 hf3 inb_S1x16x16x768_S1x16x16x768_0_0_0_0 (by decide))
          (readAt_all M.a10 hf8 inb_S32x8_S32x8_0_0 (by decide)) (readAt_all M.a11 hf9 inb_S64x8_S64x8_0_0 (by decide))) _
    · rename_i h'
      refine (View.read_writes_cons_unit_of_not_mem M.a12.view f10 inb_S1x4096x56_S1x256x56_0_1024_0 _ _ y rfl 1 (Or.inr ?_)).trans ?_
      · show 1024 + 256 ≤ (y 1).val; omega
      refine (View.read_writes_cons_unit_of_not_mem M.a12.view f10 inb_S1x4096x56_S1x1024x56_0_0_0 _ _ y rfl 1 (Or.inr ?_)).trans ?_
      · show 0 + 1024 ≤ (y 1).val; omega
      · exact congrFun hf10 y

end Cert.KernelIdeal.Own
-- ==== Proof.Own.Launch.lean ====
/- The launch with values: after the body at each grid point the output buffer holds that point's block (on the part
   written back), so the whole run ends with the output array at what the write-backs leave. -/
module

public import proofs.«01_k».proof.Proof.Own.Runs
public import proofs.«01_k».proof.Proof.Gen.KernelIdeal.Frame
public import Idealize.ShloMosaic.Lib.Pipeline.ValueKit.Geometry

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.KernelIdeal.Gen

variable {F : FTy → Type} [FloatOps F]

local notation "𝕄" => MT nD τ sig Unit (Elt F) ℕ (UR sig nD τ) ℕ

/-! ## Which branch a grid point takes -/

/-- The second grid coordinate of point `t` is `t mod 6`, and each branch compares it with its number. -/
theorem branch_iff (t : Fin grid0.N) :
    (k0_cond1 (grid0.coords t) = 1#1 ↔ t.val % 6 = 0) ∧ (k0_cond2 (grid0.coords t) = 1#1 ↔ t.val % 6 = 1)
      ∧ (k0_cond3 (grid0.coords t) = 1#1 ↔ t.val % 6 = 2) ∧ (k0_cond4 (grid0.coords t) = 1#1 ↔ t.val % 6 = 3)
      ∧ (k0_cond5 (grid0.coords t) = 1#1 ↔ t.val % 6 = 4) ∧ (k0_cond6 (grid0.coords t) = 1#1 ↔ t.val % 6 = 5) := by
  have ht : t.val < 48 := Nat.lt_of_lt_of_eq t.isLt N_0
  have e1 : (grid0.coords t 1).val = t.val / 1 % 6 := Pipeline.Grid.coords_val t 1 (by decide) rfl
  simp only [k0_cond1, k0_cond2, k0_cond3, k0_cond4, k0_cond5, k0_cond6, e1]
  refine ⟨?_, ?_, ?_, ?_, ?_, ?_⟩ <;> word_cmp

/-- What the body at a point of residue `j` makes of the output buffer. -/
def outAt (j : ℕ) (X : Ins F) : Vec F S1x4096x56 .f32 → Vec F S1x4096x56 .f32 :=
  match j with
  | 0 => fun _ => blkA X.x4 (slabA X.x0) X.x8 X.x9
  | 1 => fun _ => blkB X.x4 (slabB X.x0) X.x8 X.x9
  | 2 => fun _ => blkC X.x4 (slabC X.x0) X.x8 X.x9
  | 3 => fun _ => blkD X.x4 (slabD X.x0) X.x8 X.x9
  | 4 => fun _ => blkE X.x5 X.x1 X.x8 X.x9
  | _ => tailOut (blkF X.x6 X.x2 X.x8 X.x9) (blkG X.x7 X.x3 X.x8 X.x9)

/-- The body at any grid point. -/
theorem runAt (c : Dev nD) (t : Fin grid0.N) (X : Ins F) : RunsTo c (grid0.coords t) X (outAt (t.val % 6) X) := by
  obtain ⟨b0, b1, b2, b3, b4, b5⟩ := branch_iff t
  have h6 : t.val % 6 < 6 := Nat.mod_lt _ (by decide)
  generalize t.val % 6 = j at *
  match j, h6 with
  | 0, _ => exact runA c _ X (b0.mpr rfl) (by simp [b1]) (by simp [b2]) (by simp [b3]) (by simp [b4]) (by simp [b5])
  | 1, _ => exact runB c _ X (by simp [b0]) (b1.mpr rfl) (by simp [b2]) (by simp [b3]) (by simp [b4]) (by simp [b5])
  | 2, _ => exact runC c _ X (by simp [b0]) (by simp [b1]) (b2.mpr rfl) (by simp [b3]) (by simp [b4]) (by simp [b5])
  | 3, _ => exact runD c _ X (by simp [b0]) (by simp [b1]) (by simp [b2]) (b3.mpr rfl) (by simp [b4]) (by simp [b5])
  | 4, _ => exact runE c _ X (by simp [b0]) (by simp [b1]) (by simp [b2]) (by simp [b3]) (b4.mpr rfl) (by simp [b5])
  | 5, _ => exact runF c _ X (by simp [b0]) (by simp [b1]) (by simp [b2]) (by simp [b3]) (by simp [b4]) (b5.mpr rfl)

/-- The output window is never idle: every point takes a branch. -/
theorem out_live (t : Fin cfg0.N) : cfg0.idle 10 (grid0.coords t) = false := by
  obtain ⟨b0, b1, b2, b3, b4, b5⟩ := branch_iff t
  have h6 : t.val % 6 < 6 := Nat.mod_lt _ (by decide)
  show (!(k0_cond1 (grid0.coords t) == 1#1) && !(k0_cond2 (grid0.coords t) == 1#1) && !(k0_cond3 (grid0.coords t) == 1#1)
    && !(k0_cond4 (grid0.coords t) == 1#1) && !(k0_cond5 (grid0.coords t) == 1#1) && !(k0_cond6 (grid0.coords t) == 1#1)) = false
  by_contra h
  simp only [Bool.not_eq_false, Bool.and_eq_true, Bool.not_eq_true', beq_eq_false_iff_ne, ne_eq, b0, b1, b2, b3, b4, b5] at h
  omega

/-- Of the last block of an image only 1280 rows lie in the array. -/
theorem tail_rows : ∀ t : Fin grid0.N, t.val % 6 = 5 → win0_10.xsize (grid0.coords t) 1 = 1280 := by decide +kernel

/-- The stored rows do not depend on what the buffer held. -/
theorem tailOut_agree (u : Vec F S1x1024x56 .f32) (v : Vec F S1x256x56 .f32) (d d' : Vec F S1x4096x56 .f32) (y : S1x4096x56.Idx)
    (hy : (y 1).val < 1280) : tailOut u v d y = tailOut u v d' y := by
  unfold tailOut
  split
  · rfl
  · rfl

/-- On the part written back the body's output does not depend on what the buffer held. -/
theorem cut_outAt (t : Fin grid0.N) (X : Ins F) (d d' : Vec F S1x4096x56 .f32) :
    win0_10.cut (grid0.coords t) (outAt (t.val % 6) X d) = win0_10.cut (grid0.coords t) (outAt (t.val % 6) X d') := by
  have h6 : t.val % 6 < 6 := Nat.mod_lt _ (by decide)
  have hr := tail_rows t
  generalize t.val % 6 = j at *
  match j, h6 with
  | 0, _ => rfl
  | 1, _ => rfl
  | 2, _ => rfl
  | 3, _ => rfl
  | 4, _ => rfl
  | 5, _ =>
    funext y
    have hy : (win0_10.xinj (grid0.coords t) y 1).val < 1280 := by
      have := (y 1).isLt
      exact Nat.lt_of_lt_of_eq this (hr rfl)
    exact tailOut_agree _ _ d d' _ hy

variable (m : (ℓ : Loc nD τ sig) → Buf (Elt F) ℓ) (ρ : Dev nD → PrngReg)

/-- The ten input blocks at point `t`. -/
def insAt (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t

/-- The output block of point `t` (rows past the array's end: zero, read by nothing). -/
def blockAt (c : Dev nD) (t : Fin cfg0.N) : Vec F S1x4096x56 .f32 :=
  outAt (t.val % 6) (insAt m c t) fun _ => Scalar.ofBits .f32 0#32

/-- The proof data: the arrays as the region finds them; after each body the inputs' buffers at their blocks and the
    output's at its point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => blockAt m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- The staging buffers of point `t`, as the pipeline passes them. -/
noncomputable def bufsAt (t : Fin cfg0.N) : Bufs where
  a2 := stage0_0 (cfg0.slots t 0)
  h2 := hstage0_0 ((cfg0.slots t 0).cast nbuf0_0)
  a3 := stage0_1 (cfg0.slots t 1)
  h3 := hstage0_1 ((cfg0.slots t 1).cast nbuf0_1)
  a4 := stage0_2 (cfg0.slots t 2)
  h4 := hstage0_2 ((cfg0.slots t 2).cast nbuf0_2)
  a5 := stage0_3 (cfg0.slots t 3)
  h5 := hstage0_3 ((cfg0.slots t 3).cast nbuf0_3)
  a6 := stage0_4 (cfg0.slots t 4)
  h6 := hstage0_4 ((cfg0.slots t 4).cast nbuf0_4)
  a7 := stage0_5 (cfg0.slots t 5)
  h7 := hstage0_5 ((cfg0.slots t 5).cast nbuf0_5)
  a8 := stage0_6 (cfg0.slots t 6)
  h8 := hstage0_6 ((cfg0.slots t 6).cast nbuf0_6)
  a9 := stage0_7 (cfg0.slots t 7)
  h9 := hstage0_7 ((cfg0.slots t 7).cast nbuf0_7)
  a10 := stage0_8 (cfg0.slots t 8)
  h10 := hstage0_8 ((cfg0.slots t 8).cast nbuf0_8)
  a11 := stage0_9 (cfg0.slots t 9)
  h11 := hstage0_9 ((cfg0.slots t 9).cast nbuf0_9)
  a12 := stage0_10 (cfg0.slots t 10)
  h12 := hstage0_10 ((cfg0.slots t 10).cast nbuf0_10)

/-- An input's buffer at point `t` holds its block, whether fetched there or kept. -/
theorem before_in (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t)
    ∧ (∀ d, (dats m 0 c).before 6 t d = iblk m c 6 t) ∧ (∀ d, (dats m 0 c).before 7 t d = iblk m c 7 t)
    ∧ (∀ d, (dats m 0 c).before 8 t d = iblk m c 8 t) ∧ (∀ d, (dats m 0 c).before 9 t d = iblk m c 9 t) :=
  ⟨before0_0_of m (dats m 0 c) (A_eq m c 0) (fun t => by dsimp only [dats]) t,
   before0_1_of m (dats m 0 c) (A_eq m c 1) (fun t => by dsimp only [dats]) t,
   before0_2_of m (dats m 0 c) (A_eq m c 2) (fun t => by dsimp only [dats]) t,
   before0_3_of m (dats m 0 c) (A_eq m c 3) (fun t => by dsimp only [dats]) t,
   before0_4_of m (dats m 0 c) (A_eq m c 4) (fun t => by dsimp only [dats]) t,
   before0_5_of m (dats m 0 c) (A_eq m c 5) (fun t => by dsimp only [dats]) t,
   before0_6_of m (dats m 0 c) (A_eq m c 6) (fun t => by dsimp only [dats]) t,
   before0_7_of m (dats m 0 c) (A_eq m c 7) (fun t => by dsimp only [dats]) t,
   before0_8_of m (dats m 0 c) (A_eq m c 8) (fun t => by dsimp only [dats]) t,
   before0_9_of m (dats m 0 c) (A_eq m c 9) (fun t => by dsimp only [dats]) t⟩

/-- The output buffer handed back: the point's block on the part written back. -/
def leftOut (c : Dev nD) (t : Fin cfg0.N) : sProp 𝕄 :=
  iprop(∃ d, owns (c : Thread nD τ) (bufsAt t).a12 fullShare
    (win0_10.fill (grid0.coords t) d (win0_10.cut (grid0.coords t) (blockAt m c t))))

theorem leftOut_of (c : Dev nD) (t : Fin cfg0.N) (d : Vec F S1x4096x56 .f32) :
    owns (c : Thread nD τ) (bufsAt t).a12 fullShare (outAt (t.val % 6) (insAt m c t) d) ⊢ (leftOut m c t : sProp 𝕄) := by
  unfold leftOut
  iintro H
  iexists outAt (t.val % 6) (insAt m c t) d
  have e : win0_10.fill (grid0.coords t) (outAt (t.val % 6) (insAt m c t) d) (win0_10.cut (grid0.coords t) (blockAt m c t))
      = outAt (t.val % 6) (insAt m c t) d := by
    unfold blockAt
    rw [← cut_outAt t (insAt m c t) d]
    exact win0_10.fill_cut _ _
  rw [e]
  iexact H

/-- The body table's row at point `t`'s slots is the body on that point's buffers. -/
theorem defs_row (t : Fin cfg0.N) :
    defs₀ (F := F) .tc cfg0.body (cfg0.bodyArgs t (cfg0.slots t)) = bodyOn (grid0.coords t) (bufsAt t) := by
  unfold defs₀; rw [Defs.onTc_tc]; rfl

/-- One grid point: from the inputs at their blocks and the output buffer at anything. -/
theorem point_sound (c : Dev nD) (t : Fin cfg0.N) :
    iprop((dats m 0 c).Φ t.castSucc ∗ (dats m 0 c).owesAt () t.castSucc ∗ held c (bufsAt t) (insAt m c t)
      ∗ (∃ d, owns (c : Thread nD τ) (bufsAt t).a12 fullShare d))
    ⊢ wp frame (wpE (defs₀ (F := F)) Variants.none c none) Set.univ (bodyOn (grid0.coords t) (bufsAt t)) (fun _ =>
      iprop((dats m 0 c).Φ t.succ ∗ (dats m 0 c).owesAt () t.succ ∗ held c (bufsAt t) (insAt m c t) ∗ leftOut m c t)) := by
  rw [show (dats m 0 c).Φ t.succ = (dats m 0 c).Φ t.castSucc from rfl,
    show (dats m 0 c).owesAt () t.succ = (dats m 0 c).owesAt () t.castSucc from rfl]
  iintro ⟨HΦ, Ho, Hi, Hd⟩
  iapply (runAt c t (insAt m c t) (bufsAt t) Set.univ _)
  isplitl [Hi]; · iexact Hi
  isplitl [Hd]; · iexact Hd
  iintro ⟨Hi, ⟨%d, Hd⟩⟩
  isplitl [HΦ]; · iexact HΦ
  isplitl [Ho]; · iexact Ho
  isplitl [Hi]; · iexact Hi
  iapply (leftOut_of m c t d)
  iexact Hd

set_option maxHeartbeats 1000000 in
/-- The pipeline's body obligation. -/
theorem body_sound (c : Dev nD) : BodyObligationLoose (dats (F := F) m 0 c) (defs₀ (F := F)) Variants.none () Set.univ := fun t => by
  rw [bigSep_W0, bigSep_W0, defs_row]
  obtain ⟨b0, b1, b2, b3, b4, b5, b6, b7, b8, b9⟩ := before_in m c t
  simp only [b0, b1, b2, b3, b4, b5, b6, b7, b8, b9]
  refine triple_restated (point_sound m c t) rfl ?_ fun _ => sep_mono .rfl (sep_mono .rfl ?_)
  · unfold held
    dsimp only [bufsAt, insAt]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    isplitl [HΦ]; · iexact HΦ
    isplitl [Ho]; · iexact Ho
    isplitr [H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexists _; iexact H10
  · have hl : idle0 10 (grid0.coords t) = false := out_live t
    unfold held leftOut
    rw [hl]
    dsimp only [bufsAt, insAt, dats]
    iintro ⟨⟨H0, H1, H2, H3, H4, H5, H6, H7, H8, H9⟩, H10⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option backward.isDefEq.respectTransparency.types false in
set_option maxHeartbeats 800000 in
/-- The launch: every weakly fair run ends with every array and buffer where the write-backs and the later host lines
    leave it, and every semaphore counter at zero. -/
theorem launch : θ_run defs (onTc (τ := τ) (main (F := F))) (s₀ m ρ) (fun r =>
    Pipeline.FramePost cfgs (dats m) (0 : Fin 1) (Pipeline.afterTail₀ cfgs (dats m) (0 : Fin 1) (V0 m) [hostOps1]) r ∧ r.2.sem = fun _ => 0) :=
  Pipeline.θ_run_frame_around (Q' := _) cfgs (dats m) (0 : Fin 1) launch0 defs₀ Variants.none m ρ main
    (hbody := body_sound m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Own
-- ==== Proof.Own.Taps.lean ====
/- The nine taps of a 3×3 convolution with zero padding, as one equation per pixel: the specification `convAt`, and the
   kernel's accumulator of each of its seven row blocks, which reaches the neighbouring pixels by rotating the row of
   lanes and masking what has wrapped around. -/
module

public import proofs.«01_k».proof.Proof.Own.Blocks
public import Idealize.ShloMosaic.Lib.Pointwise
public import Idealize.ShloMosaic.Lib.WordCmp

@[expose] public section

set_option maxRecDepth 16384

noncomputable section

namespace Cert.KernelIdeal.Own

open Idealize.ShloMosaic Idealize.ShloMosaic.TcCoe Cert.KernelIdeal Cert.KernelIdeal.Gen

/-! ## The specification -/

/-- An image with a border of zeros one pixel wide, read at padded coordinates (the image's pixel (0, 0) is (1, 1)). -/
def padded {H W C : ℕ} (g : Fin H → Fin W → Fin C → EReal) (Y X : ℕ) (c : Fin C) : EReal :=
  if h : (1 ≤ Y ∧ Y ≤ H) ∧ (1 ≤ X ∧ X ≤ W) then g ⟨Y - 1, by omega⟩ ⟨X - 1, by omega⟩ c else 0

/-- One tap: the channels of one pixel of the padded image against one column of weights. -/
def padDot {H W C : ℕ} (g : Fin H → Fin W → Fin C → EReal) (v : Fin C → EReal) (Y X : ℕ) : EReal :=
  ∑ c, v c * padded g Y X c

/-- The convolution at one pixel: the bias and the nine taps, in the order the kernel adds them. -/
def convAt {H W C : ℕ} (g : Fin H → Fin W → Fin C → EReal) (b : EReal) (K : ℕ → ℕ → Fin C → EReal) (y x : ℕ) : EReal :=
  b + padDot g (K 0 0) y x + padDot g (K 0 1) y (x + 1) + padDot g (K 0 2) y (x + 2)
    + padDot g (K 1 0) (y + 1) x + padDot g (K 1 1) (y + 1) (x + 1) + padDot g (K 1 2) (y + 1) (x + 2)
    + padDot g (K 2 0) (y + 2) x + padDot g (K 2 1) (y + 2) (x + 1) + padDot g (K 2 2) (y + 2) (x + 2)

theorem padDot_off {H W C : ℕ} (g : Fin H → Fin W → Fin C → EReal) (v : Fin C → EReal) {Y X : ℕ}
    (h : Y = 0 ∨ H < Y ∨ X = 0 ∨ W < X) : padDot g v Y X = 0 :=
  Finset.sum_eq_zero fun c _ => by rw [padded, dif_neg (by omega), mul_zero]

theorem padDot_on {H W C : ℕ} (g : Fin H → Fin W → Fin C → EReal) (v : Fin C → EReal) (Y : Fin H) (X : Fin W) :
    padDot g v (Y + 1) (X + 1) = ∑ c, v c * g Y X c :=
  Finset.sum_congr rfl fun c _ => by
    rw [padded, dif_pos (by omega)]
    rfl

/-! ## The masks -/

theorem lane_and (k p : ℕ) : IntOp.andi (BitVec.ofNat 32 p) (BitVec.ofNat 32 (2 ^ k - 1)) = BitVec.ofNat 32 (p % 2 ^ k) := by
  rw [IntOp.andi, ← BitVec.ofNat_and, Nat.and_two_pow_sub_one_eq_mod]
theorem lane_and127 (p : ℕ) : IntOp.andi (BitVec.ofNat 32 p) 127#32 = BitVec.ofNat 32 (p % 128) := lane_and 7 p
theorem lane_and63 (p : ℕ) : IntOp.andi (BitVec.ofNat 32 p) 63#32 = BitVec.ofNat 32 (p % 64) := lane_and 6 p
theorem lane_and31 (p : ℕ) : IntOp.andi (BitVec.ofNat 32 p) 31#32 = BitVec.ofNat 32 (p % 32) := lane_and 5 p
theorem lane_and15 (p : ℕ) : IntOp.andi (BitVec.ofNat 32 p) 15#32 = BitVec.ofNat 32 (p % 16) := lane_and 4 p

theorem gt_word {a b : ℕ} (ha : a < 65536) (hb : b < 65536) :
    IntOp.cmpi .sgt (BitVec.ofNat 32 a) (BitVec.ofNat 32 b) = BitVec.ofBool (decide (b < a)) :=
  WordCmp.cmpi_sgt_ofNat (by omega) (by omega)
theorem ge_word {a b : ℕ} (ha : a < 65536) (hb : b < 65536) :
    IntOp.cmpi .sge (BitVec.ofNat 32 a) (BitVec.ofNat 32 b) = BitVec.ofBool (decide (b ≤ a)) :=
  WordCmp.cmpi_sge_ofNat (by omega) (by omega)
theorem lt_word {a b : ℕ} (ha : a < 65536) (hb : b < 65536) :
    IntOp.cmpi .slt (BitVec.ofNat 32 a) (BitVec.ofNat 32 b) = BitVec.ofBool (decide (a < b)) :=
  WordCmp.cmpi_slt_ofNat (by omega) (by omega)

theorem both_bits (P Q : Prop) [Decidable P] [Decidable Q] :
    IntOp.andi (BitVec.ofBool (decide P)) (BitVec.ofBool (decide Q)) = BitVec.ofBool (decide (P ∧ Q)) := by
  rw [WordCmp.andi_ofBool, Bool.decide_and]

theorem pick_bit {α : Type} (P : Prop) [Decidable P] (a b : α) :
    Scalar.select (BitVec.ofBool (decide P)) a b = if P then a else b := by
  by_cases h : P <;> simp [h, Scalar.select]

/-- Nine sums equal term by term. -/
theorem nine_congr {b a₀ a₁ a₂ a₃ a₄ a₅ a₆ a₇ a₈ c₀ c₁ c₂ c₃ c₄ c₅ c₆ c₇ c₈ : EReal}
    (h₀ : a₀ = c₀) (h₁ : a₁ = c₁) (h₂ : a₂ = c₂) (h₃ : a₃ = c₃) (h₄ : a₄ = c₄) (h₅ : a₅ = c₅) (h₆ : a₆ = c₆)
    (h₇ : a₇ = c₇) (h₈ : a₈ = c₈) :
    b + a₀ + a₁ + a₂ + a₃ + a₄ + a₅ + a₆ + a₇ + a₈ = b + c₀ + c₁ + c₂ + c₃ + c₄ + c₅ + c₆ + c₇ + c₈ := by
  rw [h₀, h₁, h₂, h₃, h₄, h₅, h₆, h₇, h₈]

/-! ## The products of one block: every column of weights against every pixel -/

/-- Row `R` of the stacked weights is the weights `K` of one output at one tap. -/
def TapRows {C : ℕ} (w : Fin 216 → Fin C → EReal) (r : ℕ) (K : ℕ → ℕ → Fin C → EReal) : Prop :=
  ∀ (ky kx : ℕ) (R : Fin 216) (c : Fin C), ky < 3 → kx < 3 → R.val = 24 * (3 * ky + kx) + r → w R c = K ky kx c

/-- One product, read as one tap: its row of weights is the tap's, its pixel the neighbour the tap reads. -/
theorem prod_tap {H W C : ℕ} {g : Fin H → Fin W → Fin C → EReal} {K : ℕ → ℕ → Fin C → EReal} {w : Fin 216 → Fin C → EReal}
    {r ky kx Y X : ℕ} (hw : TapRows w r K) {T : EReal} {v : Fin C → EReal} {R : Fin 216} {y : Fin H} {x : Fin W}
    (hT : T = ∑ c, w R c * v c) (hv : ∀ c, v c = g y x c) (h₁ : ky < 3) (h₂ : kx < 3)
    (h₃ : R.val = 24 * (3 * ky + kx) + r) (hY : y.val + 1 = Y) (hX : x.val + 1 = X) :
    T = padDot g (K ky kx) Y X := by
  subst hT hY hX
  rw [padDot_on]
  exact Finset.sum_congr rfl fun c _ => congrArg₂ (· * ·) (hw ky kx R c h₁ h₂ h₃) (hv c)

/-! ### Level 0, rows 0 to 31 -/

section A

variable (w : FVec Ideal S216x96 .bf16) (x : FVec Ideal S1x33x128x96 .f32) (bt : FVec Ideal S32x8 .f32)
variable (g : Fin 128 → Fin 128 → Fin 96 → EReal) (K : ℕ → ℕ → Fin 96 → EReal) (r : Fin 24)

theorem prodA (hx : ∀ (R : Fin 33) X c, x (ix4 0 R X c) = g ⟨R, by omega⟩ X c)
    (hw : TapRows (fun R c => w (ix2 R c)) r K) {ky kx Y X R P : ℕ} {hR : R < 216} {hP : P < 4224} (h₁ : ky < 3)
    (h₂ : kx < 3) (h₃ : R = 24 * (3 * ky + kx) + r) (hY : P / 128 + 1 = Y) (hX : P % 128 + 1 = X) :
    k0_pay9 (F := Ideal) w x (ix2 ⟨R, hR⟩ ⟨P, hP⟩) = padDot g (K ky kx) Y X :=
  prod_tap hw (R := ⟨R, hR⟩) (y := ⟨P / 128, by omega⟩) (x := ⟨P % 128, by omega⟩) (by pointwise [k0_pay9])
    (fun c => hx ⟨P / 128, by omega⟩ ⟨P % 128, by omega⟩ c) h₁ h₂ h₃ hY hX

theorem accA_at (hx : ∀ (R : Fin 33) X c, x (ix4 0 R X c) = g ⟨R, by omega⟩ X c)
    (hw : TapRows (fun R c => w (ix2 R c)) r K) (p : Fin 4096) :
    accA (F := Ideal) w x bt (ix2 r p) = convAt g (bt (ix2 ⟨r, by omega⟩ 0)) K (0 + p / 128) (p % 128) := by
  have hp := p.isLt
  unfold convAt
  pointwise [accA, preA, k0_pay17, k0_pay16, k0_pay15, k0_pay14, k0_pay13, k0_pay12, k0_pay11, k0_pay10, lanes4096, k0_pay1]
  simp (disch := omega) only [lane_and127, gt_word, ge_word, lt_word, both_bits, pick_bit]
  refine nine_congr ?_ ?_ ?_ ?_ ?_ ?_ ?_ ?_ ?_
  all_goals (repeat' split)
  all_goals first
    | exact prodA w x g K r hx hw (by omega) (by omega) (by omega) (by omega) (by omega)
    | exact (padDot_off _ _ (by omega)).symm
    | (exfalso; omega)

end A

/-! ### Level 0, rows 32 to 63 -/

section B

variable (w : FVec Ideal S216x96 .bf16) (x : FVec Ideal S1x34x128x96 .f32) (bt : FVec Ideal S32x8 .f32)
variable (g : Fin 128 → Fin 128 → Fin 96 → EReal) (K : ℕ → ℕ → Fin 96 → EReal) (r : Fin 24)

theorem prodB (hx : ∀ (R : Fin 34) X c, x (ix4 0 R X c) = g ⟨31 + R, by omega⟩ X c)
    (hw : TapRows (fun R c => w (ix2 R c)) r K) {ky kx Y X R P : ℕ} {hR : R < 216} {hP : P < 4352} (h₁ : ky < 3)
    (h₂ : kx < 3) (h₃ : R = 24 * (3 * ky + kx) + r) (hY : 31 + P / 128 + 1 = Y) (hX : P % 128 + 1 = X) :
    k0_pay29 (F := Ideal) w x (ix2 ⟨R, hR⟩ ⟨P, hP⟩) = padDot g (K ky kx) Y X :=
  prod_tap hw (R := ⟨R, hR⟩) (y := ⟨31 + P / 128, by omega⟩) (x := ⟨P % 128, by omega⟩) (by pointwise [k0_pay29])
    (fun c => hx ⟨P / 128, by omega⟩ ⟨P % 128, by omega⟩ c) h₁ h₂ h₃ hY hX

theorem accB_at (hx : ∀ (R : Fin 34) X c, x (ix4 0 R X c) = g ⟨31 + R, by omega⟩ X c)
    (hw : TapRows (fun R c => w (ix2 R c)) r K) (p : Fin 4096) :
    accB (F := Ideal) w x bt (ix2 r p) = convAt g (bt (ix2 ⟨r, by omega⟩ 0)) K (32 + p / 128) (p % 128) := by
  have hp := p.isLt
  unfold convAt
  pointwise [accB, k0_pay32, k0_pay31, k0_pay30, k0_pay1]
  simp (disch := omega) only [lane_and127, gt_word, ge_word, lt_word, both_bits, pick_bit]
  refine nine_congr ?_ ?_ ?_ ?_ ?_ ?_ ?_ ?_ ?_
  all_goals (repeat' split)
  all_goals first
    | exact prodB w x g K r hx hw (by omega) (by omega) (by omega) (by omega) (by omega)
    | exact (padDot_off _ _ (by omega)).symm
    | (exfalso; omega)

end B

/-! ### Level 0, rows 64 to 95 -/

section C

variable (w : FVec Ideal S216x96 .bf16) (x : FVec Ideal S1x34x128x96 .f32) (bt : FVec Ideal S32x8 .f32)
variable (g : Fin 128 → Fin 128 → Fin 96 → EReal) (K : ℕ → ℕ → Fin 96 → EReal) (r : Fin 24)

theorem prodC (hx : ∀ (R : Fin 34) X c, x (ix4 0 R X c) = g ⟨63 + R, by omega⟩ X c)
    (hw : TapRows (fun R c => w (ix2 R c)) r K) {ky kx Y X R P : ℕ} {hR : R < 216} {hP : P < 4352} (h₁ : ky < 3)
    (h₂ : kx < 3) (h₃ : R = 24 * (3 * ky + kx) + r) (hY : 63 + P / 128 + 1 = Y) (hX : P % 128 + 1 = X) :
    k0_pay34 (F := Ideal) w x (ix2 ⟨R, hR⟩ ⟨P, hP⟩) = padDot g (K ky kx) Y X :=
  prod_tap hw (R := ⟨R, hR⟩) (y := ⟨63 + P / 128, by omega⟩) (x := ⟨P % 128, by omega⟩) (by pointwise [k0_pay34])
    (fun c => hx ⟨P / 128, by omega⟩ ⟨P % 128, by omega⟩ c) h₁ h₂ h₃ hY hX

theorem accC_at (hx : ∀ (R : Fin 34) X c, x (ix4 0 R X c) = g ⟨63 + R, by omega⟩ X c)
    (hw : TapRows (fun R c => w (ix2 R c)) r K) (p : Fin 4096) :
    accC (F := Ideal) w x bt (ix2 r p) = convAt g (bt (ix2 ⟨r, by omega⟩ 0)) K (64 + p / 128) (p % 128) := by
  have hp := p.isLt
  unfold convAt
  pointwise [accC, k0_pay37, k0_pay36, k0_pay35, k0_pay1]
  simp (disch := omega) only [lane_and127, gt_word, ge_word, lt_word, both_bits, pick_bit]
  refine nine_congr ?_ ?_ ?_ ?_ ?_ ?_ ?_ ?_ ?_
  all_goals (repeat' split)
  all_goals first
    | exact prodC w x g K r hx hw (by omega) (by omega) (by omega) (by omega) (by omega)
    | exact (padDot_off _ _ (by omega)).symm
    | (exfalso; omega)

end C

/-! ### Level 0, rows 96 to 127 -/

section D

variable (w : FVec Ideal S216x96 .bf16) (x : FVec Ideal S1x33x128x96 .f32) (bt : FVec Ideal S32x8 .f32)
variable (g : Fin 128 → Fin 128 → Fin 96 → EReal) (K : ℕ → ℕ → Fin 96 → EReal) (r : Fin 24)

theorem prodD (hx : ∀ (R : Fin 33) X c, x (ix4 0 R X c) = g ⟨95 + R, by omega⟩ X c)
    (hw : TapRows (fun R c => w (ix2 R c)) r K) {ky kx Y X R P : ℕ} {hR : R < 216} {hP : P < 4224} (h₁ : ky < 3)
    (h₂ : kx < 3) (h₃ : R = 24 * (3 * ky + kx) + r) (hY : 95 + P / 128 + 1 = Y) (hX : P % 128 + 1 = X) :
    k0_pay39 (F := Ideal) w x (ix2 ⟨R, hR⟩ ⟨P, hP⟩) = padDot g (K ky kx) Y X :=
  prod_tap hw (R := ⟨R, hR⟩) (y := ⟨95 + P / 128, by omega⟩) (x := ⟨P % 128, by omega⟩) (by pointwise [k0_pay39])
    (fun c => hx ⟨P / 128, by omega⟩ ⟨P % 128, by omega⟩ c) h₁ h₂ h₃ hY hX

theorem accD_at (hx : ∀ (R : Fin 33) X c, x (ix4 0 R X c) = g ⟨95 + R, by omega⟩ X c)
    (hw : TapRows (fun R c => w (ix2 R c)) r K) (p : Fin 4096) :
    accD (F := Ideal) w x bt (ix2 r p) = convAt g (bt (ix2 ⟨r, by omega⟩ 0)) K (96 + p / 128) (p % 128) := by
  have hp := p.isLt
  unfold convAt
  pointwise [accD, preD, k0_pay46, k0_pay45, k0_pay44, k0_pay43, k0_pay42, k0_pay41, k0_pay40, lanes4096, k0_pay1]
  simp (disch := omega) only [lane_and127, gt_word, ge_word, lt_word, both_bits, pick_bit]
  refine nine_congr ?_ ?_ ?_ ?_ ?_ ?_ ?_ ?_ ?_
  all_goals (repeat' split)
  all_goals first
    | exact prodD w x g K r hx hw (by omega) (by omega) (by omega) (by omega) (by omega)
    | exact (padDot_off _ _ (by omega)).symm
    | (exfalso; omega)

end D

/-! ### Level 1 -/

section E

variable (w : FVec Ideal S216x192 .bf16) (x : FVec Ideal S1x64x64x192 .f32) (bt : FVec Ideal S32x8 .f32)
variable (g : Fin 64 → Fin 64 → Fin 192 → EReal) (K : ℕ → ℕ → Fin 192 → EReal) (r : Fin 24)

theorem prodE (hx : ∀ (R : Fin 64) X c, x (ix4 0 R X c) = g R X c)
    (hw : TapRows (fun R c => w (ix2 R c)) r K) {ky kx Y X R P : ℕ} {hR : R < 216} {hP : P < 4096} (h₁ : ky < 3)
    (h₂ : kx < 3) (h₃ : R = 24 * (3 * ky + kx) + r) (hY : P / 64 + 1 = Y) (hX : P % 64 + 1 = X) :
    k0_pay58 (F := Ideal) w x (ix2 ⟨R, hR⟩ ⟨P, hP⟩) = padDot g (K ky kx) Y X :=
  prod_tap hw (R := ⟨R, hR⟩) (y := ⟨P / 64, by omega⟩) (x := ⟨P % 64, by omega⟩) (by pointwise [k0_pay58])
    (fun c => hx ⟨P / 64, by omega⟩ ⟨P % 64, by omega⟩ c) h₁ h₂ h₃ hY hX

theorem accE_at (hx : ∀ (R : Fin 64) X c, x (ix4 0 R X c) = g R X c)
    (hw : TapRows (fun R c => w (ix2 R c)) r K) (p : Fin 4096) :
    accE (F := Ideal) w x bt (ix2 r p) = convAt g (bt (ix2 ⟨r, by omega⟩ 1)) K (0 + p / 64) (p % 64) := by
  have hp := p.isLt
  unfold convAt
  pointwise [accE, preE, k0_pay67, k0_pay66, k0_pay65, k0_pay64, k0_pay63, k0_pay62, k0_pay61, k0_pay60, k0_pay59, lanes4096, k0_pay1]
  simp (disch := omega) only [lane_and63, gt_word, ge_word, lt_word, both_bits, pick_bit]
  refine nine_congr ?_ ?_ ?_ ?_ ?_ ?_ ?_ ?_ ?_
  all_goals (repeat' split)
  all_goals first
    | exact prodE w x g K r hx hw (by omega) (by omega) (by omega) (by omega) (by omega)
    | exact (padDot_off _ _ (by omega)).symm
    | (exfalso; omega)

end E

/-! ### Level 2 -/

section F

variable (w : FVec Ideal S216x384 .bf16) (x : FVec Ideal S1x32x32x384 .f32) (bt : FVec Ideal S32x8 .f32)
variable (g : Fin 32 → Fin 32 → Fin 384 → EReal) (K : ℕ → ℕ → Fin 384 → EReal) (r : Fin 24)

theorem prodF (hx : ∀ (R : Fin 32) X c, x (ix4 0 R X c) = g R X c)
    (hw : TapRows (fun R c => w (ix2 R c)) r K) {ky kx Y X R P : ℕ} {hR : R < 216} {hP : P < 1024} (h₁ : ky < 3)
    (h₂ : kx < 3) (h₃ : R = 24 * (3 * ky + kx) + r) (hY : P / 32 + 1 = Y) (hX : P % 32 + 1 = X) :
    k0_pay72 (F := Ideal) w x (ix2 ⟨R, hR⟩ ⟨P, hP⟩) = padDot g (K ky kx) Y X :=
  prod_tap hw (R := ⟨R, hR⟩) (y := ⟨P / 32, by omega⟩) (x := ⟨P % 32, by omega⟩) (by pointwise [k0_pay72])
    (fun c => hx ⟨P / 32, by omega⟩ ⟨P % 32, by omega⟩ c) h₁ h₂ h₃ hY hX

theorem accF_at (hx : ∀ (R : Fin 32) X c, x (ix4 0 R X c) = g R X c)
    (hw : TapRows (fun R c => w (ix2 R c)) r K) (p : Fin 1024) :
    accF (F := Ideal) w x bt (ix2 r p) = convAt g (bt (ix2 ⟨r, by omega⟩ 2)) K (0 + p / 32) (p % 32) := by
  have hp := p.isLt
  unfold convAt
  pointwise [accF, preF, k0_pay81, k0_pay80, k0_pay79, k0_pay78, k0_pay77, k0_pay76, k0_pay75, k0_pay74, k0_pay73, k0_pay1, lanes1024]
  simp (disch := omega) only [lane_and31, gt_word, ge_word, lt_word, both_bits, pick_bit]
  refine nine_congr ?_ ?_ ?_ ?_ ?_ ?_ ?_ ?_ ?_
  all_goals (repeat' split)
  all_goals first
    | exact prodF w x g K r hx hw (by omega) (by omega) (by omega) (by omega) (by omega)
    | exact (padDot_off _ _ (by omega)).symm
    | (exfalso; omega)

end F

/-! ### Level 3 -/

section G

variable (w : FVec Ideal S216x768 .bf16) (x : FVec Ideal S1x16x16x768 .f32) (bt : FVec Ideal S32x8 .f32)
variable (g : Fin 16 → Fin 16 → Fin 768 → EReal) (K : ℕ → ℕ → Fin 768 → EReal) (r : Fin 24)

theorem prodG (hx : ∀ (R : Fin 16) X c, x (ix4 0 R X c) = g R X c)
    (hw : TapRows (fun R c => w (ix2 R c)) r K) {ky kx Y X R P : ℕ} {hR : R < 216} {hP : P < 256} (h₁ : ky < 3)
    (h₂ : kx < 3) (h₃ : R = 24 * (3 * ky + kx) + r) (hY : P / 16 + 1 = Y) (hX : P % 16 + 1 = X) :
    k0_pay87 (F := Ideal) w x (ix2 ⟨R, hR⟩ ⟨P, hP⟩) = padDot g (K ky kx) Y X :=
  prod_tap hw (R := ⟨R, hR⟩) (y := ⟨P / 16, by omega⟩) (x := ⟨P % 16, by omega⟩) (by pointwise [k0_pay87])
    (fun c => hx ⟨P / 16, by omega⟩ ⟨P % 16, by omega⟩ c) h₁ h₂ h₃ hY hX

theorem accG_at (hx : ∀ (R : Fin 16) X c, x (ix4 0 R X c) = g R X c)
    (hw : TapRows (fun R c => w (ix2 R c)) r K) (p : Fin 256) :
    accG (F := Ideal) w x bt (ix2 r p) = convAt g (bt (ix2 ⟨r, by omega⟩ 3)) K (0 + p / 16) (p % 16) := by
  have hp := p.isLt
  unfold convAt
  pointwise [accG, preG, k0_pay94, k0_pay93, k0_pay92, k0_pay91, k0_pay90, k0_pay89, k0_pay88, lanes256, k0_pay1]
  simp (disch := omega) only [lane_and15, gt_word, ge_word, lt_word, both_bits, pick_bit]
  refine nine_congr ?_ ?_ ?_ ?_ ?_ ?_ ?_ ?_ ?_
  all_goals (repeat' split)
  all_goals first
    | exact prodG w x g K r hx hw (by omega) (by omega) (by omega) (by omega) (by omega)
    | exact (padDot_off _ _ (by omega)).symm
    | (exfalso; omega)

end G

end Cert.KernelIdeal.Own
-- ==== Proof.Own.Reads.lean ====
/- What the ten input buffers hold at a grid point: the feature map of the point's image while its level is at work, and
   the host's tables. -/
module

public import proofs.«01_k».proof.Proof.Own.Launch
public import proofs.«01_k».proof.Proof.Own.Taps
public import Idealize.ShloMosaic.Lib.Claim

@[expose] public section

set_option maxRecDepth 16384

noncomputable section

namespace Cert.KernelIdeal.Own

open Idealize.ShloMosaic Idealize.ShloMosaic.TcCoe Cert.KernelIdeal Cert.KernelIdeal.Gen

/-! ## Where each window stands -/

theorem place0 : ∀ t : Fin cfg0.N, t.val % 6 < 4 → win0_0.index t = ![t.val / 6, 0, 0, 0] :=
  (by decide +kernel : ∀ t : Fin grid0.N, _)
theorem place1 : ∀ t : Fin cfg0.N, t.val % 6 = 4 → win0_1.index t = ![t.val / 6, 0, 0, 0] :=
  (by decide +kernel : ∀ t : Fin grid0.N, _)
theorem place2 : ∀ t : Fin cfg0.N, t.val % 6 = 5 → win0_2.index t = ![t.val / 6, 0, 0, 0] :=
  (by decide +kernel : ∀ t : Fin grid0.N, _)
theorem place3 : ∀ t : Fin cfg0.N, t.val % 6 = 5 → win0_3.index t = ![t.val / 6, 0, 0, 0] :=
  (by decide +kernel : ∀ t : Fin grid0.N, _)
theorem place4 : ∀ t : Fin cfg0.N, win0_4.index t = ![0, 0] := (by decide +kernel : ∀ t : Fin grid0.N, _)
theorem place5 : ∀ t : Fin cfg0.N, win0_5.index t = ![0, 0] := (by decide +kernel : ∀ t : Fin grid0.N, _)
theorem place6 : ∀ t : Fin cfg0.N, win0_6.index t = ![0, 0] := (by decide +kernel : ∀ t : Fin grid0.N, _)
theorem place7 : ∀ t : Fin cfg0.N, win0_7.index t = ![0, 0] := (by decide +kernel : ∀ t : Fin grid0.N, _)
theorem place8 : ∀ t : Fin cfg0.N, win0_8.index t = ![0, 0] := (by decide +kernel : ∀ t : Fin grid0.N, _)
theorem place9 : ∀ t : Fin cfg0.N, win0_9.index t = ![0, 0] := (by decide +kernel : ∀ t : Fin grid0.N, _)
theorem place10 : ∀ t : Fin cfg0.N, win0_10.index t = ![t.val / 6, t.val % 6, 0] :=
  (by decide +kernel : ∀ t : Fin grid0.N, _)

/-- The output blocks that are written back cover the array. -/
theorem cover : (cfg0.win 10).Covers := by decide +kernel

theorem points_lt (t : Fin cfg0.N) : t.val / 6 < 8 := by
  have : t.val < 48 := Nat.lt_of_lt_of_eq t.isLt N_0
  omega

/-- The image a grid point works on. -/
abbrev imageOf (t : Fin cfg0.N) : Fin 8 := ⟨t.val / 6, points_lt t⟩

/-! ## What the buffers hold -/

variable (m : (ℓ : Loc nD τ sig) → Buf (Elt Ideal) ℓ) (c : Dev nD) (t : Fin cfg0.N)

theorem feature0 (h : t.val % 6 < 4) (R : Fin 128) (X : Fin 128) (ch : Fin 96) :
    (insAt m c t).x0 (ix4 0 R X ch) = m (c.tc.loc main_arg0) (ix4 (imageOf t) R X ch) := by
  show iblk m c 0 t _ = _
  rw [← V_main_arg0 m c]
  blk_ext [iblk, place0 t h]

theorem feature1 (h : t.val % 6 = 4) (R : Fin 64) (X : Fin 64) (ch : Fin 192) :
    (insAt m c t).x1 (ix4 0 R X ch) = m (c.tc.loc main_arg1) (ix4 (imageOf t) R X ch) := by
  show iblk m c 1 t _ = _
  rw [← V_main_arg1 m c]
  blk_ext [iblk, place1 t h]

theorem feature2 (h : t.val % 6 = 5) (R : Fin 32) (X : Fin 32) (ch : Fin 384) :
    (insAt m c t).x2 (ix4 0 R X ch) = m (c.tc.loc main_arg2) (ix4 (imageOf t) R X ch) := by
  show iblk m c 2 t _ = _
  rw [← V_main_arg2 m c]
  blk_ext [iblk, place2 t h]

theorem feature3 (h : t.val % 6 = 5) (R : Fin 16) (X : Fin 16) (ch : Fin 768) :
    (insAt m c t).x3 (ix4 0 R X ch) = m (c.tc.loc main_arg3) (ix4 (imageOf t) R X ch) := by
  show iblk m c 3 t _ = _
  rw [← V_main_arg3 m c]
  blk_ext [iblk, place3 t h]

theorem table4 : (insAt m c t).x4 = V0 m c main_v40 := by
  dsimp only [insAt]
  funext i
  blk_ext [iblk, place4 t]

theorem table5 : (insAt m c t).x5 = V0 m c main_v81 := by
  dsimp only [insAt]
  funext i
  blk_ext [iblk, place5 t]

theorem table6 : (insAt m c t).x6 = V0 m c main_v122 := by
  dsimp only [insAt]
  funext i
  blk_ext [iblk, place6 t]

theorem table7 : (insAt m c t).x7 = V0 m c main_v163 := by
  dsimp only [insAt]
  funext i
  blk_ext [iblk, place7 t]

theorem table8 : (insAt m c t).x8 = V0 m c main_v196 := by
  dsimp only [insAt]
  funext i
  blk_ext [iblk, place8 t]

theorem table9 : (insAt m c t).x9 = V0 m c main_v202 := by
  dsimp only [insAt]
  funext i
  blk_ext [iblk, place9 t]

/-! ## The rows of level 0 that a point reads -/

theorem slabA_at (x : Vec Ideal S1x128x128x96 .f32) (R : Fin 33) (X : Fin 128) (ch : Fin 96) :
    slabA x (ix4 0 R X ch) = x (ix4 0 ⟨R, by omega⟩ X ch) := by pointwise [slabA]

theorem slabB_at (x : Vec Ideal S1x128x128x96 .f32) (R : Fin 34) (X : Fin 128) (ch : Fin 96) :
    slabB x (ix4 0 R X ch) = x (ix4 0 ⟨31 + R, by omega⟩ X ch) := by pointwise [slabB]

theorem slabC_at (x : Vec Ideal S1x128x128x96 .f32) (R : Fin 34) (X : Fin 128) (ch : Fin 96) :
    slabC x (ix4 0 R X ch) = x (ix4 0 ⟨63 + R, by omega⟩ X ch) := by pointwise [slabC]

theorem slabD_at (x : Vec Ideal S1x128x128x96 .f32) (R : Fin 33) (X : Fin 128) (ch : Fin 96) :
    slabD x (ix4 0 R X ch) = x (ix4 0 ⟨95 + R, by omega⟩ X ch) := by pointwise [slabD]

end Cert.KernelIdeal.Own
-- ==== Proof.Own.Assemble.lean ====
/- How one pixel's 56 output numbers are laid out: four anchor boxes, each of two class probabilities, four offsets, the
   centre and six constants.  The kernel stacks twenty pieces of rows and turns the stack over; here the stack is read at
   one entry. -/
module

public import proofs.«01_k».proof.Proof.Own.Taps
public import Idealize.ShloMosaic.Lib.Pointwise.IndexVar
public import Idealize.ShloMosaic.Lib.Pipeline.Value

@[expose] public section

set_option maxRecDepth 16384

noncomputable section

namespace Cert.KernelIdeal.Own

open Idealize.ShloMosaic Idealize.ShloMosaic.TcCoe Cert.KernelIdeal Cert.KernelIdeal.Gen

/-- A stack of `a` rows of `n` lanes. -/
abbrev Rows (a n : ℕ) : Shape := ⟨2, ![a, n]⟩

/-! ## The two classes of a box -/

/-- The row whose score is compared with row `q`: the other class of the same anchor box. -/
def other (q : ℕ) : ℕ := if q % 2 = 0 then q + 1 else q - 1

theorem other_lt {q : ℕ} (h : q < 8) : other q < 8 := by unfold other; split <;> omega

/-- The probability of one class from the scores `a` of all boxes. -/
def prob (a : Fin 24 → EReal) (q : Fin 8) : EReal :=
  Ideal.logistic (a ⟨q, by omega⟩ - a ⟨other q, by have := other_lt q.isLt; omega⟩)

theorem even_word {q : ℕ} : IntOp.cmpi .eq (IntOp.andi (BitVec.ofNat 32 q) 1#32) 0#32 = BitVec.ofBool (decide (q % 2 = 0)) := by
  rw [show IntOp.andi (BitVec.ofNat 32 q) 1#32 = BitVec.ofNat 32 (q % 2) from lane_and 1 q]
  exact WordCmp.cmpi_eq_ofNat (by omega) (by omega)

/-- Subtracting the scores with neighbouring rows exchanged, then the logistic function. -/
theorem swap_at {n : ℕ} (x : FVec Ideal (Rows 8 n) .f32) (h₁ h₂ h₃ h₄ h₅ h₆ h₇) (q : Fin 8) (p : Fin n) :
    logistic (F := Ideal) (φ := .f32) (subf x (select
      (cmpi .eq (andi (iota .tc (Rows 8 n) 32 [0] h₁) (broadcast (Rows 8 n) 1#32)) (broadcast (Rows 8 n) 0#32))
      (concatenate (Rows 8 n) 0 [⟨Rows 7 n, extractStridedSlice (Rows 7 n) ![1, 0] x h₂⟩,
        ⟨Rows 1 n, extractStridedSlice (Rows 1 n) ![0, 0] x h₃⟩] h₄)
      (concatenate (Rows 8 n) 0 [⟨Rows 1 n, extractStridedSlice (Rows 1 n) ![7, 0] x h₅⟩,
        ⟨Rows 7 n, extractStridedSlice (Rows 7 n) ![0, 0] x h₆⟩] h₇))) (ix2 q p)
    = Ideal.logistic (x (ix2 q p) - x (ix2 ⟨other q, other_lt q.isLt⟩ p)) := by
  pointwise
  rw [even_word, pick_bit]
  congr 2
  have h8 := q.isLt
  split
  · rw [dif_pos (by omega)]
    exact congrArg x (congrArg (ix2 · p) (Fin.ext (by simp only [other]; rw [if_pos ‹_›]; omega)))
  · rw [dif_neg (by omega)]
    exact congrArg x (congrArg (ix2 · p) (Fin.ext (by simp only [other]; rw [if_neg ‹_›])))

/-! ## The stack of pieces -/

theorem piece_at {n : ℕ} {xs : List ((s : Shape) × (s.Idx → EReal))} (h : Shape.Concatenates (xs.map (·.1)) (Rows 56 n) 0)
    {ch : Fin 56} {p : Fin n} (hs : List ℕ) (hn : xs.map (·.1) = hs.map (Rows · n)) (m : ℕ) {a : ℕ}
    {x₁ : (Rows a n).Idx → EReal} (hx : xs[m]? = some ⟨Rows a n, x₁⟩) (pre : ℕ) (hpre : (hs.take m).sum = pre) (q : Fin a)
    (hq : pre + q.val = ch.val) : concatenate (Rows 56 n) 0 xs h (ix2 ch p) = x₁ (ix2 q p) := by
  obtain ⟨hm, hx⟩ := List.getElem?_eq_some_iff.mp hx
  refine concatenate_apply_piece (t := Rows 56 n) 0 xs h (ix2 ch p) m hm (Rows a n) x₁ hx rfl pre ?_ (ix2 q p)
    (Fin.forall_fin_two.mpr ⟨fun h => absurd rfl h, fun _ => rfl⟩) hq
  rw [List.map_take, hn, ← List.map_take, List.map_map, ← hpre]
  exact congrArg List.sum ((List.map_congr_left fun r _ => by simp [Rows]).trans (List.map_id _))

theorem turned_at {n : ℕ} (z : (Rows 56 n).Idx → EReal) (h₂ h₃) (p : Fin n) (ch : Fin 56) :
    shapeCast ⟨3, ![1, n, 56]⟩ (transpose (Rows n 56) [1, 0] z h₂) h₃ (ix3 0 p ch) = z (ix2 ch p) := by
  refine (shapeCast_addUnit_apply ![n, 56] _ h₃ (ix3 0 p ch)).trans ?_
  rw [show (fun a : Fin 2 => ix3 (0 : Fin 1) p ch a.succ) = ix2 p ch from funext (Fin.forall_fin_two.mpr ⟨rfl, rfl⟩)]
  pointwise

/-- One of the 56 numbers of a pixel, entry `j` of box `k`: from the eight probabilities, the 24 outputs of the
    convolution, the column of constants and the centre. -/
def cell (P : Fin 8 → EReal) (A : Fin 24 → EReal) (T : Fin 64 → EReal) (X Y : EReal) (k : Fin 4) (j : Fin 14) : EReal :=
  if h : j.val < 2 then P ⟨2 * k + j, by omega⟩
  else if h : j.val < 6 then A ⟨8 + 4 * k + (j - 2), by omega⟩
  else if j.val = 6 then X
  else if j.val = 7 then Y
  else T ⟨14 * k + j, by omega⟩

/-- The heights of the twenty pieces. -/
abbrev heights : List ℕ := [2, 4, 1, 1, 6, 2, 4, 1, 1, 6, 2, 4, 1, 1, 6, 2, 4, 1, 1, 6]

theorem stack_at {n : ℕ} {v₀ v₁ v₂ v₃ : (Rows 2 n).Idx → EReal} {l₀ l₁ l₂ l₃ : (Rows 4 n).Idx → EReal}
    {cx cy : (Rows 1 n).Idx → EReal} {t₀ t₁ t₂ t₃ : (Rows 6 n).Idx → EReal} {h} {p : Fin n}
    (P : Fin 8 → EReal) (A : Fin 24 → EReal) (T : Fin 64 → EReal) (X Y : EReal)
    (hv₀ : ∀ q : Fin 2, v₀ (ix2 q p) = P ⟨0 + q, by omega⟩) (hv₁ : ∀ q : Fin 2, v₁ (ix2 q p) = P ⟨2 + q, by omega⟩)
    (hv₂ : ∀ q : Fin 2, v₂ (ix2 q p) = P ⟨4 + q, by omega⟩) (hv₃ : ∀ q : Fin 2, v₃ (ix2 q p) = P ⟨6 + q, by omega⟩)
    (hl₀ : ∀ q : Fin 4, l₀ (ix2 q p) = A ⟨8 + q, by omega⟩) (hl₁ : ∀ q : Fin 4, l₁ (ix2 q p) = A ⟨12 + q, by omega⟩)
    (hl₂ : ∀ q : Fin 4, l₂ (ix2 q p) = A ⟨16 + q, by omega⟩) (hl₃ : ∀ q : Fin 4, l₃ (ix2 q p) = A ⟨20 + q, by omega⟩)
    (hX : cx (ix2 0 p) = X) (hY : cy (ix2 0 p) = Y)
    (ht₀ : ∀ q : Fin 6, t₀ (ix2 q p) = T ⟨8 + q, by omega⟩) (ht₁ : ∀ q : Fin 6, t₁ (ix2 q p) = T ⟨22 + q, by omega⟩)
    (ht₂ : ∀ q : Fin 6, t₂ (ix2 q p) = T ⟨36 + q, by omega⟩) (ht₃ : ∀ q : Fin 6, t₃ (ix2 q p) = T ⟨50 + q, by omega⟩)
    (k : Fin 4) (j : Fin 14) :
    concatenate (Rows 56 n) 0 [⟨Rows 2 n, v₀⟩, ⟨Rows 4 n, l₀⟩, ⟨Rows 1 n, cx⟩, ⟨Rows 1 n, cy⟩, ⟨Rows 6 n, t₀⟩,
      ⟨Rows 2 n, v₁⟩, ⟨Rows 4 n, l₁⟩, ⟨Rows 1 n, cx⟩, ⟨Rows 1 n, cy⟩, ⟨Rows 6 n, t₁⟩,
      ⟨Rows 2 n, v₂⟩, ⟨Rows 4 n, l₂⟩, ⟨Rows 1 n, cx⟩, ⟨Rows 1 n, cy⟩, ⟨Rows 6 n, t₂⟩,
      ⟨Rows 2 n, v₃⟩, ⟨Rows 4 n, l₃⟩, ⟨Rows 1 n, cx⟩, ⟨Rows 1 n, cy⟩, ⟨Rows 6 n, t₃⟩] h (ix2 ⟨14 * k + j, by omega⟩ p)
    = cell P A T X Y k j := by
  have hj := j.isLt
  have hP : ∀ {a b : Fin 8}, a.val = b.val → P a = P b := fun e => congrArg P (Fin.ext e)
  have hA : ∀ {a b : Fin 24}, a.val = b.val → A a = A b := fun e => congrArg A (Fin.ext e)
  have hT : ∀ {a b : Fin 64}, a.val = b.val → T a = T b := fun e => congrArg T (Fin.ext e)
  unfold cell
  split_ifs with c₁ c₂ c₃ c₄
  all_goals obtain ⟨k, hk⟩ := k
  · match k, hk with
    | 0, _ => exact (piece_at h heights rfl 0 rfl 0 rfl ⟨j, c₁⟩ (by dsimp only <;> omega)).trans ((hv₀ _).trans (hP (by dsimp only <;> omega)))
    | 1, _ => exact (piece_at h heights rfl 5 rfl 14 rfl ⟨j, c₁⟩ (by dsimp only <;> omega)).trans ((hv₁ _).trans (hP (by dsimp only <;> omega)))
    | 2, _ => exact (piece_at h heights rfl 10 rfl 28 rfl ⟨j, c₁⟩ (by dsimp only <;> omega)).trans ((hv₂ _).trans (hP (by dsimp only <;> omega)))
    | 3, _ => exact (piece_at h heights rfl 15 rfl 42 rfl ⟨j, c₁⟩ (by dsimp only <;> omega)).trans ((hv₃ _).trans (hP (by dsimp only <;> omega)))
  · match k, hk with
    | 0, _ => exact (piece_at h heights rfl 1 rfl 2 rfl ⟨j - 2, by omega⟩ (by dsimp only <;> omega)).trans ((hl₀ _).trans (hA (by dsimp only <;> omega)))
    | 1, _ => exact (piece_at h heights rfl 6 rfl 16 rfl ⟨j - 2, by omega⟩ (by dsimp only <;> omega)).trans ((hl₁ _).trans (hA (by dsimp only <;> omega)))
    | 2, _ => exact (piece_at h heights rfl 11 rfl 30 rfl ⟨j - 2, by omega⟩ (by dsimp only <;> omega)).trans ((hl₂ _).trans (hA (by dsimp only <;> omega)))
    | 3, _ => exact (piece_at h heights rfl 16 rfl 44 rfl ⟨j - 2, by omega⟩ (by dsimp only <;> omega)).trans ((hl₃ _).trans (hA (by dsimp only <;> omega)))
  · match k, hk with
    | 0, _ => exact (piece_at h heights rfl 2 rfl 6 rfl 0 (by dsimp only <;> omega)).trans (hX)
    | 1, _ => exact (piece_at h heights rfl 7 rfl 20 rfl 0 (by dsimp only <;> omega)).trans (hX)
    | 2, _ => exact (piece_at h heights rfl 12 rfl 34 rfl 0 (by dsimp only <;> omega)).trans (hX)
    | 3, _ => exact (piece_at h heights rfl 17 rfl 48 rfl 0 (by dsimp only <;> omega)).trans (hX)
  · match k, hk with
    | 0, _ => exact (piece_at h heights rfl 3 rfl 7 rfl 0 (by dsimp only <;> omega)).trans (hY)
    | 1, _ => exact (piece_at h heights rfl 8 rfl 21 rfl 0 (by dsimp only <;> omega)).trans (hY)
    | 2, _ => exact (piece_at h heights rfl 13 rfl 35 rfl 0 (by dsimp only <;> omega)).trans (hY)
    | 3, _ => exact (piece_at h heights rfl 18 rfl 49 rfl 0 (by dsimp only <;> omega)).trans (hY)
  · match k, hk with
    | 0, _ => exact (piece_at h heights rfl 4 rfl 8 rfl ⟨j - 8, by omega⟩ (by dsimp only <;> omega)).trans ((ht₀ _).trans (hT (by dsimp only <;> omega)))
    | 1, _ => exact (piece_at h heights rfl 9 rfl 22 rfl ⟨j - 8, by omega⟩ (by dsimp only <;> omega)).trans ((ht₁ _).trans (hT (by dsimp only <;> omega)))
    | 2, _ => exact (piece_at h heights rfl 14 rfl 36 rfl ⟨j - 8, by omega⟩ (by dsimp only <;> omega)).trans ((ht₂ _).trans (hT (by dsimp only <;> omega)))
    | 3, _ => exact (piece_at h heights rfl 19 rfl 50 rfl ⟨j - 8, by omega⟩ (by dsimp only <;> omega)).trans ((ht₃ _).trans (hT (by dsimp only <;> omega)))

end Cert.KernelIdeal.Own
-- ==== Proof.Own.Weights.lean ====
/- The weight table of one level, read at a row.  The host cuts each of the nine taps out of the class kernel (8 columns)
   and of the box kernel (16 columns), lays the eighteen pieces side by side and turns the result over: row `24 k + r` of
   the table is column `r` of tap `k`. -/
module

public import proofs.«01_k».proof.Proof.Own.Assemble

@[expose] public section

set_option maxRecDepth 16384

noncomputable section

namespace Cert.KernelIdeal.Own

open Idealize.ShloMosaic Idealize.ShloMosaic.TcCoe Cert.KernelIdeal Cert.KernelIdeal.Gen

/-- The class and box kernels side by side: entry of tap `(ky, kx)`, channel `c`, column `r` of 24. -/
def both {C : ℕ} (wc : (⟨4, ![3, 3, C, 8]⟩ : Shape).Idx → EReal) (wl : (⟨4, ![3, 3, C, 16]⟩ : Shape).Idx → EReal)
    (r : Fin 24) (ky kx : ℕ) (c : Fin C) : EReal :=
  if h : r.val < 8 then wc (ix4 (Fin.ofNat 3 ky) (Fin.ofNat 3 kx) c ⟨r, h⟩)
  else wl (ix4 (Fin.ofNat 3 ky) (Fin.ofNat 3 kx) c ⟨r - 8, by omega⟩)

/-- A piece holds tap `k` of a kernel of `n` columns. -/
def IsTap {C n : ℕ} (w : (⟨4, ![3, 3, C, n]⟩ : Shape).Idx → EReal) (k : ℕ) (p : (Rows C n).Idx → EReal) : Prop :=
  ∀ (c : Fin C) (r : Fin n), p (ix2 c r) = w (ix4 (Fin.ofNat 3 (k / 3)) (Fin.ofNat 3 (k % 3)) c r)

/-- Cutting a tap out of a kernel and dropping the two unit axes. -/
theorem isTap_slice {C n : ℕ} (w : (⟨4, ![3, 3, C, n]⟩ : Shape).Idx → EReal) (ky kx : ℕ) (h₁ h₂) (k : ℕ) (hy : ky = k / 3)
    (hx : kx = k % 3) (hk : k < 9) : IsTap w k (shapeCast (Rows C n)
      (extractStridedSlice (s := ⟨4, ![3, 3, C, n]⟩) ⟨4, ![1, 1, C, n]⟩ ![ky, kx, 0, 0] w h₁) h₂) := by
  intro c r
  subst hy hx
  refine (shapeCast_apply (t := Rows C n) _ h₂ (ix2 c r) (ix4 0 0 c r) (by
    rw [Shape.rowMajor_val_four, Shape.rowMajor_val_two]
    show ((0 * 1 + 0) * C + c.val) * n + r.val = c.val * n + r.val
    simp)).trans ?_
  pointwise
  refine congrArg w (congrArg₂ (fun a b => ix4 a b c r) (Fin.ext ?_) (Fin.ext ?_)) <;>
    simp only [Fin.ofNat] <;> omega

theorem column_at {C t : ℕ} {xs : List ((s : Shape) × (s.Idx → EReal))} (h : Shape.Concatenates (xs.map (·.1)) (Rows C t) 1)
    {ch : Fin t} {p : Fin C} (hs : List ℕ) (hn : xs.map (·.1) = hs.map (Rows C ·)) (m : ℕ) {a : ℕ}
    {x₁ : (Rows C a).Idx → EReal} (hx : xs[m]? = some ⟨Rows C a, x₁⟩) (pre : ℕ) (hpre : (hs.take m).sum = pre) (q : Fin a)
    (hq : pre + q.val = ch.val) : concatenate (Rows C t) 1 xs h (ix2 p ch) = x₁ (ix2 p q) := by
  obtain ⟨hm, hx⟩ := List.getElem?_eq_some_iff.mp hx
  refine concatenate_apply_piece (t := Rows C t) 1 xs h (ix2 p ch) m hm (Rows C a) x₁ hx rfl pre ?_ (ix2 p q)
    (Fin.forall_fin_two.mpr ⟨fun _ => rfl, fun h => absurd rfl h⟩) hq
  rw [List.map_take, hn, ← List.map_take, List.map_map, ← hpre]
  exact congrArg List.sum ((List.map_congr_left fun r _ => by simp [Rows]).trans (List.map_id _))

/-- The widths of the first sixteen pieces. -/
abbrev widths : List ℕ := [8, 16, 8, 16, 8, 16, 8, 16, 8, 16, 8, 16, 8, 16, 8, 16]

variable {C : ℕ} {wc : (⟨4, ![3, 3, C, 8]⟩ : Shape).Idx → EReal} {wl : (⟨4, ![3, 3, C, 16]⟩ : Shape).Idx → EReal}

/-- The pieces side by side hold, from column `0`, taps `k₀, k₀ + 1, …`. -/
def Holds {t : ℕ} (wc : (⟨4, ![3, 3, C, 8]⟩ : Shape).Idx → EReal) (wl : (⟨4, ![3, 3, C, 16]⟩ : Shape).Idx → EReal)
    (k₀ : ℕ) (z : (Rows C t).Idx → EReal) : Prop :=
  ∀ (k : ℕ) (r : Fin 24) (c : Fin C) (R : Fin t), R.val = 24 * k + r.val →
    z (ix2 c R) = both wc wl r ((k₀ + k) / 3) ((k₀ + k) % 3) c

theorem holds_pair {xs : List ((s : Shape) × (s.Idx → EReal))} {t : ℕ} (h : Shape.Concatenates (xs.map (·.1)) (Rows C t) 1)
    (hs : List ℕ) (hn : xs.map (·.1) = hs.map (Rows C ·)) (k k₀ m : ℕ)
    {a : (Rows C 8).Idx → EReal} {b : (Rows C 16).Idx → EReal}
    (h₁ : xs[m]? = some ⟨Rows C 8, a⟩) (h₂ : xs[m + 1]? = some ⟨Rows C 16, b⟩)
    (p₁ : (hs.take m).sum = 24 * k) (p₂ : (hs.take (m + 1)).sum = 24 * k + 8)
    (ha : IsTap wc (k₀ + k) a) (hb : IsTap wl (k₀ + k) b) (r : Fin 24) (c : Fin C) (R : Fin t) (hR : R.val = 24 * k + r.val) :
    concatenate (Rows C t) 1 xs h (ix2 c R) = both wc wl r ((k₀ + k) / 3) ((k₀ + k) % 3) c := by
  unfold both
  split_ifs with c₁
  · exact (column_at h hs hn m h₁ _ p₁ ⟨r, c₁⟩ hR.symm).trans (ha _ _)
  · exact (column_at h hs hn (m + 1) h₂ _ p₂ ⟨r - 8, by omega⟩ (by dsimp only; omega)).trans (hb _ _)

theorem holds_sixteen {a₀ a₁ a₂ a₃ a₄ a₅ a₆ a₇ : (Rows C 8).Idx → EReal} {b₀ b₁ b₂ b₃ b₄ b₅ b₆ b₇ : (Rows C 16).Idx → EReal} {h}
    (ha₀ : IsTap wc 0 a₀) (hb₀ : IsTap wl 0 b₀) (ha₁ : IsTap wc 1 a₁) (hb₁ : IsTap wl 1 b₁)
    (ha₂ : IsTap wc 2 a₂) (hb₂ : IsTap wl 2 b₂) (ha₃ : IsTap wc 3 a₃) (hb₃ : IsTap wl 3 b₃)
    (ha₄ : IsTap wc 4 a₄) (hb₄ : IsTap wl 4 b₄) (ha₅ : IsTap wc 5 a₅) (hb₅ : IsTap wl 5 b₅)
    (ha₆ : IsTap wc 6 a₆) (hb₆ : IsTap wl 6 b₆) (ha₇ : IsTap wc 7 a₇) (hb₇ : IsTap wl 7 b₇) :
    Holds wc wl 0 (concatenate (Rows C 192) 1 [⟨Rows C 8, a₀⟩, ⟨Rows C 16, b₀⟩, ⟨Rows C 8, a₁⟩, ⟨Rows C 16, b₁⟩,
      ⟨Rows C 8, a₂⟩, ⟨Rows C 16, b₂⟩, ⟨Rows C 8, a₃⟩, ⟨Rows C 16, b₃⟩, ⟨Rows C 8, a₄⟩, ⟨Rows C 16, b₄⟩,
      ⟨Rows C 8, a₅⟩, ⟨Rows C 16, b₅⟩, ⟨Rows C 8, a₆⟩, ⟨Rows C 16, b₆⟩, ⟨Rows C 8, a₇⟩, ⟨Rows C 16, b₇⟩] h) := by
  intro k r c R hR
  have hk : k < 8 := by omega
  match k, hk with
  | 0, _ => exact holds_pair h widths rfl 0 0 0 rfl rfl rfl rfl ha₀ hb₀ r c R hR
  | 1, _ => exact holds_pair h widths rfl 1 0 2 rfl rfl rfl rfl ha₁ hb₁ r c R hR
  | 2, _ => exact holds_pair h widths rfl 2 0 4 rfl rfl rfl rfl ha₂ hb₂ r c R hR
  | 3, _ => exact holds_pair h widths rfl 3 0 6 rfl rfl rfl rfl ha₃ hb₃ r c R hR
  | 4, _ => exact holds_pair h widths rfl 4 0 8 rfl rfl rfl rfl ha₄ hb₄ r c R hR
  | 5, _ => exact holds_pair h widths rfl 5 0 10 rfl rfl rfl rfl ha₅ hb₅ r c R hR
  | 6, _ => exact holds_pair h widths rfl 6 0 12 rfl rfl rfl rfl ha₆ hb₆ r c R hR
  | 7, _ => exact holds_pair h widths rfl 7 0 14 rfl rfl rfl rfl ha₇ hb₇ r c R hR

theorem holds_two {a : (Rows C 8).Idx → EReal} {b : (Rows C 16).Idx → EReal} {h} (ha : IsTap wc 8 a) (hb : IsTap wl 8 b) :
    Holds wc wl 8 (concatenate (Rows C 24) 1 [⟨Rows C 8, a⟩, ⟨Rows C 16, b⟩] h) := by
  intro k r c R hR
  obtain rfl : k = 0 := by omega
  exact holds_pair h [8, 16] rfl 0 8 0 rfl rfl rfl rfl ha hb r c R hR

/-- The table: the sixteen pieces, then the last two, turned over. -/
theorem table_rows {a : FVec Ideal (Rows C 192) .f32} {b : FVec Ideal (Rows C 24) .f32} {h₁ h₂ h₃} (ha : Holds wc wl 0 a) (hb : Holds wc wl 8 b)
    (r : Fin 24) : TapRows (fun R c => (truncf .bf16 (transpose (Rows 216 C) [1, 0]
      (concatenate (Rows C 216) 1 [⟨Rows C 192, a⟩, ⟨Rows C 24, b⟩] h₁) h₂ : FVec Ideal (Rows 216 C) .f32) h₃ : FVec Ideal (Rows 216 C) .bf16) (ix2 R c)) r (both wc wl r) := by
  intro ky kx R c hy hx hR
  have e : (truncf .bf16 (transpose (Rows 216 C) [1, 0]
      (concatenate (Rows C 216) 1 [⟨Rows C 192, a⟩, ⟨Rows C 24, b⟩] h₁) h₂ : FVec Ideal (Rows 216 C) .f32) h₃ : FVec Ideal (Rows 216 C) .bf16) (ix2 R c)
      = concatenate (Rows C 216) 1 [⟨Rows C 192, a⟩, ⟨Rows C 24, b⟩] h₁ (ix2 c R) := by pointwise [truncf]
  refine e.trans ?_
  have e₁ : (3 * ky + kx) / 3 = ky := by omega
  have e₂ : (3 * ky + kx) % 3 = kx := by omega
  by_cases h : R.val < 192
  · have := ha (3 * ky + kx) r c ⟨R, h⟩ hR
    rw [Nat.zero_add, e₁, e₂] at this
    exact (column_at h₁ [192, 24] rfl 0 rfl 0 rfl ⟨R, h⟩ (Nat.zero_add _)).trans this
  · have h8 : 3 * ky + kx = 8 := by omega
    have := hb 0 r c ⟨R - 192, by omega⟩ (by dsimp only; omega)
    rw [show 8 + 0 = 3 * ky + kx from h8.symm, e₁, e₂] at this
    exact (column_at h₁ [192, 24] rfl 1 rfl 192 rfl ⟨R - 192, by omega⟩ (by dsimp only; omega)).trans this

end Cert.KernelIdeal.Own
-- ==== Proof.Own.Columns.lean ====
/- The table of biases and the table of constants, read at an entry.  The host writes each bias vector into part of a
   column of a table of zeros, and the transposed constants into the top left of another. -/
module

public import proofs.«01_k».proof.Proof.Own.Weights
public import Idealize.ShloMosaic.Lib.Routing.OpsOne

@[expose] public section

set_option maxRecDepth 16384

noncomputable section

namespace Cert.KernelIdeal.Own

open Idealize.ShloMosaic Idealize.ShloMosaic.TcCoe Cert.KernelIdeal Cert.KernelIdeal.Gen

/-- The two words of an index vector. -/
theorem words_at (a b : BitVec 32) {p q : IVec S1 32} (h) (hp : p (ix1 0) = a) (hq : q (ix1 0) = b) :
    (concatenate (⟨1, ![2]⟩ : Shape) 0 [⟨S1, p⟩, ⟨S1, q⟩] h : IVec ⟨1, ![2]⟩ 32) (ix1 0) = a ∧
    (concatenate (⟨1, ![2]⟩ : Shape) 0 [⟨S1, p⟩, ⟨S1, q⟩] h : IVec ⟨1, ![2]⟩ 32) (ix1 1) = b := by
  subst hp hq
  constructor <;> pointwise

/-- A vector of `U` entries written into column `j` of a table, from row `i`. -/
theorem column_set {U : ℕ} (d : ScatterDims (⟨2, ![32, 8]⟩ : Shape) ⟨1, ![2]⟩ ⟨1, ![U]⟩) (hU : 0 < U) (hiw : d.insertedWindowDims = [1])
    (hsd : d.scatterDimsToOperandDims = [0, 1]) (hivd : d.indexVectorDim = 0) (x : (⟨2, ![32, 8]⟩ : Shape).Idx → EReal)
    (idx : IVec ⟨1, ![2]⟩ 32) (v : (⟨1, ![U]⟩ : Shape).Idx → EReal) (i j : ℕ) (hi : i < 100) (hj : j < 100)
    (hw : idx (ix1 0) = BitVec.ofNat 32 i ∧ idx (ix1 1) = BitVec.ofNat 32 j) (r : Fin 32) (c : Fin 8) :
    Host.scatter d (fun _ b => b) x idx v (ix2 r c)
      = if h : c.val = j ∧ i ≤ r.val ∧ r.val < i + U then v (ix1 ⟨r - i, by omega⟩) else x (ix2 r c) := by
  have w₀ : idx (ValueIdx.ix1 (0 : Fin 2)) = BitVec.ofNat 32 i := hw.1
  have w₁ : idx (ValueIdx.ix1 (1 : Fin 2)) = BitVec.ofNat 32 j := hw.2
  refine (Routing.scatter_column_signed d hU hiw hsd hivd x idx v (ix2 r c)).trans ?_
  rw [w₀, w₁]
  have e : ∀ n : ℕ, n < 100 → (BitVec.ofNat 32 n).toInt = n := fun n hn => by
    rw [BitVec.toInt_eq_toNat_of_lt (by rw [BitVec.toNat_ofNat]; omega), BitVec.toNat_ofNat, Nat.mod_eq_of_lt (by omega)]
  rw [e i hi, e j hj]
  show (if (j : ℤ) = c.val ∧ (i : ℤ) ≤ r.val ∧ (r.val : ℤ) < i + U then v (ix1 ⟨((r.val : ℤ) - i).toNat % U, _⟩) else x (ix2 r c)) = _
  by_cases h : c.val = j ∧ i ≤ r.val ∧ r.val < i + U
  · rw [if_pos (by omega), dif_pos h]
    refine congrArg v (congrArg ix1 (Fin.ext ?_))
    show ((r.val : ℤ) - i).toNat % U = r - i
    rw [Nat.mod_eq_of_lt (by omega)]
    omega
  · rw [if_neg (by omega), dif_neg h]

/-- A block of `A` by `B` written into the top left of a table. -/
theorem corner_set {R C A B : ℕ} (d : ScatterDims (⟨2, ![R, C]⟩ : Shape) ⟨1, ![2]⟩ ⟨2, ![A, B]⟩)
    (win : ∀ (k : (⟨2, ![A, B]⟩ : Shape).Idx) (q : Fin 2), d.window k q = (k q).val)
    (hsd : d.scatterDimsToOperandDims = [0, 1]) (hivd : d.indexVectorDim = 0) (x : (⟨2, ![R, C]⟩ : Shape).Idx → EReal)
    (idx : IVec ⟨1, ![2]⟩ 32) (v : (⟨2, ![A, B]⟩ : Shape).Idx → EReal)
    (hw : idx (ix1 0) = 0#32 ∧ idx (ix1 1) = 0#32) (a : Fin A) (b : Fin B) (r : Fin R) (c : Fin C) (ha : a.val = r.val) (hb : b.val = c.val) :
    Host.scatter d (fun _ b => b) x idx v (ix2 r c) = v (ix2 a b) := by
  have lands : ∀ k : (⟨2, ![A, B]⟩ : Shape).Idx, d.resultIdx? k idx = some (ix2 r c) ↔ (k 0).val = r.val ∧ (k 1).val = c.val := fun k => by
    have w₀ : idx (ValueIdx.ix1 (0 : Fin 2)) = 0#32 := hw.1
    have w₁ : idx (ValueIdx.ix1 (1 : Fin 2)) = 0#32 := hw.2
    refine (Routing.resultIdx?_ix2 d k idx r c).trans ?_
    rw [Routing.start_pair d hsd hivd, Routing.start_pair d hsd hivd, win, win, w₀, w₁]
    show (0 : ℤ) + _ = _ ∧ (0 : ℤ) + _ = _ ↔ _
    omega
  refine Routing.scatter_set_hit d x idx v _ _ (fun k hk => ?_) (ix2 a b) ((lands _).mpr ⟨ha, hb⟩)
  obtain ⟨h₀, h₁⟩ := (lands k).mp hk
  exact congrArg v (funext (Fin.forall_fin_two.mpr ⟨Fin.ext (h₀.trans ha.symm), Fin.ext (h₁.trans hb.symm)⟩))

theorem constants_window (k : S56x4.Idx) (q : Fin 2) : scatter_S64x8_S2_S56x4_01_n_01_0.window k q = (k q).val := by
  fin_cases q <;> rfl

end Cert.KernelIdeal.Own
-- ==== Proof.Own.Tables.lean ====
/- The tables that the host builds before the launch, read at an entry: the four weight tables, the biases, the constants. -/
module

public import proofs.«01_k».proof.Proof.Own.Launch
public import proofs.«01_k».proof.Proof.Own.Columns
public import Idealize.ShloMosaic.Lib.StableHlo.RunRead

@[expose] public section

set_option maxRecDepth 16384

noncomputable section

namespace Cert.KernelIdeal.Own

open Idealize.ShloMosaic Idealize.ShloMosaic.TcCoe Cert.KernelIdeal Cert.KernelIdeal.Gen

variable (m : (ℓ : Loc nD τ sig) → Buf (Elt Ideal) ℓ) (c : Dev nD)

set_option maxHeartbeats 4000000

theorem weights0 (r : Fin 24) : TapRows (fun R ch => (V0 (F := Ideal) m c main_v40 : FVec Ideal S216x96 .bf16) (ix2 R ch)) r
    (both (m (c.tc.loc main_arg4)) (m (c.tc.loc main_arg6)) r) := by
  unfold V0
  rw [List.flatten_singleton]
  unfold hostOps0
  after_reads_simp
  refine table_rows ?_ ?_ _
  · after_reads_simp
    refine holds_sixteen ?_ ?_ ?_ ?_ ?_ ?_ ?_ ?_ ?_ ?_ ?_ ?_ ?_ ?_ ?_ ?_
    all_goals after_reads_simp
    all_goals exact isTap_slice _ _ _ (by decide) _ _ rfl rfl (by decide)
  · after_reads_simp
    refine holds_two ?_ ?_
    all_goals after_reads_simp
    all_goals exact isTap_slice _ _ _ (by decide) _ _ rfl rfl (by decide)

theorem weights1 (r : Fin 24) : TapRows (fun R ch => (V0 (F := Ideal) m c main_v81 : FVec Ideal S216x192 .bf16) (ix2 R ch)) r
    (both (m (c.tc.loc main_arg8)) (m (c.tc.loc main_arg10)) r) := by
  unfold V0
  rw [List.flatten_singleton]
  unfold hostOps0
  after_reads_simp
  refine table_rows ?_ ?_ _
  · after_reads_simp
    refine holds_sixteen ?_ ?_ ?_ ?_ ?_ ?_ ?_ ?_ ?_ ?_ ?_ ?_ ?_ ?_ ?_ ?_
    all_goals after_reads_simp
    all_goals exact isTap_slice _ _ _ (by decide) _ _ rfl rfl (by decide)
  · after_reads_simp
    refine holds_two ?_ ?_
    all_goals after_reads_simp
    all_goals exact isTap_slice _ _ _ (by decide) _ _ rfl rfl (by decide)

theorem weights2 (r : Fin 24) : TapRows (fun R ch => (V0 (F := Ideal) m c main_v122 : FVec Ideal S216x384 .bf16) (ix2 R ch)) r
    (both (m (c.tc.loc main_arg12)) (m (c.tc.loc main_arg14)) r) := by
  unfold V0
  rw [List.flatten_singleton]
  unfold hostOps0
  after_reads_simp
  refine table_rows ?_ ?_ _
  · after_reads_simp
    refine holds_sixteen ?_ ?_ ?_ ?_ ?_ ?_ ?_ ?_ ?_ ?_ ?_ ?_ ?_ ?_ ?_ ?_
    all_goals after_reads_simp
    all_goals exact isTap_slice _ _ _ (by decide) _ _ rfl rfl (by decide)
  · after_reads_simp
    refine holds_two ?_ ?_
    all_goals after_reads_simp
    all_goals exact isTap_slice _ _ _ (by decide) _ _ rfl rfl (by decide)

theorem weights3 (r : Fin 24) : TapRows (fun R ch => (V0 (F := Ideal) m c main_v163 : FVec Ideal S216x768 .bf16) (ix2 R ch)) r
    (both (m (c.tc.loc main_arg16)) (m (c.tc.loc main_arg18)) r) := by
  unfold V0
  rw [List.flatten_singleton]
  unfold hostOps0
  after_reads_simp
  refine table_rows ?_ ?_ _
  · after_reads_simp
    refine holds_sixteen ?_ ?_ ?_ ?_ ?_ ?_ ?_ ?_ ?_ ?_ ?_ ?_ ?_ ?_ ?_ ?_
    all_goals after_reads_simp
    all_goals exact isTap_slice _ _ _ (by decide) _ _ rfl rfl (by decide)
  · after_reads_simp
    refine holds_two ?_ ?_
    all_goals after_reads_simp
    all_goals exact isTap_slice _ _ _ (by decide) _ _ rfl rfl (by decide)

/-- Column `i` of the table of biases is the class biases of level `i`, then its box biases. -/
def bias (bc : S8.Idx → EReal) (bl : S16.Idx → EReal) (r : ℕ) : EReal :=
  if h : r < 8 then bc (ix1 ⟨r, h⟩) else if h : r - 8 < 16 then bl (ix1 ⟨r - 8, h⟩) else 0

theorem biases (r : Fin 32) (h : r.val < 24) (i : Fin 8) (hi : i.val < 4) : (V0 (F := Ideal) m c main_v196 : FVec Ideal S32x8 .f32) (ix2 r i)
   = match i.val with
     | 0 => bias (m (c.tc.loc main_arg5)) (m (c.tc.loc main_arg7)) r
     | 1 => bias (m (c.tc.loc main_arg9)) (m (c.tc.loc main_arg11)) r
     | 2 => bias (m (c.tc.loc main_arg13)) (m (c.tc.loc main_arg15)) r
     | _ => bias (m (c.tc.loc main_arg17)) (m (c.tc.loc main_arg19)) r := by
  unfold V0
  rw [List.flatten_singleton]
  unfold hostOps0
  after_reads_simp
  refine (column_set scatter_S32x8_S2_S16_0_1_01_0 (by decide) rfl rfl rfl _ _ _ 8 3 (by decide) (by decide) (words_at _ _ _ (by after_reads_simp; rfl) (by after_reads_simp; rfl)) r i).trans ?_
  rw [column_set scatter_S32x8_S2_S8_0_1_01_0 (by decide) rfl rfl rfl _ _ _ 0 3 (by decide) (by decide) ?w1]
  rw [column_set scatter_S32x8_S2_S16_0_1_01_0 (by decide) rfl rfl rfl _ _ _ 8 2 (by decide) (by decide) ?w2]
  rw [column_set scatter_S32x8_S2_S8_0_1_01_0 (by decide) rfl rfl rfl _ _ _ 0 2 (by decide) (by decide) ?w3]
  rw [column_set scatter_S32x8_S2_S16_0_1_01_0 (by decide) rfl rfl rfl _ _ _ 8 1 (by decide) (by decide) ?w4]
  rw [column_set scatter_S32x8_S2_S8_0_1_01_0 (by decide) rfl rfl rfl _ _ _ 0 1 (by decide) (by decide) ?w5]
  rw [column_set scatter_S32x8_S2_S16_0_1_01_0 (by decide) rfl rfl rfl _ _ _ 8 0 (by decide) (by decide) ?w6]
  rw [column_set scatter_S32x8_S2_S8_0_1_01_0 (by decide) rfl rfl rfl _ _ _ 0 0 (by decide) (by decide) ?w7]
  case w1 | w2 | w3 | w4 | w5 | w6 | w7 => exact words_at _ _ _ (by after_reads_simp; rfl) (by after_reads_simp; rfl)
  obtain ⟨i, hi'⟩ := i
  dsimp only at hi ⊢
  unfold bias
  interval_cases i <;> by_cases h8 : r.val < 8 <;>
    simp (disch := omega) only [dif_pos, dif_neg] <;> exact dif_pos ⟨trivial, by omega, by omega⟩

theorem constants (q : Fin 64) (h : q.val < 56) (i : Fin 8) (hi : i.val < 4) : (V0 (F := Ideal) m c main_v202 : FVec Ideal S64x8 .f32) (ix2 q i)
   = FloatOps.ofBits (F := Ideal) FTy.f32 (lit0 (S4x56.rowMajor (ix2 ⟨i, hi⟩ ⟨q, h⟩))) := by
  unfold V0
  rw [List.flatten_singleton]
  unfold hostOps0
  after_reads_simp
  refine (corner_set _ constants_window rfl rfl _ _ _ (words_at _ _ _ (by after_reads_simp; rfl) (by after_reads_simp; rfl)) ⟨q, h⟩ ⟨i, hi⟩ q i rfl rfl).trans ?_
  pointwise

end Cert.KernelIdeal.Own
-- ==== Proof.Own.Tiles.lean ====
/- One grid point's block, entry by entry: the two class probabilities, the offsets, the centre and the constants of one
   box of one pixel, over the accumulator of the convolution. -/
module

public import proofs.«01_k».proof.Proof.Own.Assemble

@[expose] public section

set_option maxRecDepth 16384

noncomputable section

namespace Cert.KernelIdeal.Own

open Idealize.ShloMosaic Idealize.ShloMosaic.TcCoe Cert.KernelIdeal Cert.KernelIdeal.Gen

/-- The centre of a box along one axis: the pixel's number and a half, times the level's step (given by its word). -/
def centre (step : BitVec 32) (x : ℕ) : EReal :=
  (FloatOps.sitofp (F := Ideal) .f32 (BitVec.ofNat 32 x) + Ideal.ofBits .f32 0x3F000000#32) * Ideal.ofBits .f32 step

theorem row_word (a k p : ℕ) (hk : k < 32) (h : a + p < 2 ^ 32) :
    IntOp.shrui .vector (IntOp.addi (BitVec.ofNat 32 a) (BitVec.ofNat 32 p)) (BitVec.ofNat 32 k) = BitVec.ofNat 32 ((a + p) / 2 ^ k) := by
  rw [WordCmp.addi_ofNat]
  unfold IntOp.shrui
  have hk' : (BitVec.ofNat 32 k).toNat = k := WordCmp.toNat_ofNat_of_lt (by omega)
  rw [if_pos (by omega)]
  apply BitVec.eq_of_toNat_eq
  rw [BitVec.ushiftRight_eq', BitVec.toNat_ushiftRight, hk', WordCmp.toNat_ofNat_of_lt h, BitVec.toNat_ofNat, Nat.shiftRight_eq_div_pow,
    Nat.mod_eq_of_lt (lt_of_le_of_lt (Nat.div_le_self _ _) h)]

theorem centre_col {step : BitVec 32} {a x : ℕ} {v : BitVec 32} (h : v = BitVec.ofNat 32 a) (hx : a = x) :
    (FloatOps.sitofp (F := Ideal) .f32 v + Ideal.ofBits .f32 0x3F000000#32) * Ideal.ofBits .f32 step = centre step x := by
  subst h hx; rfl

theorem pair_at {n : ℕ} (z : (Rows 8 n).Idx → EReal) {o : ℕ} (ho : o ≤ 6) (h) (q : Fin 2) (p : Fin n) :
    extractStridedSlice (Rows 2 n) ![o, 0] z h (ix2 q p) = z (ix2 ⟨o + q, by omega⟩ p) := by
  pointwise

/-! ## Level 0, rows 0 to 31 -/

theorem blkA_at (w : FVec Ideal S216x96 .bf16) (x : FVec Ideal S1x33x128x96 .f32) (bt : FVec Ideal S32x8 .f32)
    (ct : FVec Ideal S64x8 .f32) (p : Fin 4096) (k : Fin 4) (j : Fin 14) :
    blkA (F := Ideal) w x bt ct (ix3 0 p ⟨14 * k + j, by omega⟩)
      = cell (prob fun r => accA (F := Ideal) w x bt (ix2 r p)) (fun r => accA (F := Ideal) w x bt (ix2 r p))
        (fun q => ct (ix2 q 0)) (centre 0x3C000000#32 (p % 128)) (centre 0x3C000000#32 (0 + p / 128)) k j := by
  have hp : ∀ q : Fin 8, k0_pay18 (F := Ideal) k0_pay10 (preA w x bt) (k0_pay15 (k0_pay9 w x)) k0_pay16 (ix2 q p) = prob (fun r => accA (F := Ideal) w x bt (ix2 r p)) q :=
    fun q => (swap_at _ _ _ _ _ _ _ _ q p).trans (by pointwise [prob])
  refine (turned_at _ _ _ p ⟨14 * k + j, by omega⟩).trans ?_
  refine stack_at _ (fun r => accA (F := Ideal) w x bt (ix2 r p)) (fun q => ct (ix2 q 0)) _ _ ?_ ?_ ?_ ?_ ?_ ?_ ?_ ?_ ?_ ?_ ?_ ?_ ?_ ?_ k j
  all_goals try intro q
  all_goals try rw [← hp]
  all_goals pointwise [k0_pay2, k0_pay19, k0_pay20, k0_pay21, k0_pay22, k0_pay23, k0_pay24, k0_pay25, k0_pay26, k0_pay27, k0_pay28]
  · exact centre_col (lane_and127 p) rfl
  · exact centre_col (row_word 0 7 p (by omega) (by omega)) (by omega)

/-! ## Level 0, rows 32 to 63 -/

theorem blkB_at (w : FVec Ideal S216x96 .bf16) (x : FVec Ideal S1x34x128x96 .f32) (bt : FVec Ideal S32x8 .f32)
    (ct : FVec Ideal S64x8 .f32) (p : Fin 4096) (k : Fin 4) (j : Fin 14) :
    blkB (F := Ideal) w x bt ct (ix3 0 p ⟨14 * k + j, by omega⟩)
      = cell (prob fun r => accB (F := Ideal) w x bt (ix2 r p)) (fun r => accB (F := Ideal) w x bt (ix2 r p))
        (fun q => ct (ix2 q 0)) (centre 0x3C000000#32 (p % 128)) (centre 0x3C000000#32 (32 + p / 128)) k j := by
  have hp : ∀ q : Fin 8, k0_pay33 (F := Ideal) (k0_pay29 w x) k0_pay30 (k0_pay31 (k0_pay1 bt) w x) (ix2 q p) = prob (fun r => accB (F := Ideal) w x bt (ix2 r p)) q :=
    fun q => (swap_at _ _ _ _ _ _ _ _ q p).trans (by pointwise [prob])
  refine (turned_at _ _ _ p ⟨14 * k + j, by omega⟩).trans ?_
  refine stack_at _ (fun r => accB (F := Ideal) w x bt (ix2 r p)) (fun q => ct (ix2 q 0)) _ _ ?_ ?_ ?_ ?_ ?_ ?_ ?_ ?_ ?_ ?_ ?_ ?_ ?_ ?_ k j
  all_goals try intro q
  all_goals try rw [← hp]
  all_goals pointwise [k0_pay2, lanes4096]
  · exact centre_col (lane_and127 p) rfl
  · exact centre_col (row_word 4096 7 p (by omega) (by omega)) (by omega)

/-! ## Level 0, rows 64 to 95 -/

theorem blkC_at (w : FVec Ideal S216x96 .bf16) (x : FVec Ideal S1x34x128x96 .f32) (bt : FVec Ideal S32x8 .f32)
    (ct : FVec Ideal S64x8 .f32) (p : Fin 4096) (k : Fin 4) (j : Fin 14) :
    blkC (F := Ideal) w x bt ct (ix3 0 p ⟨14 * k + j, by omega⟩)
      = cell (prob fun r => accC (F := Ideal) w x bt (ix2 r p)) (fun r => accC (F := Ideal) w x bt (ix2 r p))
        (fun q => ct (ix2 q 0)) (centre 0x3C000000#32 (p % 128)) (centre 0x3C000000#32 (64 + p / 128)) k j := by
  have hp : ∀ q : Fin 8, k0_pay38 (F := Ideal) (k0_pay34 w x) k0_pay35 (k0_pay36 (k0_pay1 bt) w x) (ix2 q p) = prob (fun r => accC (F := Ideal) w x bt (ix2 r p)) q :=
    fun q => (swap_at _ _ _ _ _ _ _ _ q p).trans (by pointwise [prob])
  refine (turned_at _ _ _ p ⟨14 * k + j, by omega⟩).trans ?_
  refine stack_at _ (fun r => accC (F := Ideal) w x bt (ix2 r p)) (fun q => ct (ix2 q 0)) _ _ ?_ ?_ ?_ ?_ ?_ ?_ ?_ ?_ ?_ ?_ ?_ ?_ ?_ ?_ k j
  all_goals try intro q
  all_goals try rw [← hp]
  all_goals pointwise [k0_pay2, lanes4096]
  · exact centre_col (lane_and127 p) rfl
  · exact centre_col (row_word 8192 7 p (by omega) (by omega)) (by omega)

/-! ## Level 0, rows 96 to 127 -/

theorem blkD_at (w : FVec Ideal S216x96 .bf16) (x : FVec Ideal S1x33x128x96 .f32) (bt : FVec Ideal S32x8 .f32)
    (ct : FVec Ideal S64x8 .f32) (p : Fin 4096) (k : Fin 4) (j : Fin 14) :
    blkD (F := Ideal) w x bt ct (ix3 0 p ⟨14 * k + j, by omega⟩)
      = cell (prob fun r => accD (F := Ideal) w x bt (ix2 r p)) (fun r => accD (F := Ideal) w x bt (ix2 r p))
        (fun q => ct (ix2 q 0)) (centre 0x3C000000#32 (p % 128)) (centre 0x3C000000#32 (96 + p / 128)) k j := by
  have hp : ∀ q : Fin 8, k0_pay47 (F := Ideal) (preD w x bt) (k0_pay43 (k0_pay39 w x)) (k0_pay44 k0_pay40) (k0_pay45 lanes4096) (ix2 q p) = prob (fun r => accD (F := Ideal) w x bt (ix2 r p)) q :=
    fun q => (swap_at _ _ _ _ _ _ _ _ q p).trans (by pointwise [prob])
  refine (turned_at _ _ _ p ⟨14 * k + j, by omega⟩).trans ?_
  refine stack_at _ (fun r => accD (F := Ideal) w x bt (ix2 r p)) (fun q => ct (ix2 q 0)) _ _ ?_ ?_ ?_ ?_ ?_ ?_ ?_ ?_ ?_ ?_ ?_ ?_ ?_ ?_ k j
  all_goals try intro q
  all_goals try rw [← hp]
  all_goals pointwise [k0_pay2, k0_pay48, k0_pay49, k0_pay50, k0_pay51, k0_pay52, k0_pay53, k0_pay54, k0_pay55, k0_pay56, k0_pay57]
  · exact centre_col (lane_and127 p) rfl
  · exact centre_col (row_word 12288 7 p (by omega) (by omega)) (by omega)

/-! ## Level 1 -/

theorem blkE_at (w : FVec Ideal S216x192 .bf16) (x : FVec Ideal S1x64x64x192 .f32) (bt : FVec Ideal S32x8 .f32)
    (ct : FVec Ideal S64x8 .f32) (p : Fin 4096) (k : Fin 4) (j : Fin 14) :
    blkE (F := Ideal) w x bt ct (ix3 0 p ⟨14 * k + j, by omega⟩)
      = cell (prob fun r => accE (F := Ideal) w x bt (ix2 r p)) (fun r => accE (F := Ideal) w x bt (ix2 r p))
        (fun q => ct (ix2 q 1)) (centre 0x3C800000#32 (p % 64)) (centre 0x3C800000#32 (0 + p / 64)) k j := by
  have hp : ∀ q : Fin 8, k0_pay68 (F := Ideal) (k0_pay58 w x) lanes4096 k0_pay59 (preE w x bt) (k0_pay65 (k0_pay58 w x)) (k0_pay66 lanes4096) (ix2 q p) = prob (fun r => accE (F := Ideal) w x bt (ix2 r p)) q :=
    fun q => (swap_at _ _ _ _ _ _ _ _ q p).trans (by pointwise [prob])
  refine (turned_at _ _ _ p ⟨14 * k + j, by omega⟩).trans ?_
  refine stack_at _ (fun r => accE (F := Ideal) w x bt (ix2 r p)) (fun q => ct (ix2 q 1)) _ _ ?_ ?_ ?_ ?_ ?_ ?_ ?_ ?_ ?_ ?_ ?_ ?_ ?_ ?_ k j
  all_goals try intro q
  all_goals try rw [← hp]
  all_goals pointwise [k0_pay2, k0_pay69, k0_pay70, k0_pay71, lanes4096]
  · exact centre_col (lane_and63 p) rfl
  · exact centre_col (row_word 0 6 p (by omega) (by omega)) (by omega)

/-! ## Level 2 -/

theorem blkF_at (w : FVec Ideal S216x384 .bf16) (x : FVec Ideal S1x32x32x384 .f32) (bt : FVec Ideal S32x8 .f32)
    (ct : FVec Ideal S64x8 .f32) (p : Fin 1024) (k : Fin 4) (j : Fin 14) :
    blkF (F := Ideal) w x bt ct (ix3 0 p ⟨14 * k + j, by omega⟩)
      = cell (prob fun r => accF (F := Ideal) w x bt (ix2 r p)) (fun r => accF (F := Ideal) w x bt (ix2 r p))
        (fun q => ct (ix2 q 2)) (centre 0x3D000000#32 (p % 32)) (centre 0x3D000000#32 (0 + p / 32)) k j := by
  have hp : ∀ q : Fin 8, k0_pay82 (F := Ideal) (k0_pay72 w x) lanes1024 k0_pay73 (preF w x bt) (k0_pay79 (k0_pay72 w x)) (k0_pay80 lanes1024) (ix2 q p) = prob (fun r => accF (F := Ideal) w x bt (ix2 r p)) q :=
    fun q => (swap_at _ _ _ _ _ _ _ _ q p).trans (by pointwise [prob])
  refine (turned_at _ _ _ p ⟨14 * k + j, by omega⟩).trans ?_
  refine stack_at _ (fun r => accF (F := Ideal) w x bt (ix2 r p)) (fun q => ct (ix2 q 2)) _ _ ?_ ?_ ?_ ?_ ?_ ?_ ?_ ?_ ?_ ?_ ?_ ?_ ?_ ?_ k j
  all_goals try intro q
  all_goals try rw [← hp]
  all_goals pointwise [k0_pay2, k0_pay83, k0_pay84, k0_pay85]
  · exact centre_col (lane_and31 p) rfl
  · exact centre_col (row_word 0 5 p (by omega) (by omega)) (by omega)

/-! ## Level 3 -/

theorem blkG_at (w : FVec Ideal S216x768 .bf16) (x : FVec Ideal S1x16x16x768 .f32) (bt : FVec Ideal S32x8 .f32)
    (ct : FVec Ideal S64x8 .f32) (p : Fin 256) (k : Fin 4) (j : Fin 14) :
    blkG (F := Ideal) w x bt ct (ix3 0 p ⟨14 * k + j, by omega⟩)
      = cell (prob fun r => accG (F := Ideal) w x bt (ix2 r p)) (fun r => accG (F := Ideal) w x bt (ix2 r p))
        (fun q => ct (ix2 q 3)) (centre 0x3D800000#32 (p % 16)) (centre 0x3D800000#32 (0 + p / 16)) k j := by
  unfold blkG k0_pay8 k0_pay97
  refine (turned_at _ _ _ p ⟨14 * k + j, by omega⟩).trans ?_
  refine stack_at (prob fun r => accG (F := Ideal) w x bt (ix2 r p)) (fun r => accG (F := Ideal) w x bt (ix2 r p))
    (fun q => ct (ix2 q 3)) _ _ ?_ ?_ ?_ ?_ ?_ ?_ ?_ ?_ ?_ ?_ ?_ ?_ ?_ ?_ k j
  iterate 4
    · intro q
      refine (pair_at _ (by decide) _ q p).trans ?_
      exact (swap_at _ _ _ _ _ _ _ _ _ p).trans (by pointwise [prob, k0_pay95])
  all_goals try intro q
  all_goals pointwise [k0_pay2]
  · exact centre_col (lane_and15 p) rfl
  · exact centre_col (row_word 0 4 p (by omega) (by omega)) (by omega)

end Cert.KernelIdeal.Own
-- ==== Proof.Own.Spec.lean ====
/- What the kernel computes, as one function of the arguments: the 56 numbers of a pixel of one level, and the levels one
   after the other. -/
module

public import proofs.«01_k».proof.Proof.Own.Tables
public import proofs.«01_k».proof.Proof.Own.Tiles

@[expose] public section

set_option maxRecDepth 16384

noncomputable section

namespace Cert.KernelIdeal.Own

open Idealize.ShloMosaic Idealize.ShloMosaic.TcCoe Cert.KernelIdeal Cert.KernelIdeal.Gen

/-- A feature map of one image. -/
def image {B H W C : ℕ} (x : (⟨4, ![B, H, W, C]⟩ : Shape).Idx → EReal) (b : Fin B) (R : Fin H) (X : Fin W) (ch : Fin C) : EReal :=
  x (ix4 b R X ch)

/-- Output `r` of the two convolutions at pixel `(y, x)`: the class scores, then the box offsets. -/
def score {B H W C : ℕ} (x : (⟨4, ![B, H, W, C]⟩ : Shape).Idx → EReal) (wc : (⟨4, ![3, 3, C, 8]⟩ : Shape).Idx → EReal)
    (bc : S8.Idx → EReal) (wl : (⟨4, ![3, 3, C, 16]⟩ : Shape).Idx → EReal) (bl : S16.Idx → EReal) (b : Fin B) (Y X : ℕ)
    (r : Fin 24) : EReal :=
  convAt (image x b) (bias bc bl r) (both wc wl r) Y X

/-- The constant in row `q` of the table of level `i`. -/
def const (i : Fin 4) (q : Fin 64) : EReal :=
  if h : q.val < 56 then FloatOps.ofBits (F := Ideal) FTy.f32 (lit0 (S4x56.rowMajor (ix2 i ⟨q, h⟩))) else 0

/-- Entry `j` of box `k` at a pixel of level `i`. -/
def entry {B H W C : ℕ} (i : Fin 4) (step : BitVec 32) (x : (⟨4, ![B, H, W, C]⟩ : Shape).Idx → EReal)
    (wc : (⟨4, ![3, 3, C, 8]⟩ : Shape).Idx → EReal) (bc : S8.Idx → EReal) (wl : (⟨4, ![3, 3, C, 16]⟩ : Shape).Idx → EReal)
    (bl : S16.Idx → EReal) (b : Fin B) (Y X : ℕ) (k : Fin 4) (j : Fin 14) : EReal :=
  cell (prob (score x wc bc wl bl b Y X)) (score x wc bc wl bl b Y X) (const i) (centre step X) (centre step Y) k j

variable (m : (ℓ : Loc nD τ sig) → Buf (Elt Ideal) ℓ) (c : Dev nD)

/-- Entry `j` of box `k` at pixel `P` of image `b`, the pixels of the four levels counted through. -/
def pixel (b : Fin 8) (P : ℕ) (k : Fin 4) (j : Fin 14) : EReal :=
  if P < 16384 then
    entry (B := 8) (H := 128) (W := 128) (C := 96) 0 0x3C000000#32 (m (c.tc.loc main_arg0)) (m (c.tc.loc main_arg4))
      (m (c.tc.loc main_arg5)) (m (c.tc.loc main_arg6)) (m (c.tc.loc main_arg7)) b (P / 128) (P % 128) k j
  else if P < 20480 then
    entry (B := 8) (H := 64) (W := 64) (C := 192) 1 0x3C800000#32 (m (c.tc.loc main_arg1)) (m (c.tc.loc main_arg8))
      (m (c.tc.loc main_arg9)) (m (c.tc.loc main_arg10)) (m (c.tc.loc main_arg11)) b ((P - 16384) / 64) ((P - 16384) % 64) k j
  else if P < 21504 then
    entry (B := 8) (H := 32) (W := 32) (C := 384) 2 0x3D000000#32 (m (c.tc.loc main_arg2)) (m (c.tc.loc main_arg12))
      (m (c.tc.loc main_arg13)) (m (c.tc.loc main_arg14)) (m (c.tc.loc main_arg15)) b ((P - 20480) / 32) ((P - 20480) % 32) k j
  else
    entry (B := 8) (H := 16) (W := 16) (C := 768) 3 0x3D800000#32 (m (c.tc.loc main_arg3)) (m (c.tc.loc main_arg16))
      (m (c.tc.loc main_arg17)) (m (c.tc.loc main_arg18)) (m (c.tc.loc main_arg19)) b ((P - 21504) / 16) ((P - 21504) % 16) k j

end Cert.KernelIdeal.Own
-- ==== Proof.Own.Final.lean ====
/- The array the launch leaves: every pixel's 56 numbers, then the host's reshape to 14 numbers a row. -/
module

public import proofs.«01_k».proof.Proof.Own.Reads
public import proofs.«01_k».proof.Proof.Own.Spec

@[expose] public section

set_option maxRecDepth 16384

noncomputable section

namespace Cert.KernelIdeal.Own

open Idealize.ShloMosaic Idealize.ShloMosaic.TcCoe Cert.KernelIdeal Cert.KernelIdeal.Gen

theorem cell_congr {A A' : Fin 24 → EReal} {T T' : Fin 64 → EReal} {X X' Y Y' : EReal} (hA : ∀ r, A r = A' r)
    (hT : ∀ q : Fin 64, q.val < 56 → T q = T' q) (hX : X = X') (hY : Y = Y') (k : Fin 4) (j : Fin 14) :
    cell (prob A) A T X Y k j = cell (prob A') A' T' X' Y' k j := by
  obtain rfl : A = A' := funext hA
  subst hX hY
  unfold cell
  have := hT ⟨14 * k.val + j.val, by omega⟩ (by dsimp only <;> omega)
  split_ifs <;> first | rfl | exact this

variable (m : (ℓ : Loc nD τ sig) → Buf (Elt Ideal) ℓ) (c : Dev nD) (t : Fin cfg0.N)

theorem const_at (i : Fin 4) (i' : Fin 8) (hi : i'.val = i.val) (q : Fin 64) (h : q.val < 56) :
    (insAt m c t).x9 (ix2 q i') = const i q := by
  rw [table9]
  refine (constants m c q h i' (by omega)).trans ?_
  unfold const
  rw [dif_pos h]
  exact congrArg (fun z => FloatOps.ofBits (F := Ideal) FTy.f32 (lit0 (S4x56.rowMajor (ix2 z ⟨q, h⟩)))) (Fin.ext hi)

/-- The numbers of a quarter of level 0, rows `32 n` to `32 n + 31`. -/
theorem level0_at {n : ℕ} {p : Fin 4096} {A : Fin 24 → EReal} {Y : EReal} (hn : n < 4) (b : Fin 8)
    (hA : ∀ r : Fin 24, A r = convAt (image (m (c.tc.loc main_arg0)) b) ((insAt m c t).x8 (ix2 ⟨r, by omega⟩ 0))
      (both (m (c.tc.loc main_arg4)) (m (c.tc.loc main_arg6)) r) (32 * n + p / 128) (p % 128))
    (hY : Y = centre 0x3C000000#32 (32 * n + p / 128)) (k : Fin 4) (j : Fin 14) :
    cell (prob A) A (fun q => (insAt m c t).x9 (ix2 q 0)) (centre 0x3C000000#32 (p % 128)) Y k j
      = pixel m c b (4096 * n + p) k j := by
  have hp := p.isLt
  unfold pixel
  rw [if_pos (by omega)]
  refine cell_congr (fun r => (hA r).trans ?_) (fun q => const_at m c t 0 0 rfl q) (congrArg (centre _) (by omega))
    (hY.trans (congrArg (centre _) (by omega))) k j
  rw [table8]
  unfold score
  rw [show (4096 * n + p.val) / 128 = 32 * n + p / 128 by omega, show (4096 * n + p.val) % 128 = p % 128 by omega]
  exact congrArg (convAt _ · _ _ _) (biases m c ⟨r, by omega⟩ r.isLt 0 (by decide))

/-- The numbers that point `t` leaves in row `p` of its block. -/
theorem block_at (p : Fin 4096) (hp : 4096 * (t.val % 6) + p.val < 21760) (k : Fin 4) (j : Fin 14) :
    blockAt m c t (ix3 0 p ⟨14 * k + j, by omega⟩) = pixel m c (imageOf t) (4096 * (t.val % 6) + p) k j := by
  have hb := p.isLt
  have h6 : t.val % 6 < 6 := Nat.mod_lt _ (by decide)
  unfold blockAt
  generalize hj : t.val % 6 = n at *
  match n, h6 with
  | 0, _ =>
    refine (blkA_at _ _ _ _ p k j).trans (level0_at m c t (n := 0) (by decide) _ (fun r => ?_) (by simp) k j)
    rw [table4]
    exact accA_at _ _ _ _ _ r (fun R X ch => (slabA_at _ R X ch).trans (feature0 m c t (by omega) _ X ch)) (weights0 m c r) p
  | 1, _ =>
    refine (blkB_at _ _ _ _ p k j).trans (level0_at m c t (n := 1) (by decide) _ (fun r => ?_) (by simp) k j)
    rw [table4]
    exact accB_at _ _ _ _ _ r (fun R X ch => (slabB_at _ R X ch).trans (feature0 m c t (by omega) _ X ch)) (weights0 m c r) p
  | 2, _ =>
    refine (blkC_at _ _ _ _ p k j).trans (level0_at m c t (n := 2) (by decide) _ (fun r => ?_) (by simp) k j)
    rw [table4]
    exact accC_at _ _ _ _ _ r (fun R X ch => (slabC_at _ R X ch).trans (feature0 m c t (by omega) _ X ch)) (weights0 m c r) p
  | 3, _ =>
    refine (blkD_at _ _ _ _ p k j).trans (level0_at m c t (n := 3) (by decide) _ (fun r => ?_) (by simp) k j)
    rw [table4]
    exact accD_at _ _ _ _ _ r (fun R X ch => (slabD_at _ R X ch).trans (feature0 m c t (by omega) _ X ch)) (weights0 m c r) p
  | 4, _ =>
    refine (blkE_at _ _ _ _ p k j).trans ?_
    unfold pixel
    rw [if_neg (by omega), if_pos (by omega)]
    refine cell_congr (fun r => ?_) (fun q => const_at m c t 1 1 rfl q) (congrArg (centre _) (by omega)) (congrArg (centre _) (by omega)) k j
    rw [table5]
    refine (accE_at _ _ _ _ _ r (fun R X ch => feature1 m c t (by omega) R X ch) (weights1 m c r) p).trans ?_
    rw [table8]
    unfold score
    rw [show (4096 * 4 + p.val - 16384) / 64 = 0 + p / 64 by omega, show (4096 * 4 + p.val - 16384) % 64 = p % 64 by omega]
    exact congrArg (convAt _ · _ _ _) (biases m c ⟨r, by omega⟩ r.isLt 1 (by decide))
  | 5, _ =>
    unfold outAt tailOut pixel
    dsimp only
    by_cases h : p.val < 1024
    · rw [if_neg (by omega), if_neg (by omega), if_pos (by omega)]
      refine (dif_pos h).trans ((blkF_at _ _ _ _ ⟨p, h⟩ k j).trans ?_)
      dsimp only
      refine cell_congr (fun r => ?_) (fun q => const_at m c t 2 2 rfl q) (congrArg (centre _) (by omega)) (congrArg (centre _) (by omega)) k j
      rw [table6]
      refine (accF_at _ _ _ _ _ r (fun R X ch => feature2 m c t (by omega) R X ch) (weights2 m c r) ⟨p, h⟩).trans ?_
      rw [table8]
      unfold score
      rw [show (4096 * 5 + p.val - 20480) / 32 = 0 + p / 32 by omega, show (4096 * 5 + p.val - 20480) % 32 = p % 32 by omega]
      exact congrArg (convAt _ · _ _ _) (biases m c ⟨r, by omega⟩ r.isLt 2 (by decide))
    · have h' : p.val < 1280 := by omega
      rw [if_neg (by omega), if_neg (by omega), if_neg (by omega)]
      refine (dif_neg h).trans ((dif_pos h').trans ((blkG_at _ _ _ _ ⟨p - 1024, by omega⟩ k j).trans ?_))
      dsimp only
      refine cell_congr (fun r => ?_) (fun q => const_at m c t 3 3 rfl q) (congrArg (centre _) (by omega)) (congrArg (centre _) (by omega)) k j
      rw [table7]
      refine (accG_at _ _ _ _ _ r (fun R X ch => feature3 m c t (by omega) R X ch) (weights3 m c r) ⟨p - 1024, by omega⟩).trans ?_
      rw [table8]
      unfold score
      rw [show (4096 * 5 + p.val - 21504) / 16 = 0 + (p - 1024) / 16 by omega, show (4096 * 5 + p.val - 21504) % 16 = (p - 1024) % 16 by omega]
      exact congrArg (convAt _ · _ _ _) (biases m c ⟨r, by omega⟩ r.isLt 3 (by decide))

/-- The output array of the launch. -/
def whole : FVec Ideal S8x21760x56 .f32 := fun i =>
  pixel m c (i 0) (i 1).val ⟨(i 2).val / 14, by have : (i 2).val < 56 := (i 2).isLt; omega⟩ ⟨(i 2).val % 14, Nat.mod_lt _ (by decide)⟩

theorem whole_of (i : S8x21760x56.Idx) (b : Fin 8) (P : ℕ) (k : Fin 4) (j : Fin 14) (h0 : (i 0).val = b.val) (h1 : (i 1).val = P)
    (h2 : (i 2).val = 14 * k + j) : whole m c i = pixel m c b P k j := by
  unfold whole
  subst h1
  obtain rfl : i 0 = b := Fin.ext h0
  congr 1
  · exact Fin.ext (by simp only [h2]; omega)
  · exact Fin.ext (by simp only [h2]; omega)

/-- The rows of 14 numbers that the program returns. -/
def out : FVec Ideal S8x87040x14 .f32 := fun i =>
  pixel m c (i 0) ((i 1).val / 4) ⟨(i 1).val % 4, Nat.mod_lt _ (by decide)⟩ (i 2)

theorem reshape_whole (h : S8x21760x56.ShapeCasts S8x87040x14) : shapeCast S8x87040x14 (whole m c) h = out m c := by
  funext i
  obtain ⟨b, n, j, rfl⟩ : ∃ (b : Fin 8) (n : Fin 87040) (j : Fin 14), i = ix3 b n j := ⟨i 0, i 1, i 2, by
    funext a
    match a with
    | ⟨0, _⟩ => rfl
    | ⟨1, _⟩ => rfl
    | ⟨2, _⟩ => rfl⟩
  refine (shapeCast_apply _ h (ix3 b n j) (ix3 b ⟨n / 4, by omega⟩ ⟨14 * (n % 4) + j, by omega⟩) ?_).trans ?_
  · rw [Shape.rowMajor_val_three, Shape.rowMajor_val_three]
    show (b.val * 21760 + n.val / 4) * 56 + (14 * (n.val % 4) + j.val) = (b.val * 87040 + n.val) * 14 + j.val
    omega
  · exact whole_of m c _ b _ ⟨n % 4, by omega⟩ j rfl rfl rfl

theorem final : (dats m 0 c).arrAt 10 cfg0.N = whole m c := by
  refine (dats m 0 c).arrAt_eq_of_covers 10 _ cover fun t hf y => ?_
  blk_simp
  have b0 : (y 0 : ℕ) < 1 := ((cfg0.win 10).xinj (cfg0.grid.coords t) y 0).isLt
  have b1 : (y 1 : ℕ) < 4096 := ((cfg0.win 10).xinj (cfg0.grid.coords t) y 1).isLt
  have b2 : (y 2 : ℕ) < 56 := ((cfg0.win 10).xinj (cfg0.grid.coords t) y 2).isLt
  have e0 : ((win0_10.blk t).view.emb y 0 : ℕ) = t.val / 6 := by
    blk_simp [place10 t]
    omega
  have e1 : ((win0_10.blk t).view.emb y 1 : ℕ) = 4096 * (t.val % 6) + (y 1 : ℕ) := by
    blk_simp [place10 t]
    omega
  have e2 : ((win0_10.blk t).view.emb y 2 : ℕ) = (y 2 : ℕ) := by
    blk_simp [place10 t]
  have b3 : ((win0_10.blk t).view.emb y 1 : ℕ) < 21760 := ((win0_10.blk t).view.emb y 1).isLt
  have hx : (cfg0.win 10).xinj (cfg0.grid.coords t) y
      = ix3 0 ⟨(y 1 : ℕ), b1⟩ ⟨14 * ((y 2 : ℕ) / 14) + (y 2 : ℕ) % 14, by omega⟩ := by
    funext a
    match a with
    | ⟨0, _⟩ => exact Fin.ext (Nat.lt_one_iff.mp b0)
    | ⟨1, _⟩ => rfl
    | ⟨2, _⟩ => exact Fin.ext (Nat.div_add_mod (y 2 : ℕ) 14).symm
  show blockAt m c t ((cfg0.win 10).xinj (cfg0.grid.coords t) y) = _
  rw [hx]
  refine (block_at m c t ⟨(y 1 : ℕ), b1⟩ (by dsimp only; omega) ⟨(y 2 : ℕ) / 14, by omega⟩ ⟨(y 2 : ℕ) % 14, by omega⟩).trans ?_
  exact (whole_of m c _ (imageOf t) _ _ _ e0 e1 (e2.trans (Nat.div_add_mod (y 2 : ℕ) 14).symm)).symm

end Cert.KernelIdeal.Own
-- ==== Proof.Own.KernelRun.lean ====
/- The run of the kernel: it ends with the rows of the specification in the result, and every argument as launched. -/
module

public import proofs.«01_k».proof.Proof.Own.Launch
public import proofs.«01_k».proof.Proof.Own.Final

@[expose] public section

set_option maxRecDepth 16384

noncomputable section

namespace Cert.KernelIdeal.Own

open Idealize.ShloMosaic Idealize.ShloMosaic.TcCoe Cert.KernelIdeal Cert.KernelIdeal.Gen
open Idealize.SL Idealize.SL.Sem

variable (m : (ℓ : Loc nD τ sig) → Buf (Elt Ideal) ℓ) (ρ : Dev nD → PrngReg)

/-- The host's last operation turns the output array of the launch into the result. -/
theorem tail_out (c : Dev nD) :
    Pipeline.afterTail₀ cfgs (dats m) 0 (V0 m) [hostOps1] c main_v204 = out m c := by
  unfold Pipeline.afterTail₀
  rw [List.flatten_singleton]
  unfold hostOps1
  after_reads_simp
  have h : Pipeline.withArrays (cfgs 0).spec c (V0 m c) (fun w => (dats m 0 c).arrAt w (cfgs 0).N) (Proc.tc.devRef main_v203)
      = whole m c := (Pipeline.Dat.withArrays_arrAt (dats m 0 c) (by decide) (V0 m c) (A_eq m c) 10).trans (final m c)
  rw [h]
  exact reshape_whole m c _

/-- The frame: every argument ends as launched and the semaphores are at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (frame_of m ρ (dats m) (A_eq m) ((θ_run defs _ _).mono (fun _ h => h.1) (launch m ρ)))
  ((θ_run defs _ _).mono (fun _ h => h.2) (launch m ρ))

/-- The run with its value. -/
theorem run : θ_run defs (onTc (τ := τ) (main (F := Ideal))) ⟨m, fun _ => 0, ρ⟩ (fun r => ∀ c : Dev nD,
      r.2.mem ((c.tc : Thread nD τ).loc main_v204) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  have h₁ : θ_run defs (onTc (τ := τ) (main (F := Ideal))) ⟨m, fun _ => 0, ρ⟩ (fun r => ∀ c : Dev nD,
      r.2.mem ((c.tc : Thread nD τ).loc main_v204) = out m c) :=
    (θ_run defs _ _).mono (fun r h c => ((h.1 c).2 main_v204 (by decide)).trans (tail_out m c)) (launch m ρ)
  exact (θ_run defs _ _).mono (fun r h c => ⟨h.1 c, h.2.1 c⟩) (θ_run_and h₁ (frame m ρ))

end Cert.KernelIdeal.Own
-- ==== Proof.Own.RefConv.lean ====
/- One level of the reference at an index: nine shifted products of the padded map and the bias are the convolution of the
   specification. -/
module

public import proofs.«01_k».proof.Proof.Own.Spec
public import proofs.«01_k».proof.ReferenceIdeal

@[expose] public section

set_option maxRecDepth 16384

noncomputable section

namespace Cert.ReferenceIdeal.Own

open Idealize.ShloMosaic Idealize.ShloMosaic.TcCoe Cert.ReferenceIdeal
open Cert.KernelIdeal.Own (Rows image padded padDot convAt)

/-- The shape of the padded map. -/
abbrev Padded (B H W C : ℕ) : Shape := ⟨4, ![B, H + 2, W + 2, C]⟩

variable {B H W C N n : ℕ}

/-- An array is a feature map with its border of zeros. -/
def IsPadded (x : (⟨4, ![B, H, W, C]⟩ : Shape).Idx → EReal) (P : (Padded B H W C).Idx → EReal) : Prop :=
  ∀ (b : Fin B) (Y : Fin (H + 2)) (X : Fin (W + 2)) (c : Fin C), P (ix4 b Y X c) = padded (image x b) Y X c

theorem isPadded_pad (x : (⟨4, ![B, H, W, C]⟩ : Shape).Idx → EReal) (hp) (h0) :
    IsPadded x (pad (s := ⟨4, ![B, H, W, C]⟩) (Padded B H W C) ![0, 1, 1, 0] ![0, 1, 1, 0] ![0, 0, 0, 0] x
      (sitofp (F := Ideal) .f32 (constantI S_ 32 0#32)) hp h0) := by
  intro b Y X c
  pointwise
  unfold padded
  have z : FloatOps.sitofp (F := Ideal) FTy.f32 (0#32) = (0 : EReal) := by
    show ((((0#32 : BitVec 32).toInt : ℝ)) : EReal) = 0
    simp
  split_ifs <;> first | rfl | omega | exact z

/-- A product of an array of pixels with a matrix: the channels summed. -/
def IsDot (D : ((⟨3, ![B, N, C]⟩ : Shape).Idx → EReal) → ((Rows C n).Idx → EReal) → (⟨3, ![B, N, n]⟩ : Shape).Idx → EReal) : Prop :=
  ∀ x w b p r, D x w (ix3 b p r) = ∑ c : Fin C, x (ix3 b p c) * w (ix2 c r)

/-- The pixels of an image counted row after row. -/
theorem pixels_at (Z : (⟨4, ![B, H, W, C]⟩ : Shape).Idx → EReal) (h) (hN : N = H * W) (b : Fin B) (y : Fin H) (x : Fin W) (p : Fin N)
    (hp : y.val * W + x.val = p.val) (c : Fin C) :
    shapeCast (s := ⟨4, ![B, H, W, C]⟩) ⟨3, ![B, N, C]⟩ Z h (ix3 b p c) = Z (ix4 b y x c) :=
  shapeCast_apply _ h (ix3 b p c) (ix4 b y x c) (by
    rw [Shape.rowMajor_val_four, Shape.rowMajor_val_three]
    show ((b.val * H + y.val) * W + x.val) * C + c.val = (b.val * N + p.val) * C + c.val
    rw [← hp, hN]
    ring)

/-- One convolution: the column `r` of a kernel against the pixels around `(y, x)`, and its bias. -/
def conv (x : (⟨4, ![B, H, W, C]⟩ : Shape).Idx → EReal) (w : (⟨4, ![3, 3, C, n]⟩ : Shape).Idx → EReal)
    (v : (⟨1, ![n]⟩ : Shape).Idx → EReal) (b : Fin B) (Y X : ℕ) (r : Fin n) : EReal :=
  convAt (image x b) (v (ix1 r)) (fun ky kx c => w (ix4 (Fin.ofNat 3 ky) (Fin.ofNat 3 kx) c r)) Y X

/-- An array holds the nine matrices of a kernel, row after row. -/
def IsTaps (w : (⟨4, ![3, 3, C, n]⟩ : Shape).Idx → EReal) (W : (⟨3, ![9, C, n]⟩ : Shape).Idx → EReal) : Prop :=
  ∀ (k : Fin 9) (c : Fin C) (r : Fin n), W (ix3 k c r) = w (ix4 (Fin.ofNat 3 (k / 3)) (Fin.ofNat 3 (k % 3)) c r)

theorem isTaps_reshape (w : (⟨4, ![3, 3, C, n]⟩ : Shape).Idx → EReal) (h) : IsTaps w (shapeCast ⟨3, ![9, C, n]⟩ w h) := by
  intro k c r
  refine shapeCast_apply (t := ⟨3, ![9, C, n]⟩) _ h (ix3 k c r) _ ?_
  rw [Shape.rowMajor_val_four, Shape.rowMajor_val_three]
  show (((k.val / 3 % 3) * 3 + k.val % 3 % 3) * C + c.val) * n + r.val = (k.val * C + c.val) * n + r.val
  rw [show (k.val / 3 % 3) * 3 + k.val % 3 % 3 = k.val by omega]

/-- Cutting one matrix out of the nine and dropping the unit axis. -/
theorem matrix_at (W : (⟨3, ![9, C, n]⟩ : Shape).Idx → EReal) (k : ℕ) (hk : k < 9) (h₁ h₂) (c : Fin C) (r : Fin n) :
    shapeCast (Rows C n) (extractStridedSlice (s := ⟨3, ![9, C, n]⟩) ⟨3, ![1, C, n]⟩ ![k, 0, 0] W h₁) h₂ (ix2 c r) = W (ix3 ⟨k, hk⟩ c r) := by
  refine (shapeCast_apply (t := Rows C n) _ h₂ (ix2 c r) (ix3 0 c r) (by
    rw [Shape.rowMajor_val_three, Shape.rowMajor_val_two]
    show (0 * C + c.val) * n + r.val = c.val * n + r.val
    simp)).trans ?_
  pointwise

theorem tap_at {D} (hD : IsDot (B := B) (N := N) (C := C) (n := n) D) {x} {P} (hP : IsPadded (H := H) (W := W) x P)
    {w : (⟨4, ![3, 3, C, n]⟩ : Shape).Idx → EReal} {M} (hM : IsTaps w M) (hN : N = H * W) (ky kx k : ℕ) (hk : ky = k / 3)
    (hk' : kx = k % 3) (h9 : k < 9) (hs hv ht hu) (b : Fin B) (y : Fin H) (x' : Fin W) (p : Fin N) (hp : y.val * W + x'.val = p.val)
    (r : Fin n) :
    D (shapeCast ⟨3, ![B, N, C]⟩ (extractStridedSlice (s := Padded B H W C) ⟨4, ![B, H, W, C]⟩ ![0, ky, kx, 0] P hs) hv)
      (shapeCast (Rows C n) (extractStridedSlice (s := ⟨3, ![9, C, n]⟩) ⟨3, ![1, C, n]⟩ ![k, 0, 0] M ht) hu) (ix3 b p r)
      = padDot (image x b) (fun c => w (ix4 (Fin.ofNat 3 ky) (Fin.ofNat 3 kx) c r)) (y + ky) (x' + kx) := by
  rw [hD]
  refine Finset.sum_congr rfl fun c _ => ?_
  rw [matrix_at M k h9, hM, mul_comm, ← hk, ← hk', pixels_at _ hv hN b y x' p hp]
  refine congrArg (_ * ·) ?_
  have hy : (y : ℕ) + ky < H + 2 := by omega
  have hx : (x' : ℕ) + kx < W + 2 := by omega
  refine Eq.trans ?_ (hP b ⟨y + ky, hy⟩ ⟨x' + kx, hx⟩ c)
  pointwise
  exact congrArg P (congrArg₂ (fun Y X => ix4 b Y X c) (Fin.ext (Nat.add_comm _ _)) (Fin.ext (Nat.add_comm _ _)))

theorem conv_at {D} (hD : IsDot (B := B) (N := N) (C := C) (n := n) D) {x} {P} (hP : IsPadded (H := H) (W := W) x P)
    {w : (⟨4, ![3, 3, C, n]⟩ : Shape).Idx → EReal} {M} (hM : IsTaps w M) (v : (⟨1, ![n]⟩ : Shape).Idx → EReal) (hN : N = H * W)
    {s0 z0 t0 u0 s1 z1 t1 u1 s2 z2 t2 u2 s3 z3 t3 u3 s4 z4 t4 u4 s5 z5 t5 u5 s6 z6 t6 u6 s7 z7 t7 u7 s8 z8 t8 u8 h h'} (b : Fin B) (y : Fin H) (x' : Fin W) (p : Fin N) (hp : y.val * W + x'.val = p.val)
    (r : Fin n) :
    addf (F := Ideal) (φ := .f32) (addf (φ := .f32) (addf (φ := .f32) (addf (φ := .f32) (addf (φ := .f32) (addf (φ := .f32) (addf (φ := .f32) (addf (φ := .f32) (addf (φ := .f32) (D (shapeCast ⟨3, ![B, N, C]⟩ (extractStridedSlice (s := Padded B H W C) ⟨4, ![B, H, W, C]⟩ ![0, 0, 0, 0] P s0) z0) (shapeCast (Rows C n) (extractStridedSlice (s := ⟨3, ![9, C, n]⟩) ⟨3, ![1, C, n]⟩ ![0, 0, 0] M t0) u0))
        (D (shapeCast ⟨3, ![B, N, C]⟩ (extractStridedSlice (s := Padded B H W C) ⟨4, ![B, H, W, C]⟩ ![0, 0, 1, 0] P s1) z1) (shapeCast (Rows C n) (extractStridedSlice (s := ⟨3, ![9, C, n]⟩) ⟨3, ![1, C, n]⟩ ![1, 0, 0] M t1) u1)))
        (D (shapeCast ⟨3, ![B, N, C]⟩ (extractStridedSlice (s := Padded B H W C) ⟨4, ![B, H, W, C]⟩ ![0, 0, 2, 0] P s2) z2) (shapeCast (Rows C n) (extractStridedSlice (s := ⟨3, ![9, C, n]⟩) ⟨3, ![1, C, n]⟩ ![2, 0, 0] M t2) u2)))
        (D (shapeCast ⟨3, ![B, N, C]⟩ (extractStridedSlice (s := Padded B H W C) ⟨4, ![B, H, W, C]⟩ ![0, 1, 0, 0] P s3) z3) (shapeCast (Rows C n) (extractStridedSlice (s := ⟨3, ![9, C, n]⟩) ⟨3, ![1, C, n]⟩ ![3, 0, 0] M t3) u3)))
        (D (shapeCast ⟨3, ![B, N, C]⟩ (extractStridedSlice (s := Padded B H W C) ⟨4, ![B, H, W, C]⟩ ![0, 1, 1, 0] P s4) z4) (shapeCast (Rows C n) (extractStridedSlice (s := ⟨3, ![9, C, n]⟩) ⟨3, ![1, C, n]⟩ ![4, 0, 0] M t4) u4)))
        (D (shapeCast ⟨3, ![B, N, C]⟩ (extractStridedSlice (s := Padded B H W C) ⟨4, ![B, H, W, C]⟩ ![0, 1, 2, 0] P s5) z5) (shapeCast (Rows C n) (extractStridedSlice (s := ⟨3, ![9, C, n]⟩) ⟨3, ![1, C, n]⟩ ![5, 0, 0] M t5) u5)))
        (D (shapeCast ⟨3, ![B, N, C]⟩ (extractStridedSlice (s := Padded B H W C) ⟨4, ![B, H, W, C]⟩ ![0, 2, 0, 0] P s6) z6) (shapeCast (Rows C n) (extractStridedSlice (s := ⟨3, ![9, C, n]⟩) ⟨3, ![1, C, n]⟩ ![6, 0, 0] M t6) u6)))
        (D (shapeCast ⟨3, ![B, N, C]⟩ (extractStridedSlice (s := Padded B H W C) ⟨4, ![B, H, W, C]⟩ ![0, 2, 1, 0] P s7) z7) (shapeCast (Rows C n) (extractStridedSlice (s := ⟨3, ![9, C, n]⟩) ⟨3, ![1, C, n]⟩ ![7, 0, 0] M t7) u7)))
        (D (shapeCast ⟨3, ![B, N, C]⟩ (extractStridedSlice (s := Padded B H W C) ⟨4, ![B, H, W, C]⟩ ![0, 2, 2, 0] P s8) z8) (shapeCast (Rows C n) (extractStridedSlice (s := ⟨3, ![9, C, n]⟩) ⟨3, ![1, C, n]⟩ ![8, 0, 0] M t8) u8)))
      (broadcastInDim (s := ⟨3, ![1, 1, n]⟩) ⟨3, ![B, N, n]⟩ ![0, 1, 2] h
        (broadcastInDim (s := ⟨1, ![n]⟩) ⟨3, ![1, 1, n]⟩ ![2] h' v)) (ix3 b p r)
      = conv x w v b y x' r := by
  have hv : broadcastInDim (s := ⟨3, ![1, 1, n]⟩) ⟨3, ![B, N, n]⟩ ![0, 1, 2] h
        (broadcastInDim (s := ⟨1, ![n]⟩) ⟨3, ![1, 1, n]⟩ ![2] h' v) (ix3 b p r) = v (ix1 r) := by
    pointwise
    refine congrArg v (congrArg ix1 ?_)
    by_cases hn : n = 1
    · subst hn
      exact Subsingleton.elim (α := Fin 1) _ _
    · exact (dif_neg hn).trans (dif_neg hn)
  unfold conv convAt
  have e0 := tap_at hD hP hM hN 0 0 0 rfl rfl (by decide) s0 z0 t0 u0 b y x' p hp r
  have e1 := tap_at hD hP hM hN 0 1 1 rfl rfl (by decide) s1 z1 t1 u1 b y x' p hp r
  have e2 := tap_at hD hP hM hN 0 2 2 rfl rfl (by decide) s2 z2 t2 u2 b y x' p hp r
  have e3 := tap_at hD hP hM hN 1 0 3 rfl rfl (by decide) s3 z3 t3 u3 b y x' p hp r
  have e4 := tap_at hD hP hM hN 1 1 4 rfl rfl (by decide) s4 z4 t4 u4 b y x' p hp r
  have e5 := tap_at hD hP hM hN 1 2 5 rfl rfl (by decide) s5 z5 t5 u5 b y x' p hp r
  have e6 := tap_at hD hP hM hN 2 0 6 rfl rfl (by decide) s6 z6 t6 u6 b y x' p hp r
  have e7 := tap_at hD hP hM hN 2 1 7 rfl rfl (by decide) s7 z7 t7 u7 b y x' p hp r
  have e8 := tap_at hD hP hM hN 2 2 8 rfl rfl (by decide) s8 z8 t8 u8 b y x' p hp r
  simp only [Nat.add_zero] at e0 e1 e2 e3 e6
  show _ + _ + _ + _ + _ + _ + _ + _ + _ + _ = _
  rw [hv, e0, e1, e2, e3, e4, e5, e6, e7, e8]
  abel

end Cert.ReferenceIdeal.Own
-- ==== Proof.Own.RefLevels.lean ====
/- The scores and the box offsets of the reference, level by level: the convolution of each level, its pixels laid out four
   boxes each, and the four levels one after the other. -/
module

public import proofs.«01_k».proof.Proof.Own.RefConv
public import proofs.«01_k».proof.Proof.Gen.ReferenceIdeal.Run

@[expose] public section

set_option maxRecDepth 16384
set_option maxHeartbeats 4000000

noncomputable section

namespace Cert.ReferenceIdeal.Own

open Idealize.ShloMosaic Idealize.ShloMosaic.TcCoe Cert.ReferenceIdeal Cert.ReferenceIdeal.Gen Cert.ReferenceIdeal.Value
open Cert.KernelIdeal.Own (Rows image padded padDot convAt)

/-- Pixels of `n` numbers laid out as rows of `q`: row `N'`, place `j` is the number of the same position. -/
theorem unrolled {B n M N q : ℕ} {Z : (⟨3, ![B, M, n]⟩ : Shape).Idx → EReal} (h) (b : Fin B) (N' : Fin N) (j : Fin q)
    (p : Fin M) (r : Fin n) (hk : (b.val * M + p) * n + r = (b.val * N + N') * q + j) :
    shapeCast (s := ⟨3, ![B, M, n]⟩) ⟨3, ![B, N, q]⟩ Z h (ix3 b N' j) = Z (ix3 b p r) :=
  shapeCast_apply _ h (ix3 b N' j) (ix3 b p r) (by
    rw [Shape.rowMajor_val_three, Shape.rowMajor_val_three]
    exact hk)

/-- Rows of the levels one after the other, read in the level that holds the row. -/
theorem stacked {B T q : ℕ} {xs : List ((s : Shape) × (s.Idx → EReal))} (h : Shape.Concatenates (xs.map (·.1)) ⟨3, ![B, T, q]⟩ 1)
    (hs : List ℕ) (hn : xs.map (·.1) = hs.map (fun N => ⟨3, ![B, N, q]⟩)) (m : ℕ) {N : ℕ}
    {x₁ : (⟨3, ![B, N, q]⟩ : Shape).Idx → EReal} (hx : xs[m]? = some ⟨⟨3, ![B, N, q]⟩, x₁⟩) (pre : ℕ) (hpre : (hs.take m).sum = pre)
    (b : Fin B) (t : Fin T) (j : Fin q) (N' : Fin N) (hN : pre + N'.val = t.val) :
    concatenate ⟨3, ![B, T, q]⟩ 1 xs h (ix3 b t j) = x₁ (ix3 b N' j) := by
  obtain ⟨hm, hx⟩ := List.getElem?_eq_some_iff.mp hx
  refine concatenate_apply_piece (t := ⟨3, ![B, T, q]⟩) 1 xs h (ix3 b t j) m hm ⟨3, ![B, N, q]⟩ x₁ hx rfl pre ?_ (ix3 b N' j) ?_ hN
  · rw [List.map_take, hn, ← List.map_take, List.map_map, ← hpre]
    exact congrArg List.sum ((List.map_congr_left fun r _ => by simp).trans (List.map_id _))
  · intro a ha
    match a with
    | ⟨0, _⟩ => rfl
    | ⟨1, _⟩ => exact absurd rfl ha
    | ⟨2, _⟩ => rfl

variable (V : Valuation τ sig (Elt Ideal))

theorem dot_0_8 : IsDot (B := 8) (N := 16384) (C := 96) (n := 8)
    (fun x w => Host.dotGeneral (F := Ideal) (φ₁ := .f32) (φ₂ := .f32) dot_S8x16384x96_S96x8_S8x16384x8_2_0_01_1_n_n none x w) := by
  intro x w b p r
  pointwise

theorem padded_73 : IsPadded (B := 8) (H := 128) (W := 128) (C := 96) (V (Proc.devRef .tc main_arg0)) (res_main_v73 V) :=
  isPadded_pad _ _ _

theorem taps_74 : IsTaps (C := 96) (n := 8) (V (Proc.devRef .tc main_arg4)) (res_main_v74 V) :=
  isTaps_reshape _ _

theorem dot_0_16 : IsDot (B := 8) (N := 16384) (C := 96) (n := 16)
    (fun x w => Host.dotGeneral (F := Ideal) (φ₁ := .f32) (φ₂ := .f32) dot_S8x16384x96_S96x16_S8x16384x16_2_0_01_1_n_n none x w) := by
  intro x w b p r
  pointwise

theorem padded_132 : IsPadded (B := 8) (H := 128) (W := 128) (C := 96) (V (Proc.devRef .tc main_arg0)) (res_main_v132 V) :=
  isPadded_pad _ _ _

theorem taps_133 : IsTaps (C := 96) (n := 16) (V (Proc.devRef .tc main_arg6)) (res_main_v133 V) :=
  isTaps_reshape _ _

theorem dot_1_8 : IsDot (B := 8) (N := 4096) (C := 192) (n := 8)
    (fun x w => Host.dotGeneral (F := Ideal) (φ₁ := .f32) (φ₂ := .f32) dot_S8x4096x192_S192x8_S8x4096x8_2_0_01_1_n_n none x w) := by
  intro x w b p r
  pointwise

theorem padded_191 : IsPadded (B := 8) (H := 64) (W := 64) (C := 192) (V (Proc.devRef .tc main_arg1)) (res_main_v191 V) :=
  isPadded_pad _ _ _

theorem taps_192 : IsTaps (C := 192) (n := 8) (V (Proc.devRef .tc main_arg8)) (res_main_v192 V) :=
  isTaps_reshape _ _

theorem dot_1_16 : IsDot (B := 8) (N := 4096) (C := 192) (n := 16)
    (fun x w => Host.dotGeneral (F := Ideal) (φ₁ := .f32) (φ₂ := .f32) dot_S8x4096x192_S192x16_S8x4096x16_2_0_01_1_n_n none x w) := by
  intro x w b p r
  pointwise

theorem padded_250 : IsPadded (B := 8) (H := 64) (W := 64) (C := 192) (V (Proc.devRef .tc main_arg1)) (res_main_v250 V) :=
  isPadded_pad _ _ _

theorem taps_251 : IsTaps (C := 192) (n := 16) (V (Proc.devRef .tc main_arg10)) (res_main_v251 V) :=
  isTaps_reshape _ _

theorem dot_2_8 : IsDot (B := 8) (N := 1024) (C := 384) (n := 8)
    (fun x w => Host.dotGeneral (F := Ideal) (φ₁ := .f32) (φ₂ := .f32) dot_S8x1024x384_S384x8_S8x1024x8_2_0_01_1_n_n none x w) := by
  intro x w b p r
  pointwise

theorem padded_309 : IsPadded (B := 8) (H := 32) (W := 32) (C := 384) (V (Proc.devRef .tc main_arg2)) (res_main_v309 V) :=
  isPadded_pad _ _ _

theorem taps_310 : IsTaps (C := 384) (n := 8) (V (Proc.devRef .tc main_arg12)) (res_main_v310 V) :=
  isTaps_reshape _ _

theorem dot_2_16 : IsDot (B := 8) (N := 1024) (C := 384) (n := 16)
    (fun x w => Host.dotGeneral (F := Ideal) (φ₁ := .f32) (φ₂ := .f32) dot_S8x1024x384_S384x16_S8x1024x16_2_0_01_1_n_n none x w) := by
  intro x w b p r
  pointwise

theorem padded_368 : IsPadded (B := 8) (H := 32) (W := 32) (C := 384) (V (Proc.devRef .tc main_arg2)) (res_main_v368 V) :=
  isPadded_pad _ _ _

theorem taps_369 : IsTaps (C := 384) (n := 16) (V (Proc.devRef .tc main_arg14)) (res_main_v369 V) :=
  isTaps_reshape _ _

theorem dot_3_8 : IsDot (B := 8) (N := 256) (C := 768) (n := 8)
    (fun x w => Host.dotGeneral (F := Ideal) (φ₁ := .f32) (φ₂ := .f32) dot_S8x256x768_S768x8_S8x256x8_2_0_01_1_n_n none x w) := by
  intro x w b p r
  pointwise

theorem padded_427 : IsPadded (B := 8) (H := 16) (W := 16) (C := 768) (V (Proc.devRef .tc main_arg3)) (res_main_v427 V) :=
  isPadded_pad _ _ _

theorem taps_428 : IsTaps (C := 768) (n := 8) (V (Proc.devRef .tc main_arg16)) (res_main_v428 V) :=
  isTaps_reshape _ _

theorem dot_3_16 : IsDot (B := 8) (N := 256) (C := 768) (n := 16)
    (fun x w => Host.dotGeneral (F := Ideal) (φ₁ := .f32) (φ₂ := .f32) dot_S8x256x768_S768x16_S8x256x16_2_0_01_1_n_n none x w) := by
  intro x w b p r
  pointwise

theorem padded_486 : IsPadded (B := 8) (H := 16) (W := 16) (C := 768) (V (Proc.devRef .tc main_arg3)) (res_main_v486 V) :=
  isPadded_pad _ _ _

theorem taps_487 : IsTaps (C := 768) (n := 16) (V (Proc.devRef .tc main_arg18)) (res_main_v487 V) :=
  isTaps_reshape _ _

theorem v545_0 (b : Fin 8) (t : Fin 87040) (j : Fin 2) (N : Fin 65536) (hN : 0 + N.val = t.val) :
    res_main_v545 V (ix3 b t j) = conv (B := 8) (H := 128) (W := 128) (C := 96) (n := 8) (V (Proc.devRef .tc main_arg0))
      (V (Proc.devRef .tc main_arg4)) (V (Proc.devRef .tc main_arg5)) b (N / 4 / 128) (N / 4 % 128)
      ⟨2 * (N % 4) + j, by omega⟩ := by
  unfold res_main_v545
  refine (stacked (B := 8) (T := 87040) (q := 2) _ [65536, 16384, 4096, 1024] rfl 0 rfl 0 rfl b t j N hN).trans ?_
  refine (unrolled (B := 8) (M := 16384) (n := 8) _ b N j ⟨N / 4, by omega⟩ ⟨2 * (N % 4) + j, by omega⟩
    (by dsimp only; omega)).trans ?_
  exact conv_at (H := 128) (W := 128) dot_0_8 (padded_73 V) (taps_74 V) (V (Proc.devRef .tc main_arg5)) rfl _ ⟨N / 4 / 128, by omega⟩
    ⟨N / 4 % 128, by omega⟩ ⟨N / 4, by omega⟩ (by dsimp only; omega) _

theorem v545_1 (b : Fin 8) (t : Fin 87040) (j : Fin 2) (N : Fin 16384) (hN : 65536 + N.val = t.val) :
    res_main_v545 V (ix3 b t j) = conv (B := 8) (H := 64) (W := 64) (C := 192) (n := 8) (V (Proc.devRef .tc main_arg1))
      (V (Proc.devRef .tc main_arg8)) (V (Proc.devRef .tc main_arg9)) b (N / 4 / 64) (N / 4 % 64)
      ⟨2 * (N % 4) + j, by omega⟩ := by
  unfold res_main_v545
  refine (stacked (B := 8) (T := 87040) (q := 2) _ [65536, 16384, 4096, 1024] rfl 1 rfl 65536 rfl b t j N hN).trans ?_
  refine (unrolled (B := 8) (M := 4096) (n := 8) _ b N j ⟨N / 4, by omega⟩ ⟨2 * (N % 4) + j, by omega⟩
    (by dsimp only; omega)).trans ?_
  exact conv_at (H := 64) (W := 64) dot_1_8 (padded_191 V) (taps_192 V) (V (Proc.devRef .tc main_arg9)) rfl _ ⟨N / 4 / 64, by omega⟩
    ⟨N / 4 % 64, by omega⟩ ⟨N / 4, by omega⟩ (by dsimp only; omega) _

theorem v545_2 (b : Fin 8) (t : Fin 87040) (j : Fin 2) (N : Fin 4096) (hN : 81920 + N.val = t.val) :
    res_main_v545 V (ix3 b t j) = conv (B := 8) (H := 32) (W := 32) (C := 384) (n := 8) (V (Proc.devRef .tc main_arg2))
      (V (Proc.devRef .tc main_arg12)) (V (Proc.devRef .tc main_arg13)) b (N / 4 / 32) (N / 4 % 32)
      ⟨2 * (N % 4) + j, by omega⟩ := by
  unfold res_main_v545
  refine (stacked (B := 8) (T := 87040) (q := 2) _ [65536, 16384, 4096, 1024] rfl 2 rfl 81920 rfl b t j N hN).trans ?_
  refine (unrolled (B := 8) (M := 1024) (n := 8) _ b N j ⟨N / 4, by omega⟩ ⟨2 * (N % 4) + j, by omega⟩
    (by dsimp only; omega)).trans ?_
  exact conv_at (H := 32) (W := 32) dot_2_8 (padded_309 V) (taps_310 V) (V (Proc.devRef .tc main_arg13)) rfl _ ⟨N / 4 / 32, by omega⟩
    ⟨N / 4 % 32, by omega⟩ ⟨N / 4, by omega⟩ (by dsimp only; omega) _

theorem v545_3 (b : Fin 8) (t : Fin 87040) (j : Fin 2) (N : Fin 1024) (hN : 86016 + N.val = t.val) :
    res_main_v545 V (ix3 b t j) = conv (B := 8) (H := 16) (W := 16) (C := 768) (n := 8) (V (Proc.devRef .tc main_arg3))
      (V (Proc.devRef .tc main_arg16)) (V (Proc.devRef .tc main_arg17)) b (N / 4 / 16) (N / 4 % 16)
      ⟨2 * (N % 4) + j, by omega⟩ := by
  unfold res_main_v545
  refine (stacked (B := 8) (T := 87040) (q := 2) _ [65536, 16384, 4096, 1024] rfl 3 rfl 86016 rfl b t j N hN).trans ?_
  refine (unrolled (B := 8) (M := 256) (n := 8) _ b N j ⟨N / 4, by omega⟩ ⟨2 * (N % 4) + j, by omega⟩
    (by dsimp only; omega)).trans ?_
  exact conv_at (H := 16) (W := 16) dot_3_8 (padded_427 V) (taps_428 V) (V (Proc.devRef .tc main_arg17)) rfl _ ⟨N / 4 / 16, by omega⟩
    ⟨N / 4 % 16, by omega⟩ ⟨N / 4, by omega⟩ (by dsimp only; omega) _

theorem v546_0 (b : Fin 8) (t : Fin 87040) (j : Fin 4) (N : Fin 65536) (hN : 0 + N.val = t.val) :
    res_main_v546 V (ix3 b t j) = conv (B := 8) (H := 128) (W := 128) (C := 96) (n := 16) (V (Proc.devRef .tc main_arg0))
      (V (Proc.devRef .tc main_arg6)) (V (Proc.devRef .tc main_arg7)) b (N / 4 / 128) (N / 4 % 128)
      ⟨4 * (N % 4) + j, by omega⟩ := by
  unfold res_main_v546
  refine (stacked (B := 8) (T := 87040) (q := 4) _ [65536, 16384, 4096, 1024] rfl 0 rfl 0 rfl b t j N hN).trans ?_
  refine (unrolled (B := 8) (M := 16384) (n := 16) _ b N j ⟨N / 4, by omega⟩ ⟨4 * (N % 4) + j, by omega⟩
    (by dsimp only; omega)).trans ?_
  exact conv_at (H := 128) (W := 128) dot_0_16 (padded_132 V) (taps_133 V) (V (Proc.devRef .tc main_arg7)) rfl _ ⟨N / 4 / 128, by omega⟩
    ⟨N / 4 % 128, by omega⟩ ⟨N / 4, by omega⟩ (by dsimp only; omega) _

theorem v546_1 (b : Fin 8) (t : Fin 87040) (j : Fin 4) (N : Fin 16384) (hN : 65536 + N.val = t.val) :
    res_main_v546 V (ix3 b t j) = conv (B := 8) (H := 64) (W := 64) (C := 192) (n := 16) (V (Proc.devRef .tc main_arg1))
      (V (Proc.devRef .tc main_arg10)) (V (Proc.devRef .tc main_arg11)) b (N / 4 / 64) (N / 4 % 64)
      ⟨4 * (N % 4) + j, by omega⟩ := by
  unfold res_main_v546
  refine (stacked (B := 8) (T := 87040) (q := 4) _ [65536, 16384, 4096, 1024] rfl 1 rfl 65536 rfl b t j N hN).trans ?_
  refine (unrolled (B := 8) (M := 4096) (n := 16) _ b N j ⟨N / 4, by omega⟩ ⟨4 * (N % 4) + j, by omega⟩
    (by dsimp only; omega)).trans ?_
  exact conv_at (H := 64) (W := 64) dot_1_16 (padded_250 V) (taps_251 V) (V (Proc.devRef .tc main_arg11)) rfl _ ⟨N / 4 / 64, by omega⟩
    ⟨N / 4 % 64, by omega⟩ ⟨N / 4, by omega⟩ (by dsimp only; omega) _

theorem v546_2 (b : Fin 8) (t : Fin 87040) (j : Fin 4) (N : Fin 4096) (hN : 81920 + N.val = t.val) :
    res_main_v546 V (ix3 b t j) = conv (B := 8) (H := 32) (W := 32) (C := 384) (n := 16) (V (Proc.devRef .tc main_arg2))
      (V (Proc.devRef .tc main_arg14)) (V (Proc.devRef .tc main_arg15)) b (N / 4 / 32) (N / 4 % 32)
      ⟨4 * (N % 4) + j, by omega⟩ := by
  unfold res_main_v546
  refine (stacked (B := 8) (T := 87040) (q := 4) _ [65536, 16384, 4096, 1024] rfl 2 rfl 81920 rfl b t j N hN).trans ?_
  refine (unrolled (B := 8) (M := 1024) (n := 16) _ b N j ⟨N / 4, by omega⟩ ⟨4 * (N % 4) + j, by omega⟩
    (by dsimp only; omega)).trans ?_
  exact conv_at (H := 32) (W := 32) dot_2_16 (padded_368 V) (taps_369 V) (V (Proc.devRef .tc main_arg15)) rfl _ ⟨N / 4 / 32, by omega⟩
    ⟨N / 4 % 32, by omega⟩ ⟨N / 4, by omega⟩ (by dsimp only; omega) _

theorem v546_3 (b : Fin 8) (t : Fin 87040) (j : Fin 4) (N : Fin 1024) (hN : 86016 + N.val = t.val) :
    res_main_v546 V (ix3 b t j) = conv (B := 8) (H := 16) (W := 16) (C := 768) (n := 16) (V (Proc.devRef .tc main_arg3))
      (V (Proc.devRef .tc main_arg18)) (V (Proc.devRef .tc main_arg19)) b (N / 4 / 16) (N / 4 % 16)
      ⟨4 * (N % 4) + j, by omega⟩ := by
  unfold res_main_v546
  refine (stacked (B := 8) (T := 87040) (q := 4) _ [65536, 16384, 4096, 1024] rfl 3 rfl 86016 rfl b t j N hN).trans ?_
  refine (unrolled (B := 8) (M := 256) (n := 16) _ b N j ⟨N / 4, by omega⟩ ⟨4 * (N % 4) + j, by omega⟩
    (by dsimp only; omega)).trans ?_
  exact conv_at (H := 16) (W := 16) dot_3_16 (padded_486 V) (taps_487 V) (V (Proc.devRef .tc main_arg19)) rfl _ ⟨N / 4 / 16, by omega⟩
    ⟨N / 4 % 16, by omega⟩ ⟨N / 4, by omega⟩ (by dsimp only; omega) _

end Cert.ReferenceIdeal.Own
-- ==== Proof.Own.Reals.lean ====
/- Finite numbers: a convolution of them is one. -/
module

public import proofs.«01_k».proof.Proof.Own.RefConv

@[expose] public section

set_option maxRecDepth 16384

noncomputable section

namespace Cert.ReferenceIdeal.Own

open Idealize.ShloMosaic Idealize.ShloMosaic.TcCoe
open Cert.KernelIdeal.Own (image padded padDot convAt)

/-- An extended real that is a real. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.zero : IsReal 0 := ⟨0, rfl⟩
theorem IsReal.sum {ι : Type} (s : Finset ι) {f : ι → EReal} (h : ∀ i, IsReal (f i)) : IsReal (∑ i ∈ s, f i) :=
  Finset.sum_induction f IsReal (fun _ _ => IsReal.add) IsReal.zero fun i _ => h i

theorem isReal_padDot {H W C : ℕ} {g : Fin H → Fin W → Fin C → EReal} (hg : ∀ y x c, IsReal (g y x c)) {v : Fin C → EReal}
    (hv : ∀ c, IsReal (v c)) (Y X : ℕ) : IsReal (padDot g v Y X) :=
  IsReal.sum _ fun c => (hv c).mul (by
    unfold padded
    split_ifs
    · exact hg _ _ _
    · exact IsReal.zero)

variable {B H W C n : ℕ}

theorem isReal_conv {x : (⟨4, ![B, H, W, C]⟩ : Shape).Idx → EReal} (hx : ∀ i, IsReal (x i))
    {w : (⟨4, ![3, 3, C, n]⟩ : Shape).Idx → EReal} (hw : ∀ i, IsReal (w i)) {v : (⟨1, ![n]⟩ : Shape).Idx → EReal}
    (hv : ∀ i, IsReal (v i)) (b : Fin B) (Y X : ℕ) (r : Fin n) : IsReal (conv x w v b Y X r) := by
  have h (ky kx Y X) : IsReal (padDot (image x b) (fun c => w (ix4 (Fin.ofNat 3 ky) (Fin.ofNat 3 kx) c r)) Y X) :=
    isReal_padDot (fun _ _ _ => hx _) (fun _ => hw _) Y X
  exact (((((((((hv _).add (h ..)).add (h ..)).add (h ..)).add (h ..)).add (h ..)).add (h ..)).add (h ..)).add (h ..)).add (h ..)

/-- An element whose absolute value is below infinity is real. -/
theorem isReal_of_below {x : EReal} (h : Ideal.cmp .olt (max x (-x)) (Ideal.ofBits .f32 0x7F800000#32) = 1#1) : IsReal x := by
  have t : Ideal.ofBits .f32 0x7F800000#32 = ⊤ := by simp [Ideal.ofBits, Ideal.ieee]
  rw [t] at h
  induction x with
  | bot => simp [Ideal.cmp] at h
  | top => simp [Ideal.cmp] at h
  | coe r => exact ⟨r, rfl⟩

end Cert.ReferenceIdeal.Own
-- ==== Proof.Own.RefRows.lean ====
/- A row of the reference's result and the same row of the kernel's: the two class probabilities, the four offsets and the
   anchor. -/
module

public import proofs.«01_k».proof.Proof.Own.Reals

@[expose] public section

set_option maxRecDepth 16384

noncomputable section

namespace Cert.ReferenceIdeal.Own

open Idealize.ShloMosaic Idealize.ShloMosaic.TcCoe Cert.ReferenceIdeal
open Cert.KernelIdeal.Own (image padDot convAt score bias both other prob cell const centre entry)

/-- One number of an anchor: the two centres, then the constants. -/
def anchor {n : ℕ} (c : Fin n → EReal) (T : Fin 4 → Fin 6 → EReal) (y x : Fin n) (k : Fin 4) (j : Fin 8) : EReal :=
  if h : j.val < 2 then (if j.val = 0 then c x else c y) else T k ⟨j - 2, by omega⟩

/-- A row of 14 numbers: the softmax of two scores, four offsets, eight numbers of an anchor. -/
def row (S : Fin 2 → EReal) (L : Fin 4 → EReal) (A : Fin 8 → EReal) (j : Fin 14) : EReal :=
  if h : j.val < 2 then
    Ideal.div (Ideal.exp (S ⟨j, h⟩ - max (S 0) (S 1))) (Ideal.exp (S 0 - max (S 0) (S 1)) + Ideal.exp (S 1 - max (S 0) (S 1)))
  else if h : j.val < 6 then L ⟨j - 2, by omega⟩
  else A ⟨j - 6, by omega⟩

section Level

variable {B H W C : ℕ} (x : (⟨4, ![B, H, W, C]⟩ : Shape).Idx → EReal) (wc : (⟨4, ![3, 3, C, 8]⟩ : Shape).Idx → EReal)
  (bc : S8.Idx → EReal) (wl : (⟨4, ![3, 3, C, 16]⟩ : Shape).Idx → EReal) (bl : S16.Idx → EReal) (b : Fin B) (Y X : ℕ)

theorem score_class (r : Fin 24) (h : r.val < 8) : score x wc bc wl bl b Y X r = conv x wc bc b Y X ⟨r, h⟩ := by
  have e (ky kx : ℕ) : both wc wl r ky kx = fun c => wc (ix4 (Fin.ofNat 3 ky) (Fin.ofNat 3 kx) c ⟨r, h⟩) :=
    funext fun c => dif_pos h
  have e' : bias bc bl r = bc (ix1 ⟨r, h⟩) := dif_pos h
  unfold score conv convAt
  simp only [e, e']

theorem score_box (r : Fin 24) (h : ¬ r.val < 8) : score x wc bc wl bl b Y X r = conv x wl bl b Y X ⟨r - 8, by omega⟩ := by
  have e (ky kx : ℕ) : both wc wl r ky kx = fun c => wl (ix4 (Fin.ofNat 3 ky) (Fin.ofNat 3 kx) c ⟨r - 8, by omega⟩) :=
    funext fun c => dif_neg h
  have e' : bias bc bl r = bl (ix1 ⟨r - 8, by omega⟩) := (dif_neg h).trans (dif_pos (by omega))
  unfold score conv convAt
  simp only [e, e']

/-- Two exponentials over their sum. -/
theorem share (a b : ℝ) : Ideal.div (Ideal.exp ((a : EReal) - max (a : EReal) b))
    (Ideal.exp ((a : EReal) - max (a : EReal) b) + Ideal.exp ((b : EReal) - max (a : EReal) b)) = Ideal.logistic ((a : EReal) - b) := by
  obtain ⟨M, hM⟩ : ∃ M : ℝ, max (a : EReal) b = M := ⟨max a b, (EReal.coe_strictMono.monotone.map_max).symm⟩
  rw [hM]
  unfold Ideal.logistic
  have h₁ : Real.exp (a - M) + Real.exp (b - M) ≠ 0 := by positivity
  have h₂ : 1 + Real.exp (-(a - b)) ≠ 0 := by positivity
  rw [← EReal.coe_sub, ← EReal.coe_sub, ← EReal.coe_sub, ← EReal.coe_neg, Ideal.exp_coe, Ideal.exp_coe, Ideal.exp_coe, ← EReal.coe_add,
    ← EReal.coe_one, ← EReal.coe_add, Ideal.div_coe h₁, Ideal.div_coe h₂, ← EReal.coe_mul, ← EReal.coe_mul]
  refine congrArg _ ?_
  have h₃ : Real.exp (b - M) = Real.exp (a - M) * Real.exp (-(a - b)) := by
    rw [← Real.exp_add]
    ring_nf
  have := Real.exp_pos (a - M)
  rw [h₃] at h₁ ⊢
  field_simp

/-- Of two real scores, the softmax is the logistic function of their difference. -/
theorem softmax_pair {S : Fin 2 → EReal} (h : ∀ q, IsReal (S q)) (q p : Fin 2) (hp : p ≠ q) :
    Ideal.div (Ideal.exp (S q - max (S 0) (S 1))) (Ideal.exp (S 0 - max (S 0) (S 1)) + Ideal.exp (S 1 - max (S 0) (S 1)))
      = Ideal.logistic (S q - S p) := by
  obtain ⟨a, ha⟩ := h 0
  obtain ⟨d, hd⟩ := h 1
  match q, p with
  | 0, 0 => exact absurd rfl hp
  | 0, 1 => rw [ha, hd]; exact share a d
  | 1, 0 => rw [ha, hd, max_comm, add_comm]; exact share d a
  | 1, 1 => exact absurd rfl hp

/-- The kernel's row of box `k` at a pixel is the reference's. -/
theorem row_entry (hx : ∀ i, IsReal (x i)) (hw : ∀ i, IsReal (wc i)) (hb : ∀ i, IsReal (bc i)) {n : ℕ} (i : Fin 4) (step : BitVec 32)
    (y' x' : Fin n) (hY : y'.val = Y) (hX : x'.val = X) (k : Fin 4) (j : Fin 14) :
    row (fun q => conv x wc bc b Y X ⟨2 * k + q, by omega⟩) (fun q => conv x wl bl b Y X ⟨4 * k + q, by omega⟩)
      (anchor (fun p => centre step p) (fun k j => const i ⟨14 * k + (8 + j), by omega⟩) y' x' k) j
      = entry i step x wc bc wl bl b Y X k j := by
  unfold row entry cell
  by_cases h₂ : j.val < 2
  · rw [dif_pos h₂, dif_pos h₂]
    have hp : (⟨1 - j, by omega⟩ : Fin 2) ≠ ⟨j, h₂⟩ := fun e => by have := congrArg Fin.val e; dsimp only at this; omega
    refine (softmax_pair (S := fun q : Fin 2 => conv x wc bc b Y X ⟨2 * k + q, by omega⟩)
      (fun q => isReal_conv hx hw hb b Y X _) ⟨j, h₂⟩ ⟨1 - j, by omega⟩ hp).trans ?_
    have ho : other (2 * k.val + j.val) = 2 * k.val + (1 - j.val) := by unfold other; split <;> omega
    unfold prob
    rw [score_class x wc bc wl bl b Y X _ (show 2 * k.val + j.val < 8 by omega),
      score_class x wc bc wl bl b Y X _ (show other (2 * k.val + j.val) < 8 by omega)]
    dsimp only
    simp only [ho]
  · rw [dif_neg h₂, dif_neg h₂]
    by_cases h₆ : j.val < 6
    · rw [dif_pos h₆, dif_pos h₆, score_box x wc bc wl bl b Y X _ (show ¬ 8 + 4 * k.val + (j.val - 2) < 8 by omega)]
      refine congrArg (conv x wl bl b Y X) (Fin.ext ?_)
      dsimp only
      omega
    · rw [dif_neg h₆, dif_neg h₆]
      unfold anchor
      dsimp only
      rw [hX, hY]
      by_cases h₈ : j.val - 6 < 2
      · rw [dif_pos h₈]
        by_cases e : j.val = 6
        · rw [if_pos (by omega), if_pos e]
        · rw [if_neg (by omega), if_neg e, if_pos (by omega)]
      · rw [dif_neg h₈, if_neg (by omega), if_neg (by omega)]
        refine congrArg (const i) (Fin.ext ?_)
        dsimp only
        omega

/-- The same for row `4 P + k` of a level, from what each part of the row is. -/
theorem row_level (hx : ∀ i, IsReal (x i)) (hw : ∀ i, IsReal (wc i)) (hb : ∀ i, IsReal (bc i)) {n : ℕ} (i : Fin 4) (step : BitVec 32)
    (P : ℕ) (k : Fin 4) (N : ℕ) (hN : N = 4 * P + k.val) (y' x' : Fin n) (hY : y'.val = N / 4 / n) (hX : x'.val = N / 4 % n)
    {S : Fin 2 → EReal} {L : Fin 4 → EReal} {A : Fin 8 → EReal}
    (hS : ∀ q : Fin 2, S q = conv x wc bc b (N / 4 / n) (N / 4 % n) ⟨2 * (N % 4) + q, by omega⟩)
    (hL : ∀ q : Fin 4, L q = conv x wl bl b (N / 4 / n) (N / 4 % n) ⟨4 * (N % 4) + q, by omega⟩)
    (hA : ∀ q : Fin 8, A q = anchor (fun p => centre step p) (fun k j => const i ⟨14 * k + (8 + j), by omega⟩) y' x' ⟨N % 4, by omega⟩ q)
    (j : Fin 14) : row S L A j = entry i step x wc bc wl bl b (P / n) (P % n) k j := by
  have eP : N / 4 = P := by omega
  have ek : (⟨N % 4, by omega⟩ : Fin 4) = k := Fin.ext (by dsimp only; omega)
  rw [funext hS, funext hL, funext hA]
  refine (row_entry x wc bc wl bl b (N / 4 / n) (N / 4 % n) hx hw hb i step y' x' hY hX ⟨N % 4, by omega⟩ j).trans ?_
  rw [eP, ek]

end Level

/-- The three parts of the result side by side. -/
theorem joined (E : FVec Ideal S8x87040x2 .f32) (L : FVec Ideal S8x87040x4 .f32) (A : FVec Ideal S8x87040x8 .f32) (h)
    (b : Fin 8) (t : Fin 87040) (j : Fin 14) :
    concatenate S8x87040x14 2 [⟨S8x87040x2, E⟩, ⟨S8x87040x4, L⟩, ⟨S8x87040x8, A⟩] h (ix3 b t j)
      = if h : j.val < 2 then E (ix3 b t ⟨j, h⟩) else if h : j.val < 6 then L (ix3 b t ⟨j - 2, by omega⟩)
        else A (ix3 b t ⟨j - 6, by omega⟩) := by
  pointwise
  by_cases h₂ : j.val < 2
  · refine (dif_pos h₂).trans ?_
    rw [dif_pos h₂]
  · refine (dif_neg h₂).trans ?_
    rw [dif_neg h₂]
    by_cases h₆ : j.val < 6
    · refine (dif_pos (by omega)).trans ?_
      rw [dif_pos h₆]
    · refine (dif_neg (by omega)).trans ?_
      rw [dif_neg h₆]
      exact congrArg (fun q => A (ix3 b t q)) (Fin.ext (by dsimp only; omega))

end Cert.ReferenceIdeal.Own
-- ==== Proof.Own.RefAnchors.lean ====
/- The anchors of the reference: the centres of the pixels and the six constants of each of the four boxes, row by row. -/
module

public import proofs.«01_k».proof.Proof.Own.RefLevels
public import proofs.«01_k».proof.Proof.Own.RefRows

@[expose] public section

set_option maxRecDepth 16384
set_option maxHeartbeats 4000000

noncomputable section

namespace Cert.ReferenceIdeal.Own

open Idealize.ShloMosaic Idealize.ShloMosaic.TcCoe Cert.ReferenceIdeal Cert.ReferenceIdeal.Gen Cert.ReferenceIdeal.Value
open Cert.KernelIdeal.Own (centre const)

/-- A pixel number and a half, times a step, over 512: the kernel's one factor in place of the two. -/
theorem centre_of {s w : BitVec 32} {a b : ℝ} (hs : Ideal.ofBits .f32 s = (a : EReal)) (hw : Ideal.ofBits .f32 w = (b : EReal))
    (hab : a * (1 / 512) = b) (x : ℕ) :
    Ideal.div ((FloatOps.sitofp (F := Ideal) .f32 (BitVec.ofNat 32 x) + Ideal.ofBits .f32 0x3F000000#32) * Ideal.ofBits .f32 s)
      (Ideal.ofBits .f32 0x44000000#32) = centre w x := by
  have h : Ideal.ofBits .f32 0x44000000#32 = ((512 : ℝ) : EReal) := by
    simp [Ideal.ofBits, Ideal.ieee, -EReal.coe_mul]; norm_num
  unfold centre
  rw [h, Ideal.div_coe (by norm_num), hs, hw, mul_assoc, ← EReal.coe_mul, hab]

theorem anchor_of {n : ℕ} (c c' : Fin n → EReal) (T T' : Fin 4 → Fin 6 → EReal) (hc : ∀ p, c p = c' p) (hT : ∀ k j, T k j = T' k j)
    (y y' x : Fin n) (hy : y = y') (k : Fin 4) (j : Fin 8) (h) :
    (if _ : j.val < 1 then c x else if _ : j.val - 1 < 1 then c y else T k ⟨j - 1 - 1, h⟩) = anchor c' T' y' x k j := by
  obtain rfl := funext hc
  obtain rfl := funext₂ hT
  subst hy
  unfold anchor
  split_ifs <;> first | rfl | omega

/-- The constants of the reference are the kernel's. -/
theorem same_constants : ∀ (k : Fin 4) (j : Fin 6),
    lit0 (S4x6.rowMajor (ix2 k j)) = Cert.KernelIdeal.lit0 (Cert.KernelIdeal.S4x56.rowMajor (ix2 0 ⟨14 * k + (8 + j), by omega⟩))
    ∧ lit1 (S4x6.rowMajor (ix2 k j)) = Cert.KernelIdeal.lit0 (Cert.KernelIdeal.S4x56.rowMajor (ix2 1 ⟨14 * k + (8 + j), by omega⟩))
    ∧ lit2 (S4x6.rowMajor (ix2 k j)) = Cert.KernelIdeal.lit0 (Cert.KernelIdeal.S4x56.rowMajor (ix2 2 ⟨14 * k + (8 + j), by omega⟩))
    ∧ lit3 (S4x6.rowMajor (ix2 k j)) = Cert.KernelIdeal.lit0 (Cert.KernelIdeal.S4x56.rowMajor (ix2 3 ⟨14 * k + (8 + j), by omega⟩)) := by
  decide +kernel

variable (V : Valuation τ sig (Elt Ideal))

theorem centres_0 (x : Fin 128) : res_main_v7 V (ix1 x) = centre 0x3C000000#32 x := by
  refine Eq.trans ?_ (centre_of (s := 0x40800000#32) (a := 4) (b := 1 / 128) (by simp [Ideal.ofBits, Ideal.ieee, -EReal.coe_mul]; norm_num)
    (by simp [Ideal.ofBits, Ideal.ieee, -EReal.coe_mul]; norm_num) (by norm_num) x)
  unfold res_main_v7
  pointwise

theorem centres_1 (x : Fin 64) : res_main_v25 V (ix1 x) = centre 0x3C800000#32 x := by
  refine Eq.trans ?_ (centre_of (s := 0x41000000#32) (a := 8) (b := 1 / 64) (by simp [Ideal.ofBits, Ideal.ieee, -EReal.coe_mul]; norm_num)
    (by simp [Ideal.ofBits, Ideal.ieee, -EReal.coe_mul]; norm_num) (by norm_num) x)
  unfold res_main_v25
  pointwise

theorem centres_2 (x : Fin 32) : res_main_v43 V (ix1 x) = centre 0x3D000000#32 x := by
  refine Eq.trans ?_ (centre_of (s := 0x41800000#32) (a := 16) (b := 1 / 32) (by simp [Ideal.ofBits, Ideal.ieee, -EReal.coe_mul]; norm_num)
    (by simp [Ideal.ofBits, Ideal.ieee, -EReal.coe_mul]; norm_num) (by norm_num) x)
  unfold res_main_v43
  pointwise

theorem centres_3 (x : Fin 16) : res_main_v61 V (ix1 x) = centre 0x3D800000#32 x := by
  refine Eq.trans ?_ (centre_of (s := 0x42000000#32) (a := 32) (b := 1 / 16) (by simp [Ideal.ofBits, Ideal.ieee, -EReal.coe_mul]; norm_num)
    (by simp [Ideal.ofBits, Ideal.ieee, -EReal.coe_mul]; norm_num) (by norm_num) x)
  unfold res_main_v61
  pointwise

/-- The six constants of box `k` of level 0. -/
theorem constants_0 (k : Fin 4) (j : Fin 6) : FloatOps.ofBits (F := Ideal) FTy.f32 (lit0 (S4x6.rowMajor (ix2 k j)))
    = const 0 ⟨14 * k + (8 + j), by omega⟩ := by
  unfold const
  rw [dif_pos (by dsimp only; omega), (same_constants k j).1]

theorem v72_0 (b : Fin 8) (t : Fin 87040) (j : Fin 8) (N : Fin 65536) (hN : 0 + N.val = t.val) :
    res_main_v72 V (ix3 b t j) = anchor (n := 128) (fun p => centre 0x3C000000#32 p)
      (fun k j => const 0 ⟨14 * k + (8 + j), by omega⟩) ⟨N / 4 / 128, by omega⟩ ⟨N / 4 % 128, by omega⟩ ⟨N % 4, by omega⟩ j := by
  unfold res_main_v72
  refine (stacked (B := 8) (T := 87040) (q := 8) _ [65536, 16384, 4096, 1024] rfl 0 rfl 0 rfl b t j N hN).trans ?_
  pointwise
  have h := anchor_of (fun p => res_main_v7 V (ix1 p)) _ (fun k j => Ideal.ofBits FTy.f32 (lit0 (S4x6.rowMajor (ix2 k j)))) _
    (centres_0 V) constants_0
  have h' := h (⟨N / 512, by omega⟩ : Fin 128) (⟨N / 4 / 128, by omega⟩ : Fin 128) (⟨N / 4 % 128, by omega⟩ : Fin 128)
    (Fin.ext (by dsimp only; omega)) (⟨N % 4, by omega⟩ : Fin 4) j (by omega)
  exact h'

/-- The six constants of box `k` of level 1. -/
theorem constants_1 (k : Fin 4) (j : Fin 6) : FloatOps.ofBits (F := Ideal) FTy.f32 (lit1 (S4x6.rowMajor (ix2 k j)))
    = const 1 ⟨14 * k + (8 + j), by omega⟩ := by
  unfold const
  rw [dif_pos (by dsimp only; omega), (same_constants k j).2.1]

theorem v72_1 (b : Fin 8) (t : Fin 87040) (j : Fin 8) (N : Fin 16384) (hN : 65536 + N.val = t.val) :
    res_main_v72 V (ix3 b t j) = anchor (n := 64) (fun p => centre 0x3C800000#32 p)
      (fun k j => const 1 ⟨14 * k + (8 + j), by omega⟩) ⟨N / 4 / 64, by omega⟩ ⟨N / 4 % 64, by omega⟩ ⟨N % 4, by omega⟩ j := by
  unfold res_main_v72
  refine (stacked (B := 8) (T := 87040) (q := 8) _ [65536, 16384, 4096, 1024] rfl 1 rfl 65536 rfl b t j N hN).trans ?_
  pointwise
  have h := anchor_of (fun p => res_main_v25 V (ix1 p)) _ (fun k j => Ideal.ofBits FTy.f32 (lit1 (S4x6.rowMajor (ix2 k j)))) _
    (centres_1 V) constants_1
  have h' := h (⟨N / 256, by omega⟩ : Fin 64) (⟨N / 4 / 64, by omega⟩ : Fin 64) (⟨N / 4 % 64, by omega⟩ : Fin 64)
    (Fin.ext (by dsimp only; omega)) (⟨N % 4, by omega⟩ : Fin 4) j (by omega)
  exact h'

/-- The six constants of box `k` of level 2. -/
theorem constants_2 (k : Fin 4) (j : Fin 6) : FloatOps.ofBits (F := Ideal) FTy.f32 (lit2 (S4x6.rowMajor (ix2 k j)))
    = const 2 ⟨14 * k + (8 + j), by omega⟩ := by
  unfold const
  rw [dif_pos (by dsimp only; omega), (same_constants k j).2.2.1]

theorem v72_2 (b : Fin 8) (t : Fin 87040) (j : Fin 8) (N : Fin 4096) (hN : 81920 + N.val = t.val) :
    res_main_v72 V (ix3 b t j) = anchor (n := 32) (fun p => centre 0x3D000000#32 p)
      (fun k j => const 2 ⟨14 * k + (8 + j), by omega⟩) ⟨N / 4 / 32, by omega⟩ ⟨N / 4 % 32, by omega⟩ ⟨N % 4, by omega⟩ j := by
  unfold res_main_v72
  refine (stacked (B := 8) (T := 87040) (q := 8) _ [65536, 16384, 4096, 1024] rfl 2 rfl 81920 rfl b t j N hN).trans ?_
  pointwise
  have h := anchor_of (fun p => res_main_v43 V (ix1 p)) _ (fun k j => Ideal.ofBits FTy.f32 (lit2 (S4x6.rowMajor (ix2 k j)))) _
    (centres_2 V) constants_2
  have h' := h (⟨N / 128, by omega⟩ : Fin 32) (⟨N / 4 / 32, by omega⟩ : Fin 32) (⟨N / 4 % 32, by omega⟩ : Fin 32)
    (Fin.ext (by dsimp only; omega)) (⟨N % 4, by omega⟩ : Fin 4) j (by omega)
  exact h'

/-- The six constants of box `k` of level 3. -/
theorem constants_3 (k : Fin 4) (j : Fin 6) : FloatOps.ofBits (F := Ideal) FTy.f32 (lit3 (S4x6.rowMajor (ix2 k j)))
    = const 3 ⟨14 * k + (8 + j), by omega⟩ := by
  unfold const
  rw [dif_pos (by dsimp only; omega), (same_constants k j).2.2.2]

theorem v72_3 (b : Fin 8) (t : Fin 87040) (j : Fin 8) (N : Fin 1024) (hN : 86016 + N.val = t.val) :
    res_main_v72 V (ix3 b t j) = anchor (n := 16) (fun p => centre 0x3D800000#32 p)
      (fun k j => const 3 ⟨14 * k + (8 + j), by omega⟩) ⟨N / 4 / 16, by omega⟩ ⟨N / 4 % 16, by omega⟩ ⟨N % 4, by omega⟩ j := by
  unfold res_main_v72
  refine (stacked (B := 8) (T := 87040) (q := 8) _ [65536, 16384, 4096, 1024] rfl 3 rfl 86016 rfl b t j N hN).trans ?_
  pointwise
  have h := anchor_of (fun p => res_main_v61 V (ix1 p)) _ (fun k j => Ideal.ofBits FTy.f32 (lit3 (S4x6.rowMajor (ix2 k j)))) _
    (centres_3 V) constants_3
  have h' := h (⟨N / 64, by omega⟩ : Fin 16) (⟨N / 4 / 16, by omega⟩ : Fin 16) (⟨N / 4 % 16, by omega⟩ : Fin 16)
    (Fin.ext (by dsimp only; omega)) (⟨N % 4, by omega⟩ : Fin 4) j (by omega)
  exact h'

end Cert.ReferenceIdeal.Own
-- ==== Proof.Own.Softmax.lean ====
/- The softmax over two classes, read at a row. -/
module

public import proofs.«01_k».proof.Proof.Own.RefConv
public import proofs.«01_k».proof.Proof.Gen.ReferenceIdeal.Run

@[expose] public section

set_option maxRecDepth 16384

noncomputable section

namespace Cert.ReferenceIdeal.Own

open Idealize.ShloMosaic Idealize.ShloMosaic.TcCoe Cert.ReferenceIdeal Cert.ReferenceIdeal.Gen Cert.ReferenceIdeal.Value

/-- The exponentials of the scores less the greater of the two. -/
def powers (x : FVec Ideal S8x87040x2 .f32) : FVec Ideal S8x87040x2 .f32 :=
  Host.exp (subf x (broadcastInDim S8x87040x2 ![0, 1, 2] bcast_S8x87040x1_S8x87040x2_0_1_2
    (broadcastInDim S8x87040x1 ![0, 1] bcast_S8x87040_S8x87040x1_0_1
      (maximumf (broadcastInDim S8x87040 ![] bcast_S_S8x87040 (constant S_ .f32 0xFF800000#32))
        (Host.reduce FloatOps.maximumf x (constant S_ .f32 0xFF800000#32) reducesTo_S8x87040x2_S8x87040_d2 h_S_)))))

theorem powers_at (x : FVec Ideal S8x87040x2 .f32) (b : Fin 8) (t : Fin 87040) (q : Fin 2) :
    powers x (ix3 b t q) = Ideal.exp (x (ix3 b t q) - max (x (ix3 b t 0)) (x (ix3 b t 1))) := by
  have h : Ideal.ofBits .f32 0xFF800000#32 = ⊥ := by
    simp [Ideal.ofBits, Ideal.ieee]
  unfold powers
  pointwise
  rw [h, max_eq_right bot_le]
  refine congrArg (fun M => Ideal.exp (_ - M)) ?_
  rw [Fin.univ_succ]
  simp

def softmax (e : FVec Ideal S8x87040x2 .f32) : FVec Ideal S8x87040x2 .f32 :=
  Host.divf e (broadcastInDim S8x87040x2 ![0, 1, 2] bcast_S8x87040x1_S8x87040x2_0_1_2
    (broadcastInDim S8x87040x1 ![0, 1] bcast_S8x87040_S8x87040x1_0_1
      (Host.reduceAdd e (constant S_ .f32 0x00000000#32) reducesTo_S8x87040x2_S8x87040_d2 h_S_)))

theorem softmax_at (e : FVec Ideal S8x87040x2 .f32) (b : Fin 8) (t : Fin 87040) (q : Fin 2) :
    softmax e (ix3 b t q) = Ideal.div (e (ix3 b t q)) (e (ix3 b t 0) + e (ix3 b t 1)) := by
  unfold softmax
  pointwise
  rw [Fin.sum_univ_two]

theorem v553_eq (V : Valuation τ sig (Elt Ideal)) : res_main_v553 V = powers (res_main_v545 V) := by
  unfold res_main_v553 powers
  rfl

end Cert.ReferenceIdeal.Own
-- ==== Proof.Own.RefOut.lean ====
/- The result of the reference is the kernel's. -/
module

public import proofs.«01_k».proof.Proof.Own.RefAnchors
public import proofs.«01_k».proof.Proof.Own.Softmax
public import proofs.«01_k».proof.Proof.Own.Final

@[expose] public section

set_option maxRecDepth 16384

noncomputable section

namespace Cert.ReferenceIdeal.Own

open Idealize.ShloMosaic Idealize.ShloMosaic.TcCoe Cert.ReferenceIdeal Cert.ReferenceIdeal.Gen Cert.ReferenceIdeal.Value
open Cert.KernelIdeal.Own (entry out pixel)

/-- The whole result, when its rows are known. -/
theorem joined_rows {E S : FVec Ideal S8x87040x2 .f32} (hE : E = powers S) (L : FVec Ideal S8x87040x4 .f32)
    (A : FVec Ideal S8x87040x8 .f32) {R : Fin 8 → Fin 87040 → Fin 14 → EReal}
    (hR : ∀ b t j, row (fun q => S (ix3 b t q)) (fun q => L (ix3 b t q)) (fun q => A (ix3 b t q)) j = R b t j) (h) :
    concatenate S8x87040x14 2 [⟨S8x87040x2, softmax E⟩, ⟨S8x87040x4, L⟩, ⟨S8x87040x8, A⟩] h = fun i => R (i 0) (i 1) (i 2) := by
  subst hE
  funext i
  obtain ⟨b, t, j, rfl⟩ : ∃ (b : Fin 8) (t : Fin 87040) (j : Fin 14), i = ix3 b t j := ⟨i 0, i 1, i 2, by
    funext a
    match a with
    | ⟨0, _⟩ => rfl
    | ⟨1, _⟩ => rfl
    | ⟨2, _⟩ => rfl⟩
  refine Eq.trans ?_ (hR b t j)
  rw [joined]
  unfold row
  by_cases h₂ : j.val < 2
  · rw [dif_pos h₂, dif_pos h₂, softmax_at, powers_at, powers_at, powers_at]
  · rw [dif_neg h₂, dif_neg h₂]

variable (V : Valuation τ sig (Elt Ideal))

/-- A row of level 0. -/
theorem same_0 {x : FVec Ideal S8x128x128x96 .f32} {wc : FVec Ideal S3x3x96x8 .f32} {bc : FVec Ideal S8 .f32}
    {wl : FVec Ideal S3x3x96x16 .f32} {bl : FVec Ideal S16 .f32} (hx : V (Proc.devRef .tc main_arg0) = x)
    (hwc : V (Proc.devRef .tc main_arg4) = wc) (hbc : V (Proc.devRef .tc main_arg5) = bc)
    (hwl : V (Proc.devRef .tc main_arg6) = wl) (hbl : V (Proc.devRef .tc main_arg7) = bl)
    (fx : ∀ i, IsReal (x i)) (fw : ∀ i, IsReal (wc i)) (fb : ∀ i, IsReal (bc i))
    (b : Fin 8) (t : Fin 87040) (j : Fin 14) (P : ℕ) (hP : P < 16384) (k : Fin 4) (ht : 0 + (4 * P + k.val) = t.val) :
    row (fun q => res_main_v545 V (ix3 b t q)) (fun q => res_main_v546 V (ix3 b t q)) (fun q => res_main_v72 V (ix3 b t q)) j
      = entry (B := 8) (H := 128) (W := 128) (C := 96) 0 0x3C000000#32 x wc bc wl bl b (P / 128) (P % 128) k j := by
  have hS (q : Fin 2) := v545_0 V b t q ⟨4 * P + k, by omega⟩ ht
  have hL (q : Fin 4) := v546_0 V b t q ⟨4 * P + k, by omega⟩ ht
  have hA (q : Fin 8) := v72_0 V b t q ⟨4 * P + k, by omega⟩ ht
  rw [hx, hwc, hbc] at hS
  rw [hx, hwl, hbl] at hL
  exact row_level x wc bc wl bl b fx fw fb 0 0x3C000000#32 P k (4 * P + k.val) rfl _ _ rfl rfl hS hL hA j

/-- A row of level 1. -/
theorem same_1 {x : FVec Ideal S8x64x64x192 .f32} {wc : FVec Ideal S3x3x192x8 .f32} {bc : FVec Ideal S8 .f32}
    {wl : FVec Ideal S3x3x192x16 .f32} {bl : FVec Ideal S16 .f32} (hx : V (Proc.devRef .tc main_arg1) = x)
    (hwc : V (Proc.devRef .tc main_arg8) = wc) (hbc : V (Proc.devRef .tc main_arg9) = bc)
    (hwl : V (Proc.devRef .tc main_arg10) = wl) (hbl : V (Proc.devRef .tc main_arg11) = bl)
    (fx : ∀ i, IsReal (x i)) (fw : ∀ i, IsReal (wc i)) (fb : ∀ i, IsReal (bc i))
    (b : Fin 8) (t : Fin 87040) (j : Fin 14) (P : ℕ) (hP : P < 4096) (k : Fin 4) (ht : 65536 + (4 * P + k.val) = t.val) :
    row (fun q => res_main_v545 V (ix3 b t q)) (fun q => res_main_v546 V (ix3 b t q)) (fun q => res_main_v72 V (ix3 b t q)) j
      = entry (B := 8) (H := 64) (W := 64) (C := 192) 1 0x3C800000#32 x wc bc wl bl b (P / 64) (P % 64) k j := by
  have hS (q : Fin 2) := v545_1 V b t q ⟨4 * P + k, by omega⟩ ht
  have hL (q : Fin 4) := v546_1 V b t q ⟨4 * P + k, by omega⟩ ht
  have hA (q : Fin 8) := v72_1 V b t q ⟨4 * P + k, by omega⟩ ht
  rw [hx, hwc, hbc] at hS
  rw [hx, hwl, hbl] at hL
  exact row_level x wc bc wl bl b fx fw fb 1 0x3C800000#32 P k (4 * P + k.val) rfl _ _ rfl rfl hS hL hA j

/-- A row of level 2. -/
theorem same_2 {x : FVec Ideal S8x32x32x384 .f32} {wc : FVec Ideal S3x3x384x8 .f32} {bc : FVec Ideal S8 .f32}
    {wl : FVec Ideal S3x3x384x16 .f32} {bl : FVec Ideal S16 .f32} (hx : V (Proc.devRef .tc main_arg2) = x)
    (hwc : V (Proc.devRef .tc main_arg12) = wc) (hbc : V (Proc.devRef .tc main_arg13) = bc)
    (hwl : V (Proc.devRef .tc main_arg14) = wl) (hbl : V (Proc.devRef .tc main_arg15) = bl)
    (fx : ∀ i, IsReal (x i)) (fw : ∀ i, IsReal (wc i)) (fb : ∀ i, IsReal (bc i))
    (b : Fin 8) (t : Fin 87040) (j : Fin 14) (P : ℕ) (hP : P < 1024) (k : Fin 4) (ht : 81920 + (4 * P + k.val) = t.val) :
    row (fun q => res_main_v545 V (ix3 b t q)) (fun q => res_main_v546 V (ix3 b t q)) (fun q => res_main_v72 V (ix3 b t q)) j
      = entry (B := 8) (H := 32) (W := 32) (C := 384) 2 0x3D000000#32 x wc bc wl bl b (P / 32) (P % 32) k j := by
  have hS (q : Fin 2) := v545_2 V b t q ⟨4 * P + k, by omega⟩ ht
  have hL (q : Fin 4) := v546_2 V b t q ⟨4 * P + k, by omega⟩ ht
  have hA (q : Fin 8) := v72_2 V b t q ⟨4 * P + k, by omega⟩ ht
  rw [hx, hwc, hbc] at hS
  rw [hx, hwl, hbl] at hL
  exact row_level x wc bc wl bl b fx fw fb 2 0x3D000000#32 P k (4 * P + k.val) rfl _ _ rfl rfl hS hL hA j

/-- A row of level 3. -/
theorem same_3 {x : FVec Ideal S8x16x16x768 .f32} {wc : FVec Ideal S3x3x768x8 .f32} {bc : FVec Ideal S8 .f32}
    {wl : FVec Ideal S3x3x768x16 .f32} {bl : FVec Ideal S16 .f32} (hx : V (Proc.devRef .tc main_arg3) = x)
    (hwc : V (Proc.devRef .tc main_arg16) = wc) (hbc : V (Proc.devRef .tc main_arg17) = bc)
    (hwl : V (Proc.devRef .tc main_arg18) = wl) (hbl : V (Proc.devRef .tc main_arg19) = bl)
    (fx : ∀ i, IsReal (x i)) (fw : ∀ i, IsReal (wc i)) (fb : ∀ i, IsReal (bc i))
    (b : Fin 8) (t : Fin 87040) (j : Fin 14) (P : ℕ) (hP : P < 256) (k : Fin 4) (ht : 86016 + (4 * P + k.val) = t.val) :
    row (fun q => res_main_v545 V (ix3 b t q)) (fun q => res_main_v546 V (ix3 b t q)) (fun q => res_main_v72 V (ix3 b t q)) j
      = entry (B := 8) (H := 16) (W := 16) (C := 768) 3 0x3D800000#32 x wc bc wl bl b (P / 16) (P % 16) k j := by
  have hS (q : Fin 2) := v545_3 V b t q ⟨4 * P + k, by omega⟩ ht
  have hL (q : Fin 4) := v546_3 V b t q ⟨4 * P + k, by omega⟩ ht
  have hA (q : Fin 8) := v72_3 V b t q ⟨4 * P + k, by omega⟩ ht
  rw [hx, hwc, hbc] at hS
  rw [hx, hwl, hbl] at hL
  exact row_level x wc bc wl bl b fx fw fb 3 0x3D800000#32 P k (4 * P + k.val) rfl _ _ rfl rfl hS hL hA j

/-- On equal arguments, with finite features and finite weights and biases of the scores, a row of the reference is the
    kernel's. -/
theorem rows_eq (m : (ℓ : Loc Cert.KernelIdeal.nD Cert.KernelIdeal.τ Cert.KernelIdeal.sig) → Buf (Elt Ideal) ℓ)
    (c : Dev Cert.KernelIdeal.nD)
    (h0 : (V (Proc.devRef .tc main_arg0) : FVec Ideal S8x128x128x96 .f32) = m (c.tc.loc Cert.KernelIdeal.main_arg0))
    (h1 : (V (Proc.devRef .tc main_arg1) : FVec Ideal S8x64x64x192 .f32) = m (c.tc.loc Cert.KernelIdeal.main_arg1))
    (h2 : (V (Proc.devRef .tc main_arg2) : FVec Ideal S8x32x32x384 .f32) = m (c.tc.loc Cert.KernelIdeal.main_arg2))
    (h3 : (V (Proc.devRef .tc main_arg3) : FVec Ideal S8x16x16x768 .f32) = m (c.tc.loc Cert.KernelIdeal.main_arg3))
    (h4 : (V (Proc.devRef .tc main_arg4) : FVec Ideal S3x3x96x8 .f32) = m (c.tc.loc Cert.KernelIdeal.main_arg4))
    (h5 : (V (Proc.devRef .tc main_arg5) : FVec Ideal S8 .f32) = m (c.tc.loc Cert.KernelIdeal.main_arg5))
    (h6 : (V (Proc.devRef .tc main_arg6) : FVec Ideal S3x3x96x16 .f32) = m (c.tc.loc Cert.KernelIdeal.main_arg6))
    (h7 : (V (Proc.devRef .tc main_arg7) : FVec Ideal S16 .f32) = m (c.tc.loc Cert.KernelIdeal.main_arg7))
    (h8 : (V (Proc.devRef .tc main_arg8) : FVec Ideal S3x3x192x8 .f32) = m (c.tc.loc Cert.KernelIdeal.main_arg8))
    (h9 : (V (Proc.devRef .tc main_arg9) : FVec Ideal S8 .f32) = m (c.tc.loc Cert.KernelIdeal.main_arg9))
    (h10 : (V (Proc.devRef .tc main_arg10) : FVec Ideal S3x3x192x16 .f32) = m (c.tc.loc Cert.KernelIdeal.main_arg10))
    (h11 : (V (Proc.devRef .tc main_arg11) : FVec Ideal S16 .f32) = m (c.tc.loc Cert.KernelIdeal.main_arg11))
    (h12 : (V (Proc.devRef .tc main_arg12) : FVec Ideal S3x3x384x8 .f32) = m (c.tc.loc Cert.KernelIdeal.main_arg12))
    (h13 : (V (Proc.devRef .tc main_arg13) : FVec Ideal S8 .f32) = m (c.tc.loc Cert.KernelIdeal.main_arg13))
    (h14 : (V (Proc.devRef .tc main_arg14) : FVec Ideal S3x3x384x16 .f32) = m (c.tc.loc Cert.KernelIdeal.main_arg14))
    (h15 : (V (Proc.devRef .tc main_arg15) : FVec Ideal S16 .f32) = m (c.tc.loc Cert.KernelIdeal.main_arg15))
    (h16 : (V (Proc.devRef .tc main_arg16) : FVec Ideal S3x3x768x8 .f32) = m (c.tc.loc Cert.KernelIdeal.main_arg16))
    (h17 : (V (Proc.devRef .tc main_arg17) : FVec Ideal S8 .f32) = m (c.tc.loc Cert.KernelIdeal.main_arg17))
    (h18 : (V (Proc.devRef .tc main_arg18) : FVec Ideal S3x3x768x16 .f32) = m (c.tc.loc Cert.KernelIdeal.main_arg18))
    (h19 : (V (Proc.devRef .tc main_arg19) : FVec Ideal S16 .f32) = m (c.tc.loc Cert.KernelIdeal.main_arg19))
    (hf : (∀ i, IsReal (m (c.tc.loc Cert.KernelIdeal.main_arg0) i))
      ∧ (∀ i, IsReal (m (c.tc.loc Cert.KernelIdeal.main_arg1) i))
      ∧ (∀ i, IsReal (m (c.tc.loc Cert.KernelIdeal.main_arg2) i))
      ∧ (∀ i, IsReal (m (c.tc.loc Cert.KernelIdeal.main_arg3) i))
      ∧ (∀ i, IsReal (m (c.tc.loc Cert.KernelIdeal.main_arg4) i))
      ∧ (∀ i, IsReal (m (c.tc.loc Cert.KernelIdeal.main_arg8) i))
      ∧ (∀ i, IsReal (m (c.tc.loc Cert.KernelIdeal.main_arg12) i))
      ∧ (∀ i, IsReal (m (c.tc.loc Cert.KernelIdeal.main_arg16) i))
      ∧ (∀ i, IsReal (m (c.tc.loc Cert.KernelIdeal.main_arg5) i))
      ∧ (∀ i, IsReal (m (c.tc.loc Cert.KernelIdeal.main_arg9) i))
      ∧ (∀ i, IsReal (m (c.tc.loc Cert.KernelIdeal.main_arg13) i))
      ∧ (∀ i, IsReal (m (c.tc.loc Cert.KernelIdeal.main_arg17) i)))
    (b : Fin 8) (t : Fin 87040) (j : Fin 14) :
    row (fun q => res_main_v545 V (ix3 b t q)) (fun q => res_main_v546 V (ix3 b t q)) (fun q => res_main_v72 V (ix3 b t q)) j
      = pixel m c b (t.val / 4) ⟨t.val % 4, Nat.mod_lt _ (by decide)⟩ j := by
  obtain ⟨f0, f1, f2, f3, f4, f8, f12, f16, f5, f9, f13, f17⟩ := hf
  unfold pixel
  by_cases p₀ : t.val / 4 < 16384
  · rw [if_pos p₀]
    exact same_0 V h0 h4 h5 h6 h7 f0 f4 f5 b t j (t.val / 4) p₀ ⟨t.val % 4, _⟩ (by dsimp only; omega)
  rw [if_neg p₀]
  by_cases p₁ : t.val / 4 < 20480
  · rw [if_pos p₁]
    exact same_1 V h1 h8 h9 h10 h11 f1 f8 f9 b t j (t.val / 4 - 16384) (by omega) ⟨t.val % 4, _⟩ (by dsimp only; omega)
  rw [if_neg p₁]
  by_cases p₂ : t.val / 4 < 21504
  · rw [if_pos p₂]
    exact same_2 V h2 h12 h13 h14 h15 f2 f12 f13 b t j (t.val / 4 - 20480) (by omega) ⟨t.val % 4, _⟩ (by dsimp only; omega)
  rw [if_neg p₂]
  exact same_3 V h3 h16 h17 h18 h19 f3 f16 f17 b t j (t.val / 4 - 21504) (by omega) ⟨t.val % 4, _⟩ (by dsimp only; omega)

end Cert.ReferenceIdeal.Own
-- ==== Proof.Own.Finite.lean ====
/- The precondition, read element by element, argument by argument. -/
module

public import proofs.«01_k».proof.Proof.Own.Reals
public import proofs.«01_k».proof.Defs
public import Idealize.ShloMosaic.Lib.ReduceAll
public import Idealize.ShloMosaic.Lib.Affine

@[expose] public section

set_option maxRecDepth 16384

noncomputable section

namespace Cert.ReferenceIdeal.Own

open Idealize.ShloMosaic Idealize.ShloMosaic.TcCoe

/-- The side conditions the precondition states. -/
theorem pre_facts : Cert.Pre_finite_scores.Facts := by
  constructor <;> decide

open Cert.Pre_finite_scores in
/-- One conjunct of the precondition: every element of the array is real. -/
theorem isReal_all {s : Shape} {axes : List (Fin s.rank)} (x : FVec Ideal s .f32) (hb : S_.BroadcastsInDim s ![]) (hr : s.ReducesTo axes S_)
    (hu : 0 < S_.numel) (j : S_.Idx) (e : Host.reduce IntOp.andi (cmpf .olt (Host.absf x) (broadcastInDim s ![] hb
      (constant S_ .f32 0x7F800000#32))) (constantI S_ 1 1#1) hr hu j = 1#1) (i : s.Idx) : IsReal (x i) := by
  haveI : Subsingleton S_.Idx := ⟨fun a b => funext fun k => k.elim0⟩
  exact isReal_of_below (Host.reduce_andi_all _ _ hr hu j e i)

variable [Cert.Pre_finite_scores.Facts] {m : (ℓ : Loc Cert.KernelIdeal.nD Cert.KernelIdeal.τ Cert.KernelIdeal.sig) → Buf (Elt Ideal) ℓ}

theorem finite_args (h : Cert.Pre_KernelIdeal_finite_scores m) (c : Dev Cert.KernelIdeal.nD) :
    (∀ i, IsReal (m (c.tc.loc Cert.KernelIdeal.main_arg0) i))
      ∧ (∀ i, IsReal (m (c.tc.loc Cert.KernelIdeal.main_arg1) i))
      ∧ (∀ i, IsReal (m (c.tc.loc Cert.KernelIdeal.main_arg2) i))
      ∧ (∀ i, IsReal (m (c.tc.loc Cert.KernelIdeal.main_arg3) i))
      ∧ (∀ i, IsReal (m (c.tc.loc Cert.KernelIdeal.main_arg4) i))
      ∧ (∀ i, IsReal (m (c.tc.loc Cert.KernelIdeal.main_arg8) i))
      ∧ (∀ i, IsReal (m (c.tc.loc Cert.KernelIdeal.main_arg12) i))
      ∧ (∀ i, IsReal (m (c.tc.loc Cert.KernelIdeal.main_arg16) i))
      ∧ (∀ i, IsReal (m (c.tc.loc Cert.KernelIdeal.main_arg5) i))
      ∧ (∀ i, IsReal (m (c.tc.loc Cert.KernelIdeal.main_arg9) i))
      ∧ (∀ i, IsReal (m (c.tc.loc Cert.KernelIdeal.main_arg13) i))
      ∧ (∀ i, IsReal (m (c.tc.loc Cert.KernelIdeal.main_arg17) i)) := by
  have e := congrFun (h c) (fun a => a.elim0)
  unfold Cert.Pre_finite_scores.fn Cert.Pre_finite_scores.fn_part1 Cert.Pre_finite_scores.fn_part2 Cert.Pre_finite_scores.fn_part3 at e
  have u {a b : IVec Cert.Pre_finite_scores.S_ 1} {j} (h : andi a b j = 1#1) : a j = 1#1 ∧ b j = 1#1 := IntOp.andi_eq_one.mp h
  have ⟨e, p11⟩ := u e
  have ⟨e, p10⟩ := u e
  have ⟨e, p9⟩ := u e
  have ⟨e, p8⟩ := u e
  have ⟨e, p7⟩ := u e
  have ⟨e, p6⟩ := u e
  have ⟨e, p5⟩ := u e
  have ⟨e, p4⟩ := u e
  have ⟨e, p3⟩ := u e
  have ⟨e, p2⟩ := u e
  have ⟨e, p1⟩ := u e
  have ⟨e, p0⟩ := u e
  exact ⟨isReal_all _ _ _ _ _ p0, isReal_all _ _ _ _ _ p1, isReal_all _ _ _ _ _ p2, isReal_all _ _ _ _ _ p3, isReal_all _ _ _ _ _ p4, isReal_all _ _ _ _ _ p5, isReal_all _ _ _ _ _ p6, isReal_all _ _ _ _ _ p7, isReal_all _ _ _ _ _ p8, isReal_all _ _ _ _ _ p9, isReal_all _ _ _ _ _ p10, isReal_all _ _ _ _ _ p11⟩

end Cert.ReferenceIdeal.Own
-- ==== Proof.Own.Value.lean ====
/- Over the reals, the kernel and the reference return the same. -/
module

public import proofs.«01_k».proof.Defs
public import proofs.«01_k».proof.Proof.Own.KernelRun
public import proofs.«01_k».proof.Proof.Own.RefOut
public import proofs.«01_k».proof.Proof.Own.Finite

@[expose] public section

set_option maxRecDepth 16384
set_option maxHeartbeats 20000000

noncomputable section

namespace Cert.ReferenceIdeal.Own

open Idealize.ShloMosaic Idealize.ShloMosaic.TcCoe Idealize.ShloMosaic.StableHlo Idealize.SL.Sem

theorem algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hp hagree
  refine ⟨fun c => Cert.KernelIdeal.Own.out m c, Cert.KernelIdeal.Own.run m g, ?_⟩
  refine (θ_run Cert.ReferenceIdeal.defs _ _).mono (fun r h c => ⟨(h c).1.trans ?_, (h c).2⟩)
    (Cert.ReferenceIdeal.Value.run (F := Ideal) m' g')
  have A := hagree c
  exact joined_rows (v553_eq (launchContents m' c)) _ _ (rows_eq (launchContents m' c) m c
    A.1 A.2.1 A.2.2.1 A.2.2.2.1 A.2.2.2.2.1 A.2.2.2.2.2.1 A.2.2.2.2.2.2.1 A.2.2.2.2.2.2.2.1 A.2.2.2.2.2.2.2.2.1
    A.2.2.2.2.2.2.2.2.2.1 A.2.2.2.2.2.2.2.2.2.2.1 A.2.2.2.2.2.2.2.2.2.2.2.1 A.2.2.2.2.2.2.2.2.2.2.2.2.1
    A.2.2.2.2.2.2.2.2.2.2.2.2.2.1 A.2.2.2.2.2.2.2.2.2.2.2.2.2.2.1 A.2.2.2.2.2.2.2.2.2.2.2.2.2.2.2.1
    A.2.2.2.2.2.2.2.2.2.2.2.2.2.2.2.2.1 A.2.2.2.2.2.2.2.2.2.2.2.2.2.2.2.2.2.1 A.2.2.2.2.2.2.2.2.2.2.2.2.2.2.2.2.2.2.1
    A.2.2.2.2.2.2.2.2.2.2.2.2.2.2.2.2.2.2.2
    (@finite_args pre_facts m hp c)) _

end Cert.ReferenceIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Own.KernelFrame
public import proofs.«01_k».proof.Proof.Own.Value
public import Idealize.ShloMosaic.Adequacy
public import Idealize.ShloMosaic.Init

@[expose] public section

noncomputable section

namespace Cert.Proof

open Idealize.ShloMosaic Idealize.SL.Sem Cert.Kernel

/-- The kernel runs to its end, leaves its arguments as they were and no semaphore raised. -/
theorem kernel_frame : Cert.quiescent_Kernel (hKernel := Cert.Kernel.Gen.facts) := fun m ρ _ =>
  Cert.Kernel.Own.frame m ρ

/-- The reference runs to its end, leaves its arguments as they were and no semaphore raised. -/
theorem reference_frame : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.ReferenceIdeal.Own.pre_facts,
  kernel_frame, fun m ρ _ => Cert.KernelIdeal.Own.frame m ρ, fun m ρ _ => Cert.KernelIdeal.Own.frame m ρ,
  reference_frame, fun m ρ _ => reference_frame m ρ trivial,
  trivial, Cert.ReferenceIdeal.Own.algebraic⟩

end Cert.Proof

end
